-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_NormQuant (m : (ℓ : Loc Cert.NormQuant.nD Cert.NormQuant.τ Cert.NormQuant.sig) → Buf (Elt Bits) ℓ) : Prop :=
  True

def Pre_NormQuantIdeal (m : (ℓ : Loc Cert.NormQuantIdeal.nD Cert.NormQuantIdeal.τ Cert.NormQuantIdeal.sig) → Buf (Elt Ideal) ℓ) : Prop :=
  True

def Pre_NormQuantRefIdeal (m : (ℓ : Loc Cert.NormQuantRefIdeal.nD Cert.NormQuantRefIdeal.τ Cert.NormQuantRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_NormQuant [hNormQuant : Cert.NormQuant.Facts] : Prop :=
  ∀ (m : (ℓ : Loc Cert.NormQuant.nD Cert.NormQuant.τ Cert.NormQuant.sig) → Buf (Elt Bits) ℓ) (g : Dev Cert.NormQuant.nD → PrngReg), Pre_NormQuant m →
    θ_run (Cert.NormQuant.defs (F := Bits)) (onTc (τ := Cert.NormQuant.τ) (Cert.NormQuant.main (F := Bits))) ⟨m, fun _ => 0, g⟩ (fun r => (∀ c : Dev Cert.NormQuant.nD,
      r.2.mem ((c.tc : Thread Cert.NormQuant.nD Cert.NormQuant.τ).loc Cert.NormQuant.main_arg0) = m ((c.tc : Thread Cert.NormQuant.nD Cert.NormQuant.τ).loc Cert.NormQuant.main_arg0)
      ∧ r.2.mem ((c.tc : Thread Cert.NormQuant.nD Cert.NormQuant.τ).loc Cert.NormQuant.main_arg1) = m ((c.tc : Thread Cert.NormQuant.nD Cert.NormQuant.τ).loc Cert.NormQuant.main_arg1))
      ∧ r.2.sem = fun _ => 0)

def quiescent_NormQuantIdeal [hNormQuantIdeal : Cert.NormQuantIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg), Pre_NormQuantIdeal m →
    θ_run (Cert.NormQuantIdeal.defs (F := Ideal)) (onTc (τ := Cert.NormQuantIdeal.τ) (Cert.NormQuantIdeal.main (F := Ideal))) ⟨m, fun _ => 0, g⟩ (fun r => (∀ c : Dev Cert.NormQuantIdeal.nD,
      r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
      ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1))
      ∧ r.2.sem = fun _ => 0)

def quiescent_NormQuantRefIdeal [hNormQuantRefIdeal : Cert.NormQuantRefIdeal.Facts] : Prop :=
  ∀ (m : (ℓ : Loc Cert.NormQuantRefIdeal.nD Cert.NormQuantRefIdeal.τ Cert.NormQuantRefIdeal.sig) → Buf (Elt Ideal) ℓ) (g : Dev Cert.NormQuantRefIdeal.nD → PrngReg), Pre_NormQuantRefIdeal m →
    θ_run (Cert.NormQuantRefIdeal.defs (F := Ideal)) (onTc (τ := Cert.NormQuantRefIdeal.τ) (Cert.NormQuantRefIdeal.main (F := Ideal))) ⟨m, fun _ => 0, g⟩ (fun r => (∀ c : Dev Cert.NormQuantRefIdeal.nD,
      r.2.mem ((c.tc : Thread Cert.NormQuantRefIdeal.nD Cert.NormQuantRefIdeal.τ).loc Cert.NormQuantRefIdeal.main_arg0) = m ((c.tc : Thread Cert.NormQuantRefIdeal.nD Cert.NormQuantRefIdeal.τ).loc Cert.NormQuantRefIdeal.main_arg0)
      ∧ r.2.mem ((c.tc : Thread Cert.NormQuantRefIdeal.nD Cert.NormQuantRefIdeal.τ).loc Cert.NormQuantRefIdeal.main_arg1) = m ((c.tc : Thread Cert.NormQuantRefIdeal.nD Cert.NormQuantRefIdeal.τ).loc Cert.NormQuantRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_v0_2) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_NormQuant_NormQuantIdeal : Prop :=
  True

def algebraic_NormQuantIdeal_NormQuantRefIdeal [hNormQuantIdeal : Cert.NormQuantIdeal.Facts] [hNormQuantRefIdeal : Cert.NormQuantRefIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg)
    (m' : (ℓ : Loc Cert.NormQuantRefIdeal.nD Cert.NormQuantRefIdeal.τ Cert.NormQuantRefIdeal.sig) → Buf (Elt Ideal) ℓ) (g' : Dev Cert.NormQuantRefIdeal.nD → PrngReg), Pre_NormQuantIdeal m →
    (∀ c : Dev Cert.NormQuantIdeal.nD,
      m' ((c.tc : Thread Cert.NormQuantRefIdeal.nD Cert.NormQuantRefIdeal.τ).loc Cert.NormQuantRefIdeal.main_arg0) = m ((c.tc : Thread Cert.NormQuantIdeal.nD Cert.NormQuantIdeal.τ).loc Cert.NormQuantIdeal.main_arg0)
      ∧ m' ((c.tc : Thread Cert.NormQuantRefIdeal.nD Cert.NormQuantRefIdeal.τ).loc Cert.NormQuantRefIdeal.main_arg1) = m ((c.tc : Thread Cert.NormQuantIdeal.nD Cert.NormQuantIdeal.τ).loc Cert.NormQuantIdeal.main_arg1)) →
    ∃ (v0 : (c : Dev Cert.NormQuantIdeal.nD) → Buf (Elt Ideal) ((c.tc : Thread Cert.NormQuantIdeal.nD Cert.NormQuantIdeal.τ).loc Cert.NormQuantIdeal.main_v1_0)) (v1 : (c : Dev Cert.NormQuantIdeal.nD) → Buf (Elt Ideal) ((c.tc : Thread Cert.NormQuantIdeal.nD Cert.NormQuantIdeal.τ).loc Cert.NormQuantIdeal.main_v1_1)) (v2 : (c : Dev Cert.NormQuantIdeal.nD) → Buf (Elt Ideal) ((c.tc : Thread Cert.NormQuantIdeal.nD Cert.NormQuantIdeal.τ).loc Cert.NormQuantIdeal.main_v1_2)),
      θ_run (Cert.NormQuantIdeal.defs (F := Ideal)) (onTc (τ := Cert.NormQuantIdeal.τ) (Cert.NormQuantIdeal.main (F := Ideal))) ⟨m, fun _ => 0, g⟩ (fun r => ∀ c : Dev Cert.NormQuantIdeal.nD,
          r.2.mem ((c.tc : Thread Cert.NormQuantIdeal.nD Cert.NormQuantIdeal.τ).loc Cert.NormQuantIdeal.main_v1_0) = v0 c
          ∧ r.2.mem ((c.tc : Thread Cert.NormQuantIdeal.nD Cert.NormQuantIdeal.τ).loc Cert.NormQuantIdeal.main_v1_1) = v1 c
          ∧ r.2.mem ((c.tc : Thread Cert.NormQuantIdeal.nD Cert.NormQuantIdeal.τ).loc Cert.NormQuantIdeal.main_v1_2) = v2 c
          ∧ r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
          ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1))
      ∧ θ_run (Cert.NormQuantRefIdeal.defs (F := Ideal)) (onTc (τ := Cert.NormQuantRefIdeal.τ) (Cert.NormQuantRefIdeal.main (F := Ideal))) ⟨m', fun _ => 0, g'⟩ (fun r => ∀ c : Dev Cert.NormQuantRefIdeal.nD,
          r.2.mem ((c.tc : Thread Cert.NormQuantRefIdeal.nD Cert.NormQuantRefIdeal.τ).loc Cert.NormQuantRefIdeal.main_v1_0) = v0 c
          ∧ r.2.mem ((c.tc : Thread Cert.NormQuantRefIdeal.nD Cert.NormQuantRefIdeal.τ).loc Cert.NormQuantRefIdeal.main_v1_1) = v1 c
          ∧ r.2.mem ((c.tc : Thread Cert.NormQuantRefIdeal.nD Cert.NormQuantRefIdeal.τ).loc Cert.NormQuantRefIdeal.main_v1_2) = v2 c
          ∧ r.2.mem ((c.tc : Thread Cert.NormQuantRefIdeal.nD Cert.NormQuantRefIdeal.τ).loc Cert.NormQuantRefIdeal.main_arg0) = m' ((c.tc : Thread Cert.NormQuantRefIdeal.nD Cert.NormQuantRefIdeal.τ).loc Cert.NormQuantRefIdeal.main_arg0)
          ∧ r.2.mem ((c.tc : Thread Cert.NormQuantRefIdeal.nD Cert.NormQuantRefIdeal.τ).loc Cert.NormQuantRefIdeal.main_arg1) = m' ((c.tc : Thread Cert.NormQuantRefIdeal.nD Cert.NormQuantRefIdeal.τ).loc Cert.NormQuantRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)) (v3 : (c : Dev Cert.OutProjIdeal.nD) → Buf (Elt Ideal) ((c.tc : Thread Cert.OutProjIdeal.nD Cert.OutProjIdeal.τ).loc Cert.OutProjIdeal.main_v1_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_v1_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1_0) = v0 c
          ∧ r.2.mem ((c.tc : Thread Cert.OutProjRefIdeal.nD Cert.OutProjRefIdeal.τ).loc Cert.OutProjRefIdeal.main_v1_1) = v1 c
          ∧ r.2.mem ((c.tc : Thread Cert.OutProjRefIdeal.nD Cert.OutProjRefIdeal.τ).loc Cert.OutProjRefIdeal.main_v1_2) = v2 c
          ∧ r.2.mem ((c.tc : Thread Cert.OutProjRefIdeal.nD Cert.OutProjRefIdeal.τ).loc Cert.OutProjRefIdeal.main_v1_3) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hNormQuant : Cert.NormQuant.Facts) (hNormQuantIdeal : Cert.NormQuantIdeal.Facts) (hNormQuantRefIdeal : Cert.NormQuantRefIdeal.Facts) (hOutProj : Cert.OutProj.Facts) (hOutProjIdeal : Cert.OutProjIdeal.Facts) (hOutProjRefIdeal : Cert.OutProjRefIdeal.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_NormQuant (hNormQuant := hNormQuant)
    ∧ quiescent_NormQuantIdeal (hNormQuantIdeal := hNormQuantIdeal)
    ∧ quiescent_NormQuantRefIdeal (hNormQuantRefIdeal := hNormQuantRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_NormQuant_NormQuantIdeal
    ∧ algebraic_NormQuantIdeal_NormQuantRefIdeal (hNormQuantIdeal := hNormQuantIdeal) (hNormQuantRefIdeal := hNormQuantRefIdeal)
    ∧ preserves_OutProj_OutProjIdeal
    ∧ algebraic_OutProjIdeal_OutProjRefIdeal (hOutProjIdeal := hOutProjIdeal) (hOutProjRefIdeal := hOutProjRefIdeal)
-- ==== Down.lean ====
abbrev S2048x4352 : Shape := ⟨2, ![2048, 4352]⟩
abbrev S4352x5120 : Shape := ⟨2, ![4352, 5120]⟩
abbrev S34x40 : Shape := ⟨2, ![34, 40]⟩
abbrev S2048x5120 : Shape := ⟨2, ![2048, 5120]⟩
abbrev S4352x512 : Shape := ⟨2, ![4352, 512]⟩
abbrev S2048x512 : Shape := ⟨2, ![2048, 512]⟩
abbrev S1x1 : Shape := ⟨2, ![1, 1]⟩
abbrev S128x128 : Shape := ⟨2, ![128, 128]⟩
abbrev S512x4352 : Shape := ⟨2, ![512, 4352]⟩
abbrev S512x512 : Shape := ⟨2, ![512, 512]⟩

abbrev nBuf : Space → Nat
  | .hbm => 5
  | .vmem => 8
  | .smem => 1
  | _ => 0

abbrev bufTy : (tb : Table) → Fin (tcTables nBuf tb) → BufTy
  | .hbm, ⟨0, _⟩ => ⟨S2048x4352, .bf16⟩
  | .hbm, ⟨1, _⟩ => ⟨S4352x5120, .fp8e4m3⟩
  | .hbm, ⟨2, _⟩ => ⟨S34x40, .f32⟩
  | .hbm, ⟨3, _⟩ => ⟨S2048x5120, .f32⟩
  | .hbm, ⟨4, _⟩ => ⟨S2048x5120, .bf16⟩
  | .local _ .vmem, ⟨0, _⟩ => ⟨S2048x4352, .bf16⟩
  | .local _ .vmem, ⟨1, _⟩ => ⟨S4352x512, .fp8e4m3⟩
  | .local _ .vmem, ⟨2, _⟩ => ⟨S4352x512, .fp8e4m3⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S4352x512, .bf16⟩
  | .local _ .smem, ⟨0, _⟩ => ⟨S34x40, .f32⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def k0_off1 (i : grid0.Coords) (c0_i32 : BitVec 32) : Fin 2 → Nat :=
  let c0 : Index := 0#32
  let c4_i32 : BitVec 32 := 4#32
  let arg0 : BitVec 32 := BitVec.ofNat 32 (i 0).val
  let v0 : BitVec 32 := Scalar.muli c4_i32 arg0
  let v1 : BitVec 32 := Scalar.addi v0 c0_i32
  let v2 : Index := Scalar.indexCast v1
  ![0, v2.toNat]
def k0_off2 (i : grid0.Coords) (c0_i32_16 : BitVec 32) : Fin 2 → Nat :=
  let c1 : Index := 1#32
  let c4_i32 : BitVec 32 := 4#32
  let arg0 : BitVec 32 := BitVec.ofNat 32 (i 0).val
  let v0 : BitVec 32 := Scalar.muli c4_i32 arg0
  let v45 : BitVec 32 := Scalar.addi v0 c0_i32_16
  let v46 : Index := Scalar.indexCast v45
  ![1, v46.toNat]
def k0_off3 (i : grid0.Coords) (c0_i32_39 : BitVec 32) : Fin 2 → Nat :=
  let c2 : Index := 2#32
  let c4_i32 : BitVec 32 := 4#32
  let arg0 : BitVec 32 := BitVec.ofNat 32 (i 0).val
  let v0 : BitVec 32 := Scalar.muli c4_i32 arg0
  let v89 : BitVec 32 := Scalar.addi v0 c0_i32_39
  let v90 : Index := Scalar.indexCast v89
  ![2, v90.toNat]
def k0_off4 (i : grid0.Coords) (c0_i32_62 : BitVec 32) : Fin 2 → Nat :=
  let c3 : Index := 3#32
  let c4_i32 : BitVec 32 := 4#32
  let arg0 : BitVec 32 := BitVec.ofNat 32 (i 0).val
  let v0 : BitVec 32 := Scalar.muli c4_i32 arg0
  let v133 : BitVec 32 := Scalar.addi v0 c0_i32_62
  let v134 : Index := Scalar.indexCast v133
  ![3, v134.toNat]
def k0_off5 (i : grid0.Coords) (c0_i32_85 : BitVec 32) : Fin 2 → Nat :=
  let c4 : Index := 4#32
  let c4_i32 : BitVec 32 := 4#32
  let arg0 : BitVec 32 := BitVec.ofNat 32 (i 0).val
  let v0 : BitVec 32 := Scalar.muli c4_i32 arg0
  let v177 : BitVec 32 := Scalar.addi v0 c0_i32_85
  let v178 : Index := Scalar.indexCast v177
  ![4, v178.toNat]
def k0_off6 (i : grid0.Coords) (c0_i32_107 : BitVec 32) : Fin 2 → Nat :=
  let c5 : Index := 5#32
  let c4_i32 : BitVec 32 := 4#32
  let arg0 : BitVec 32 := BitVec.ofNat 32 (i 0).val
  let v0 : BitVec 32 := Scalar.muli c4_i32 arg0
  let v221 : BitVec 32 := Scalar.addi v0 c0_i32_107
  let v222 : Index := Scalar.indexCast v221
  ![5, v222.toNat]
def k0_off7 (i : grid0.Coords) (c0_i32_129 : BitVec 32) : Fin 2 → Nat :=
  let c6 : Index := 6#32
  let c4_i32 : BitVec 32 := 4#32
  let arg0 : BitVec 32 := BitVec.ofNat 32 (i 0).val
  let v0 : BitVec 32 := Scalar.muli c4_i32 arg0
  let v265 : BitVec 32 := Scalar.addi v0 c0_i32_129
  let v266 : Index := Scalar.indexCast v265
  ![6, v266.toNat]
def k0_off8 (i : grid0.Coords) (c0_i32_151 : BitVec 32) : Fin 2 → Nat :=
  let c7 : Index := 7#32
  let c4_i32 : BitVec 32 := 4#32
  let arg0 : BitVec 32 := BitVec.ofNat 32 (i 0).val
  let v0 : BitVec 32 := Scalar.muli c4_i32 arg0
  let v309 : BitVec 32 := Scalar.addi v0 c0_i32_151
  let v310 : Index := Scalar.indexCast v309
  ![7, v310.toNat]
def k0_off9 (i : grid0.Coords) (c0_i32_173 : BitVec 32) : Fin 2 → Nat :=
  let c8 : Index := 8#32
  let c4_i32 : BitVec 32 := 4#32
  let arg0 : BitVec 32 := BitVec.ofNat 32 (i 0).val
  let v0 : BitVec 32 := Scalar.muli c4_i32 arg0
  let v353 : BitVec 32 := Scalar.addi v0 c0_i32_173
  let v354 : Index := Scalar.indexCast v353
  ![8, v354.toNat]
def k0_off10 (i : grid0.Coords) (c0_i32_195 : BitVec 32) : Fin 2 → Nat :=
  let c9 : Index := 9#32
  let c4_i32 : BitVec 32 := 4#32
  let arg0 : BitVec 32 := BitVec.ofNat 32 (i 0).val
  let v0 : BitVec 32 := Scalar.muli c4_i32 arg0
  let v397 : BitVec 32 := Scalar.addi v0 c0_i32_195
  let v398 : Index := Scalar.indexCast v397
  ![9, v398.toNat]
def k0_off11 (i : grid0.Coords) (c0_i32_217 : BitVec 32) : Fin 2 → Nat :=
  let c10 : Index := 10#32
  let c4_i32 : BitVec 32 := 4#32
  let arg0 : BitVec 32 := BitVec.ofNat 32 (i 0).val
  let v0 : BitVec 32 := Scalar.muli c4_i32 arg0
  let v441 : BitVec 32 := Scalar.addi v0 c0_i32_217
  let v442 : Index := Scalar.indexCast v441
  ![10, v442.toNat]
def k0_off12 (i : grid0.Coords) (c0_i32_239 : BitVec 32) : Fin 2 → Nat :=
  let c11 : Index := 11#32
  let c4_i32 : BitVec 32 := 4#32
  let arg0 : BitVec 32 := BitVec.ofNat 32 (i 0).val
  let v0 : BitVec 32 := Scalar.muli c4_i32 arg0
  let v485 : BitVec 32 := Scalar.addi v0 c0_i32_239
  let v486 : Index := Scalar.indexCast v485
  ![11, v486.toNat]
def k0_off13 (i : grid0.Coords) (c0_i32_261 : BitVec 32) : Fin 2 → Nat :=
  let c12 : Index := 12#32
  let c4_i32 : BitVec 32 := 4#32
  let arg0 : BitVec 32 := BitVec.ofNat 32 (i 0).val
  let v0 : BitVec 32 := Scalar.muli c4_i32 arg0
  let v529 : BitVec 32 := Scalar.addi v0 c0_i32_261
  let v530 : Index := Scalar.indexCast v529
  ![12, v530.toNat]
def k0_off14 (i : grid0.Coords) (c0_i32_283 : BitVec 32) : Fin 2 → Nat :=
  let c13 : Index := 13#32
  let c4_i32 : BitVec 32 := 4#32
  let arg0 : BitVec 32 := BitVec.ofNat 32 (i 0).val
  let v0 : BitVec 32 := Scalar.muli c4_i32 arg0
  let v573 : BitVec 32 := Scalar.addi v0 c0_i32_283
  let v574 : Index := Scalar.indexCast v573
  ![13, v574.toNat]
def k0_off15 (i : grid0.Coords) (c0_i32_305 : BitVec 32) : Fin 2 → Nat :=
  let c14 : Index := 14#32
  let c4_i32 : BitVec 32 := 4#32
  let arg0 : BitVec 32 := BitVec.ofNat 32 (i 0).val
  let v0 : BitVec 32 := Scalar.muli c4_i32 arg0
  let v617 : BitVec 32 := Scalar.addi v0 c0_i32_305
  let v618 : Index := Scalar.indexCast v617
  ![14, v618.toNat]
def k0_off16 (i : grid0.Coords) (c0_i32_327 : BitVec 32) : Fin 2 → Nat :=
  let c15 : Index := 15#32
  let c4_i32 : BitVec 32 := 4#32
  let arg0 : BitVec 32 := BitVec.ofNat 32 (i 0).val
  let v0 : BitVec 32 := Scalar.muli c4_i32 arg0
  let v661 : BitVec 32 := Scalar.addi v0 c0_i32_327
  let v662 : Index := Scalar.indexCast v661
  ![15, v662.toNat]
def k0_off17 (i : grid0.Coords) (c0_i32_349 : BitVec 32) : Fin 2 → Nat :=
  let c16 : Index := 16#32
  let c4_i32 : BitVec 32 := 4#32
  let arg0 : BitVec 32 := BitVec.ofNat 32 (i 0).val
  let v0 : BitVec 32 := Scalar.muli c4_i32 arg0
  let v705 : BitVec 32 := Scalar.addi v0 c0_i32_349
  let v706 : Index := Scalar.indexCast v705
  ![16, v706.toNat]
def k0_off18 (i : grid0.Coords) (c0_i32_371 : BitVec 32) : Fin 2 → Nat :=
  let c17 : Index := 17#32
  let c4_i32 : BitVec 32 := 4#32
  let arg0 : BitVec 32 := BitVec.ofNat 32 (i 0).val
  let v0 : BitVec 32 := Scalar.muli c4_i32 arg0
  let v749 : BitVec 32 := Scalar.addi v0 c0_i32_371
  let v750 : Index := Scalar.indexCast v749
  ![17, v750.toNat]
def k0_off19 (i : grid0.Coords) (c0_i32_393 : BitVec 32) : Fin 2 → Nat :=
  let c18 : Index := 18#32
  let c4_i32 : BitVec 32 := 4#32
  let arg0 : BitVec 32 := BitVec.ofNat 32 (i 0).val
  let v0 : BitVec 32 := Scalar.muli c4_i32 arg0
  let v793 : BitVec 32 := Scalar.addi v0 c0_i32_393
  let v794 : Index := Scalar.indexCast v793
  ![18, v794.toNat]
def k0_off20 (i : grid0.Coords) (c0_i32_415 : BitVec 32) : Fin 2 → Nat :=
  let c19 : Index := 19#32
  let c4_i32 : BitVec 32 := 4#32
  let arg0 : BitVec 32 := BitVec.ofNat 32 (i 0).val
  let v0 : BitVec 32 := Scalar.muli c4_i32 arg0
  let v837 : BitVec 32 := Scalar.addi v0 c0_i32_415
  let v838 : Index := Scalar.indexCast v837
  ![19, v838.toNat]
def k0_off21 (i : grid0.Coords) (c0_i32_437 : BitVec 32) : Fin 2 → Nat :=
  let c20 : Index := 20#32
  let c4_i32 : BitVec 32 := 4#32
  let arg0 : BitVec 32 := BitVec.ofNat 32 (i 0).val
  let v0 : BitVec 32 := Scalar.muli c4_i32 arg0
  let v881 : BitVec 32 := Scalar.addi v0 c0_i32_437
  let v882 : Index := Scalar.indexCast v881
  ![20, v882.toNat]
def k0_off22 (i : grid0.Coords) (c0_i32_459 : BitVec 32) : Fin 2 → Nat :=
  let c21 : Index := 21#32
  let c4_i32 : BitVec 32 := 4#32
  let arg0 : BitVec 32 := BitVec.ofNat 32 (i 0).val
  let v0 : BitVec 32 := Scalar.muli c4_i32 arg0
  let v925 : BitVec 32 := Scalar.addi v0 c0_i32_459
  let v926 : Index := Scalar.indexCast v925
  ![21, v926.toNat]
def k0_off23 (i : grid0.Coords) (c0_i32_481 : BitVec 32) : Fin 2 → Nat :=
  let c22 : Index := 22#32
  let c4_i32 : BitVec 32 := 4#32
  let arg0 : BitVec 32 := BitVec.ofNat 32 (i 0).val
  let v0 : BitVec 32 := Scalar.muli c4_i32 arg0
  let v969 : BitVec 32 := Scalar.addi v0 c0_i32_481
  let v970 : Index := Scalar.indexCast v969
  ![22, v970.toNat]
def k0_off24 (i : grid0.Coords) (c0_i32_503 : BitVec 32) : Fin 2 → Nat :=
  let c23 : Index := 23#32
  let c4_i32 : BitVec 32 := 4#32
  let arg0 : BitVec 32 := BitVec.ofNat 32 (i 0).val
  let v0 : BitVec 32 := Scalar.muli c4_i32 arg0
  let v1013 : BitVec 32 := Scalar.addi v0 c0_i32_503
  let v1014 : Index := Scalar.indexCast v1013
  ![23, v1014.toNat]
def k0_off25 (i : grid0.Coords) (c0_i32_525 : BitVec 32) : Fin 2 → Nat :=
  let c24 : Index := 24#32
  let c4_i32 : BitVec 32 := 4#32
  let arg0 : BitVec 32 := BitVec.ofNat 32 (i 0).val
  let v0 : BitVec 32 := Scalar.muli c4_i32 arg0
  let v1057 : BitVec 32 := Scalar.addi v0 c0_i32_525
  let v1058 : Index := Scalar.indexCast v1057
  ![24, v1058.toNat]
def k0_off26 (i : grid0.Coords) (c0_i32_547 : BitVec 32) : Fin 2 → Nat :=
  let c25 : Index := 25#32
  let c4_i32 : BitVec 32 := 4#32
  let arg0 : BitVec 32 := BitVec.ofNat 32 (i 0).val
  let v0 : BitVec 32 := Scalar.muli c4_i32 arg0
  let v1101 : BitVec 32 := Scalar.addi v0 c0_i32_547
  let v1102 : Index := Scalar.indexCast v1101
  ![25, v1102.toNat]
def k0_off27 (i : grid0.Coords) (c0_i32_569 : BitVec 32) : Fin 2 → Nat :=
  let c26 : Index := 26#32
  let c4_i32 : BitVec 32 := 4#32
  let arg0 : BitVec 32 := BitVec.ofNat 32 (i 0).val
  let v0 : BitVec 32 := Scalar.muli c4_i32 arg0
  let v1145 : BitVec 32 := Scalar.addi v0 c0_i32_569
  let v1146 : Index := Scalar.indexCast v1145
  ![26, v1146.toNat]
def k0_off28 (i : grid0.Coords) (c0_i32_591 : BitVec 32) : Fin 2 → Nat :=
  let c27 : Index := 27#32
  let c4_i32 : BitVec 32 := 4#32
  let arg0 : BitVec 32 := BitVec.ofNat 32 (i 0).val
  let v0 : BitVec 32 := Scalar.muli c4_i32 arg0
  let v1189 : BitVec 32 := Scalar.addi v0 c0_i32_591
  let v1190 : Index := Scalar.indexCast v1189
  ![27, v1190.toNat]
def k0_off29 (i : grid0.Coords) (c0_i32_613 : BitVec 32) : Fin 2 → Nat :=
  let c28 : Index := 28#32
  let c4_i32 : BitVec 32 := 4#32
  let arg0 : BitVec 32 := BitVec.ofNat 32 (i 0).val
  let v0 : BitVec 32 := Scalar.muli c4_i32 arg0
  let v1233 : BitVec 32 := Scalar.addi v0 c0_i32_613
  let v1234 : Index := Scalar.indexCast v1233
  ![28, v1234.toNat]
def k0_off30 (i : grid0.Coords) (c0_i32_635 : BitVec 32) : Fin 2 → Nat :=
  let c29 : Index := 29#32
  let c4_i32 : BitVec 32 := 4#32
  let arg0 : BitVec 32 := BitVec.ofNat 32 (i 0).val
  let v0 : BitVec 32 := Scalar.muli c4_i32 arg0
  let v1277 : BitVec 32 := Scalar.addi v0 c0_i32_635
  let v1278 : Index := Scalar.indexCast v1277
  ![29, v1278.toNat]
def k0_off31 (i : grid0.Coords) (c0_i32_657 : BitVec 32) : Fin 2 → Nat :=
  let c30 : Index := 30#32
  let c4_i32 : BitVec 32 := 4#32
  let arg0 : BitVec 32 := BitVec.ofNat 32 (i 0).val
  let v0 : BitVec 32 := Scalar.muli c4_i32 arg0
  let v1321 : BitVec 32 := Scalar.addi v0 c0_i32_657
  let v1322 : Index := Scalar.indexCast v1321
  ![30, v1322.toNat]
def k0_off32 (i : grid0.Coords) (c0_i32_679 : BitVec 32) : Fin 2 → Nat :=
  let c31 : Index := 31#32
  let c4_i32 : BitVec 32 := 4#32
  let arg0 : BitVec 32 := BitVec.ofNat 32 (i 0).val
  let v0 : BitVec 32 := Scalar.muli c4_i32 arg0
  let v1365 : BitVec 32 := Scalar.addi v0 c0_i32_679
  let v1366 : Index := Scalar.indexCast v1365
  ![31, v1366.toNat]
def k0_off33 (i : grid0.Coords) (c0_i32_701 : BitVec 32) : Fin 2 → Nat :=
  let c32 : Index := 32#32
  let c4_i32 : BitVec 32 := 4#32
  let arg0 : BitVec 32 := BitVec.ofNat 32 (i 0).val
  let v0 : BitVec 32 := Scalar.muli c4_i32 arg0
  let v1409 : BitVec 32 := Scalar.addi v0 c0_i32_701
  let v1410 : Index := Scalar.indexCast v1409
  ![32, v1410.toNat]
def k0_off34 (i : grid0.Coords) (c0_i32_723 : BitVec 32) : Fin 2 → Nat :=
  let c33 : Index := 33#32
  let c4_i32 : BitVec 32 := 4#32
  let arg0 : BitVec 32 := BitVec.ofNat 32 (i 0).val
  let v0 : BitVec 32 := Scalar.muli c4_i32 arg0
  let v1453 : BitVec 32 := Scalar.addi v0 c0_i32_723
  let v1454 : Index := Scalar.indexCast v1453
  ![33, v1454.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4352x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S34x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S2048x4352 : Shape := ⟨2, ![2048, 4352]⟩
abbrev S4352x5120 : Shape := ⟨2, ![4352, 5120]⟩
abbrev S34x40 : Shape := ⟨2, ![34, 40]⟩
abbrev S2048x5120 : Shape := ⟨2, ![2048, 5120]⟩
abbrev S34x128x40x128 : Shape := ⟨4, ![34, 128, 40, 128]⟩
abbrev S34x1x40x1 : Shape := ⟨4, ![34, 1, 40, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x4352, .bf16⟩
  | .hbm, ⟨1, _⟩ => ⟨S4352x5120, .fp8e4m3⟩
  | .hbm, ⟨2, _⟩ => ⟨S34x40, .f32⟩
  | .hbm, ⟨3, _⟩ => ⟨S2048x5120, .f32⟩
  | .hbm, ⟨4, _⟩ => ⟨S2048x5120, .bf16⟩
  | .local _ .vmem, ⟨0, _⟩ => ⟨S2048x4352, .bf16⟩
  | .local _ .vmem, ⟨1, _⟩ => ⟨S4352x5120, .fp8e4m3⟩
  | .local _ .vmem, ⟨2, _⟩ => ⟨S34x40, .f32⟩
  | .local _ .vmem, ⟨3, _⟩ => ⟨S2048x5120, .f32⟩
  | .local _ .vmem, ⟨4, _⟩ => ⟨S2048x5120, .bf16⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4352x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S34x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S2048x5120 : Shape := ⟨2, ![2048, 5120]⟩
abbrev S5120x8704 : Shape := ⟨2, ![5120, 8704]⟩
abbrev S40x68 : Shape := ⟨2, ![40, 68]⟩
abbrev S2048x4352 : Shape := ⟨2, ![2048, 4352]⟩
abbrev S17x2048x2 : Shape := ⟨3, ![17, 2048, 2]⟩
abbrev S5120x256 : Shape := ⟨2, ![5120, 256]⟩
abbrev S2048x256 : Shape := ⟨2, ![2048, 256]⟩
abbrev S1x2048x2 : Shape := ⟨3, ![1, 2048, 2]⟩
abbrev S1x1 : Shape := ⟨2, ![1, 1]⟩
abbrev S128x128 : Shape := ⟨2, ![128, 128]⟩
abbrev S512x5120 : Shape := ⟨2, ![512, 5120]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 6
  | .vmem => 13
  | .smem => 1
  | _ => 0

abbrev bufTy : (tb : Table) → Fin (tcTables nBuf tb) → BufTy
  | .hbm, ⟨0, _⟩ => ⟨S2048x5120, .bf16⟩
  | .hbm, ⟨1, _⟩ => ⟨S5120x8704, .fp8e4m3⟩
  | .hbm, ⟨2, _⟩ => ⟨S40x68, .f32⟩
  | .hbm, ⟨3, _⟩ => ⟨S2048x4352, .fp8e4m3⟩
  | .hbm, ⟨4, _⟩ => ⟨S17x2048x2, .f32⟩
  | .hbm, ⟨5, _⟩ => ⟨S2048x4352, .bf16⟩
  | .local _ .vmem, ⟨0, _⟩ => ⟨S2048x5120, .bf16⟩
  | .local _ .vmem, ⟨1, _⟩ => ⟨S5120x256, .fp8e4m3⟩
  | .local _ .vmem, ⟨2, _⟩ => ⟨S5120x256, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S2048x256, .fp8e4m3⟩
  | .local _ .vmem, ⟨6, _⟩ => ⟨S2048x256, .fp8e4m3⟩
  | .local _ .vmem, ⟨7, _⟩ => ⟨S1x2048x2, .f32⟩
  | .local _ .vmem, ⟨8, _⟩ => ⟨S1x2048x2, .f32⟩
  | .local _ .vmem, ⟨9, _⟩ => ⟨S2048x256, .bf16⟩
  | .local _ .vmem, ⟨10, _⟩ => ⟨S2048x256, .bf16⟩
  | .local _ .vmem, ⟨11, _⟩ => ⟨S5120x256, .bf16⟩
  | .local _ .vmem, ⟨12, _⟩ => ⟨S5120x256, .bf16⟩
  | .local _ .smem, ⟨0, _⟩ => ⟨S40x68, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![17], ![false]⟩

def k0_off1 (i : grid0.Coords) (c0_i32 : BitVec 32) : Fin 2 → Nat :=
  let c0 : Index := 0#32
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let c2_i32 : BitVec 32 := 2#32
  let arg0 : BitVec 32 := BitVec.ofNat 32 (i 0).val
  let v0 : BitVec 32 := Scalar.muli c2_i32 arg0
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let c2_i32 : BitVec 32 := 2#32
  let arg0 : BitVec 32 := BitVec.ofNat 32 (i 0).val
  let v0 : BitVec 32 := Scalar.muli c2_i32 arg0
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let c2_i32 : BitVec 32 := 2#32
  let arg0 : BitVec 32 := BitVec.ofNat 32 (i 0).val
  let v0 : BitVec 32 := Scalar.muli c2_i32 arg0
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let c2_i32 : BitVec 32 := 2#32
  let arg0 : BitVec 32 := BitVec.ofNat 32 (i 0).val
  let v0 : BitVec 32 := Scalar.muli c2_i32 arg0
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let c2_i32 : BitVec 32 := 2#32
  let arg0 : BitVec 32 := BitVec.ofNat 32 (i 0).val
  let v0 : BitVec 32 := Scalar.muli c2_i32 arg0
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let c2_i32 : BitVec 32 := 2#32
  let arg0 : BitVec 32 := BitVec.ofNat 32 (i 0).val
  let v0 : BitVec 32 := Scalar.muli c2_i32 arg0
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let c2_i32 : BitVec 32 := 2#32
  let arg0 : BitVec 32 := BitVec.ofNat 32 (i 0).val
  let v0 : BitVec 32 := Scalar.muli c2_i32 arg0
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let c2_i32 : BitVec 32 := 2#32
  let arg0 : BitVec 32 := BitVec.ofNat 32 (i 0).val
  let v0 : BitVec 32 := Scalar.muli c2_i32 arg0
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let c2_i32 : BitVec 32 := 2#32
  let arg0 : BitVec 32 := BitVec.ofNat 32 (i 0).val
  let v0 : BitVec 32 := Scalar.muli c2_i32 arg0
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let c2_i32 : BitVec 32 := 2#32
  let arg0 : BitVec 32 := BitVec.ofNat 32 (i 0).val
  let v0 : BitVec 32 := Scalar.muli c2_i32 arg0
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let c2_i32 : BitVec 32 := 2#32
  let arg0 : BitVec 32 := BitVec.ofNat 32 (i 0).val
  let v0 : BitVec 32 := Scalar.muli c2_i32 arg0
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let c2_i32 : BitVec 32 := 2#32
  let arg0 : BitVec 32 := BitVec.ofNat 32 (i 0).val
  let v0 : BitVec 32 := Scalar.muli c2_i32 arg0
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let c2_i32 : BitVec 32 := 2#32
  let arg0 : BitVec 32 := BitVec.ofNat 32 (i 0).val
  let v0 : BitVec 32 := Scalar.muli c2_i32 arg0
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let c2_i32 : BitVec 32 := 2#32
  let arg0 : BitVec 32 := BitVec.ofNat 32 (i 0).val
  let v0 : BitVec 32 := Scalar.muli c2_i32 arg0
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let c2_i32 : BitVec 32 := 2#32
  let arg0 : BitVec 32 := BitVec.ofNat 32 (i 0).val
  let v0 : BitVec 32 := Scalar.muli c2_i32 arg0
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let c2_i32 : BitVec 32 := 2#32
  let arg0 : BitVec 32 := BitVec.ofNat 32 (i 0).val
  let v0 : BitVec 32 := Scalar.muli c2_i32 arg0
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let c2_i32 : BitVec 32 := 2#32
  let arg0 : BitVec 32 := BitVec.ofNat 32 (i 0).val
  let v0 : BitVec 32 := Scalar.muli c2_i32 arg0
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let c2_i32 : BitVec 32 := 2#32
  let arg0 : BitVec 32 := BitVec.ofNat 32 (i 0).val
  let v0 : BitVec 32 := Scalar.muli c2_i32 arg0
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let c2_i32 : BitVec 32 := 2#32
  let arg0 : BitVec 32 := BitVec.ofNat 32 (i 0).val
  let v0 : BitVec 32 := Scalar.muli c2_i32 arg0
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let c2_i32 : BitVec 32 := 2#32
  let arg0 : BitVec 32 := BitVec.ofNat 32 (i 0).val
  let v0 : BitVec 32 := Scalar.muli c2_i32 arg0
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let c2_i32 : BitVec 32 := 2#32
  let arg0 : BitVec 32 := BitVec.ofNat 32 (i 0).val
  let v0 : BitVec 32 := Scalar.muli c2_i32 arg0
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let c2_i32 : BitVec 32 := 2#32
  let arg0 : BitVec 32 := BitVec.ofNat 32 (i 0).val
  let v0 : BitVec 32 := Scalar.muli c2_i32 arg0
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let c2_i32 : BitVec 32 := 2#32
  let arg0 : BitVec 32 := BitVec.ofNat 32 (i 0).val
  let v0 : BitVec 32 := Scalar.muli c2_i32 arg0
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let c2_i32 : BitVec 32 := 2#32
  let arg0 : BitVec 32 := BitVec.ofNat 32 (i 0).val
  let v0 : BitVec 32 := Scalar.muli c2_i32 arg0
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let c2_i32 : BitVec 32 := 2#32
  let arg0 : BitVec 32 := BitVec.ofNat 32 (i 0).val
  let v0 : BitVec 32 := Scalar.muli c2_i32 arg0
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let c2_i32 : BitVec 32 := 2#32
  let arg0 : BitVec 32 := BitVec.ofNat 32 (i 0).val
  let v0 : BitVec 32 := Scalar.muli c2_i32 arg0
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let c2_i32 : BitVec 32 := 2#32
  let arg0 : BitVec 32 := BitVec.ofNat 32 (i 0).val
  let v0 : BitVec 32 := Scalar.muli c2_i32 arg0
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let c2_i32 : BitVec 32 := 2#32
  let arg0 : BitVec 32 := BitVec.ofNat 32 (i 0).val
  let v0 : BitVec 32 := Scalar.muli c2_i32 arg0
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let c2_i32 : BitVec 32 := 2#32
  let arg0 : BitVec 32 := BitVec.ofNat 32 (i 0).val
  let v0 : BitVec 32 := Scalar.muli c2_i32 arg0
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let c2_i32 : BitVec 32 := 2#32
  let arg0 : BitVec 32 := BitVec.ofNat 32 (i 0).val
  let v0 : BitVec 32 := Scalar.muli c2_i32 arg0
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let c2_i32 : BitVec 32 := 2#32
  let arg0 : BitVec 32 := BitVec.ofNat 32 (i 0).val
  let v0 : BitVec 32 := Scalar.muli c2_i32 arg0
  let v683 : BitVec 32 := Scalar.addi v0 c0_i32_309
  let v684 : Index := Scalar.indexCast v683
  ![31, v684.toNat]
def k0_off33 (i : grid0.Coords) (c0_i32_319 : BitVec 32) : Fin 2 → Nat :=
  let c32 : Index := 32#32
  let c2_i32 : BitVec 32 := 2#32
  let arg0 : BitVec 32 := BitVec.ofNat 32 (i 0).val
  let v0 : BitVec 32 := Scalar.muli c2_i32 arg0
  let v705 : BitVec 32 := Scalar.addi v0 c0_i32_319
  let v706 : Index := Scalar.indexCast v705
  ![32, v706.toNat]
def k0_off34 (i : grid0.Coords) (c0_i32_329 : BitVec 32) : Fin 2 → Nat :=
  let c33 : Index := 33#32
  let c2_i32 : BitVec 32 := 2#32
  let arg0 : BitVec 32 := BitVec.ofNat 32 (i 0).val
  let v0 : BitVec 32 := Scalar.muli c2_i32 arg0
  let v727 : BitVec 32 := Scalar.addi v0 c0_i32_329
  let v728 : Index := Scalar.indexCast v727
  ![33, v728.toNat]
def k0_off35 (i : grid0.Coords) (c0_i32_339 : BitVec 32) : Fin 2 → Nat :=
  let c34 : Index := 34#32
  let c2_i32 : BitVec 32 := 2#32
  let arg0 : BitVec 32 := BitVec.ofNat 32 (i 0).val
  let v0 : BitVec 32 := Scalar.muli c2_i32 arg0
  let v749 : BitVec 32 := Scalar.addi v0 c0_i32_339
  let v750 : Index := Scalar.indexCast v749
  ![34, v750.toNat]
def k0_off36 (i : grid0.Coords) (c0_i32_349 : BitVec 32) : Fin 2 → Nat :=
  let c35 : Index := 35#32
  let c2_i32 : BitVec 32 := 2#32
  let arg0 : BitVec 32 := BitVec.ofNat 32 (i 0).val
  let v0 : BitVec 32 := Scalar.muli c2_i32 arg0
  let v771 : BitVec 32 := Scalar.addi v0 c0_i32_349
  let v772 : Index := Scalar.indexCast v771
  ![35, v772.toNat]
def k0_off37 (i : grid0.Coords) (c0_i32_359 : BitVec 32) : Fin 2 → Nat :=
  let c36 : Index := 36#32
  let c2_i32 : BitVec 32 := 2#32
  let arg0 : BitVec 32 := BitVec.ofNat 32 (i 0).val
  let v0 : BitVec 32 := Scalar.muli c2_i32 arg0
  let v793 : BitVec 32 := Scalar.addi v0 c0_i32_359
  let v794 : Index := Scalar.indexCast v793
  ![36, v794.toNat]
def k0_off38 (i : grid0.Coords) (c0_i32_369 : BitVec 32) : Fin 2 → Nat :=
  let c37 : Index := 37#32
  let c2_i32 : BitVec 32 := 2#32
  let arg0 : BitVec 32 := BitVec.ofNat 32 (i 0).val
  let v0 : BitVec 32 := Scalar.muli c2_i32 arg0
  let v815 : BitVec 32 := Scalar.addi v0 c0_i32_369
  let v816 : Index := Scalar.indexCast v815
  ![37, v816.toNat]
def k0_off39 (i : grid0.Coords) (c0_i32_379 : BitVec 32) : Fin 2 → Nat :=
  let c38 : Index := 38#32
  let c2_i32 : BitVec 32 := 2#32
  let arg0 : BitVec 32 := BitVec.ofNat 32 (i 0).val
  let v0 : BitVec 32 := Scalar.muli c2_i32 arg0
  let v837 : BitVec 32 := Scalar.addi v0 c0_i32_379
  let v838 : Index := Scalar.indexCast v837
  ![38, v838.toNat]
def k0_off40 (i : grid0.Coords) (c0_i32_389 : BitVec 32) : Fin 2 → Nat :=
  let c39 : Index := 39#32
  let c2_i32 : BitVec 32 := 2#32
  let arg0 : BitVec 32 := BitVec.ofNat 32 (i 0).val
  let v0 : BitVec 32 := Scalar.muli c2_i32 arg0
  let v859 : BitVec 32 := Scalar.addi v0 c0_i32_389
  let v860 : Index := Scalar.indexCast v859
  ![39, v860.toNat]
def k0_off41 (i : grid0.Coords) (c0_i32_400 : BitVec 32) : Fin 2 → Nat :=
  let c0_401 : Index := 0#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v883 : BitVec 32 := Scalar.addi v882 c0_i32_400
  let v884 : Index := Scalar.indexCast v883
  ![0, v884.toNat]
def k0_off42 (i : grid0.Coords) (c0_i32_412 : BitVec 32) : Fin 2 → Nat :=
  let c1_413 : Index := 1#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v905 : BitVec 32 := Scalar.addi v882 c0_i32_412
  let v906 : Index := Scalar.indexCast v905
  ![1, v906.toNat]
def k0_off43 (i : grid0.Coords) (c0_i32_424 : BitVec 32) : Fin 2 → Nat :=
  let c2_425 : Index := 2#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v927 : BitVec 32 := Scalar.addi v882 c0_i32_424
  let v928 : Index := Scalar.indexCast v927
  ![2, v928.toNat]
def k0_off44 (i : grid0.Coords) (c0_i32_436 : BitVec 32) : Fin 2 → Nat :=
  let c3_437 : Index := 3#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v949 : BitVec 32 := Scalar.addi v882 c0_i32_436
  let v950 : Index := Scalar.indexCast v949
  ![3, v950.toNat]
def k0_off45 (i : grid0.Coords) (c0_i32_448 : BitVec 32) : Fin 2 → Nat :=
  let c4_449 : Index := 4#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v971 : BitVec 32 := Scalar.addi v882 c0_i32_448
  let v972 : Index := Scalar.indexCast v971
  ![4, v972.toNat]
def k0_off46 (i : grid0.Coords) (c0_i32_460 : BitVec 32) : Fin 2 → Nat :=
  let c5_461 : Index := 5#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v993 : BitVec 32 := Scalar.addi v882 c0_i32_460
  let v994 : Index := Scalar.indexCast v993
  ![5, v994.toNat]
def k0_off47 (i : grid0.Coords) (c0_i32_472 : BitVec 32) : Fin 2 → Nat :=
  let c6_473 : Index := 6#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1015 : BitVec 32 := Scalar.addi v882 c0_i32_472
  let v1016 : Index := Scalar.indexCast v1015
  ![6, v1016.toNat]
def k0_off48 (i : grid0.Coords) (c0_i32_484 : BitVec 32) : Fin 2 → Nat :=
  let c7_485 : Index := 7#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1037 : BitVec 32 := Scalar.addi v882 c0_i32_484
  let v1038 : Index := Scalar.indexCast v1037
  ![7, v1038.toNat]
def k0_off49 (i : grid0.Coords) (c0_i32_496 : BitVec 32) : Fin 2 → Nat :=
  let c8_497 : Index := 8#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1059 : BitVec 32 := Scalar.addi v882 c0_i32_496
  let v1060 : Index := Scalar.indexCast v1059
  ![8, v1060.toNat]
def k0_off50 (i : grid0.Coords) (c0_i32_508 : BitVec 32) : Fin 2 → Nat :=
  let c9_509 : Index := 9#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1081 : BitVec 32 := Scalar.addi v882 c0_i32_508
  let v1082 : Index := Scalar.indexCast v1081
  ![9, v1082.toNat]
def k0_off51 (i : grid0.Coords) (c0_i32_520 : BitVec 32) : Fin 2 → Nat :=
  let c10_521 : Index := 10#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1103 : BitVec 32 := Scalar.addi v882 c0_i32_520
  let v1104 : Index := Scalar.indexCast v1103
  ![10, v1104.toNat]
def k0_off52 (i : grid0.Coords) (c0_i32_532 : BitVec 32) : Fin 2 → Nat :=
  let c11_533 : Index := 11#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1125 : BitVec 32 := Scalar.addi v882 c0_i32_532
  let v1126 : Index := Scalar.indexCast v1125
  ![11, v1126.toNat]
def k0_off53 (i : grid0.Coords) (c0_i32_544 : BitVec 32) : Fin 2 → Nat :=
  let c12_545 : Index := 12#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1147 : BitVec 32 := Scalar.addi v882 c0_i32_544
  let v1148 : Index := Scalar.indexCast v1147
  ![12, v1148.toNat]
def k0_off54 (i : grid0.Coords) (c0_i32_556 : BitVec 32) : Fin 2 → Nat :=
  let c13_557 : Index := 13#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1169 : BitVec 32 := Scalar.addi v882 c0_i32_556
  let v1170 : Index := Scalar.indexCast v1169
  ![13, v1170.toNat]
def k0_off55 (i : grid0.Coords) (c0_i32_568 : BitVec 32) : Fin 2 → Nat :=
  let c14_569 : Index := 14#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1191 : BitVec 32 := Scalar.addi v882 c0_i32_568
  let v1192 : Index := Scalar.indexCast v1191
  ![14, v1192.toNat]
def k0_off56 (i : grid0.Coords) (c0_i32_580 : BitVec 32) : Fin 2 → Nat :=
  let c15_581 : Index := 15#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1213 : BitVec 32 := Scalar.addi v882 c0_i32_580
  let v1214 : Index := Scalar.indexCast v1213
  ![15, v1214.toNat]
def k0_off57 (i : grid0.Coords) (c0_i32_592 : BitVec 32) : Fin 2 → Nat :=
  let c16_593 : Index := 16#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1235 : BitVec 32 := Scalar.addi v882 c0_i32_592
  let v1236 : Index := Scalar.indexCast v1235
  ![16, v1236.toNat]
def k0_off58 (i : grid0.Coords) (c0_i32_604 : BitVec 32) : Fin 2 → Nat :=
  let c17_605 : Index := 17#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1257 : BitVec 32 := Scalar.addi v882 c0_i32_604
  let v1258 : Index := Scalar.indexCast v1257
  ![17, v1258.toNat]
def k0_off59 (i : grid0.Coords) (c0_i32_616 : BitVec 32) : Fin 2 → Nat :=
  let c18_617 : Index := 18#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1279 : BitVec 32 := Scalar.addi v882 c0_i32_616
  let v1280 : Index := Scalar.indexCast v1279
  ![18, v1280.toNat]
def k0_off60 (i : grid0.Coords) (c0_i32_628 : BitVec 32) : Fin 2 → Nat :=
  let c19_629 : Index := 19#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1301 : BitVec 32 := Scalar.addi v882 c0_i32_628
  let v1302 : Index := Scalar.indexCast v1301
  ![19, v1302.toNat]
def k0_off61 (i : grid0.Coords) (c0_i32_640 : BitVec 32) : Fin 2 → Nat :=
  let c20_641 : Index := 20#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1323 : BitVec 32 := Scalar.addi v882 c0_i32_640
  let v1324 : Index := Scalar.indexCast v1323
  ![20, v1324.toNat]
def k0_off62 (i : grid0.Coords) (c0_i32_652 : BitVec 32) : Fin 2 → Nat :=
  let c21_653 : Index := 21#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1345 : BitVec 32 := Scalar.addi v882 c0_i32_652
  let v1346 : Index := Scalar.indexCast v1345
  ![21, v1346.toNat]
def k0_off63 (i : grid0.Coords) (c0_i32_664 : BitVec 32) : Fin 2 → Nat :=
  let c22_665 : Index := 22#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1367 : BitVec 32 := Scalar.addi v882 c0_i32_664
  let v1368 : Index := Scalar.indexCast v1367
  ![22, v1368.toNat]
def k0_off64 (i : grid0.Coords) (c0_i32_676 : BitVec 32) : Fin 2 → Nat :=
  let c23_677 : Index := 23#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1389 : BitVec 32 := Scalar.addi v882 c0_i32_676
  let v1390 : Index := Scalar.indexCast v1389
  ![23, v1390.toNat]
def k0_off65 (i : grid0.Coords) (c0_i32_688 : BitVec 32) : Fin 2 → Nat :=
  let c24_689 : Index := 24#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1411 : BitVec 32 := Scalar.addi v882 c0_i32_688
  let v1412 : Index := Scalar.indexCast v1411
  ![24, v1412.toNat]
def k0_off66 (i : grid0.Coords) (c0_i32_700 : BitVec 32) : Fin 2 → Nat :=
  let c25_701 : Index := 25#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1433 : BitVec 32 := Scalar.addi v882 c0_i32_700
  let v1434 : Index := Scalar.indexCast v1433
  ![25, v1434.toNat]
def k0_off67 (i : grid0.Coords) (c0_i32_712 : BitVec 32) : Fin 2 → Nat :=
  let c26_713 : Index := 26#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1455 : BitVec 32 := Scalar.addi v882 c0_i32_712
  let v1456 : Index := Scalar.indexCast v1455
  ![26, v1456.toNat]
def k0_off68 (i : grid0.Coords) (c0_i32_724 : BitVec 32) : Fin 2 → Nat :=
  let c27_725 : Index := 27#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1477 : BitVec 32 := Scalar.addi v882 c0_i32_724
  let v1478 : Index := Scalar.indexCast v1477
  ![27, v1478.toNat]
def k0_off69 (i : grid0.Coords) (c0_i32_736 : BitVec 32) : Fin 2 → Nat :=
  let c28_737 : Index := 28#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1499 : BitVec 32 := Scalar.addi v882 c0_i32_736
  let v1500 : Index := Scalar.indexCast v1499
  ![28, v1500.toNat]
def k0_off70 (i : grid0.Coords) (c0_i32_748 : BitVec 32) : Fin 2 → Nat :=
  let c29_749 : Index := 29#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1521 : BitVec 32 := Scalar.addi v882 c0_i32_748
  let v1522 : Index := Scalar.indexCast v1521
  ![29, v1522.toNat]
def k0_off71 (i : grid0.Coords) (c0_i32_760 : BitVec 32) : Fin 2 → Nat :=
  let c30_761 : Index := 30#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1543 : BitVec 32 := Scalar.addi v882 c0_i32_760
  let v1544 : Index := Scalar.indexCast v1543
  ![30, v1544.toNat]
def k0_off72 (i : grid0.Coords) (c0_i32_772 : BitVec 32) : Fin 2 → Nat :=
  let c31_773 : Index := 31#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1565 : BitVec 32 := Scalar.addi v882 c0_i32_772
  let v1566 : Index := Scalar.indexCast v1565
  ![31, v1566.toNat]
def k0_off73 (i : grid0.Coords) (c0_i32_784 : BitVec 32) : Fin 2 → Nat :=
  let c32_785 : Index := 32#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1587 : BitVec 32 := Scalar.addi v882 c0_i32_784
  let v1588 : Index := Scalar.indexCast v1587
  ![32, v1588.toNat]
def k0_off74 (i : grid0.Coords) (c0_i32_796 : BitVec 32) : Fin 2 → Nat :=
  let c33_797 : Index := 33#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1609 : BitVec 32 := Scalar.addi v882 c0_i32_796
  let v1610 : Index := Scalar.indexCast v1609
  ![33, v1610.toNat]
def k0_off75 (i : grid0.Coords) (c0_i32_808 : BitVec 32) : Fin 2 → Nat :=
  let c34_809 : Index := 34#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1631 : BitVec 32 := Scalar.addi v882 c0_i32_808
  let v1632 : Index := Scalar.indexCast v1631
  ![34, v1632.toNat]
def k0_off76 (i : grid0.Coords) (c0_i32_820 : BitVec 32) : Fin 2 → Nat :=
  let c35_821 : Index := 35#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1653 : BitVec 32 := Scalar.addi v882 c0_i32_820
  let v1654 : Index := Scalar.indexCast v1653
  ![35, v1654.toNat]
def k0_off77 (i : grid0.Coords) (c0_i32_832 : BitVec 32) : Fin 2 → Nat :=
  let c36_833 : Index := 36#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1675 : BitVec 32 := Scalar.addi v882 c0_i32_832
  let v1676 : Index := Scalar.indexCast v1675
  ![36, v1676.toNat]
def k0_off78 (i : grid0.Coords) (c0_i32_844 : BitVec 32) : Fin 2 → Nat :=
  let c37_845 : Index := 37#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1697 : BitVec 32 := Scalar.addi v882 c0_i32_844
  let v1698 : Index := Scalar.indexCast v1697
  ![37, v1698.toNat]
def k0_off79 (i : grid0.Coords) (c0_i32_856 : BitVec 32) : Fin 2 → Nat :=
  let c38_857 : Index := 38#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1719 : BitVec 32 := Scalar.addi v882 c0_i32_856
  let v1720 : Index := Scalar.indexCast v1719
  ![38, v1720.toNat]
def k0_off80 (i : grid0.Coords) (c0_i32_868 : BitVec 32) : Fin 2 → Nat :=
  let c39_869 : Index := 39#32
  let c2_i32_399 : BitVec 32 := 2#32
  let c17_i32 : BitVec 32 := 17#32
  let arg0 : BitVec 32 := BitVec.ofNat 32 (i 0).val
  let v881 : BitVec 32 := Scalar.addi c17_i32 arg0
  let v882 : BitVec 32 := Scalar.muli c2_i32_399 v881
  let v1741 : BitVec 32 := Scalar.addi v882 c0_i32_868
  let v1742 : Index := Scalar.indexCast v1741
  ![39, v1742.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c17_i32 : BitVec 32 := 17#32
  let v0 : BitVec 32 := Scalar.addi arg0 c17_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S40x68 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S2048x5120 : Shape := ⟨2, ![2048, 5120]⟩
abbrev S5120x8704 : Shape := ⟨2, ![5120, 8704]⟩
abbrev S40x68 : Shape := ⟨2, ![40, 68]⟩
abbrev S2048x4352 : Shape := ⟨2, ![2048, 4352]⟩
abbrev S17x2048x2 : Shape := ⟨3, ![17, 2048, 2]⟩
abbrev S40x128x68x128 : Shape := ⟨4, ![40, 128, 68, 128]⟩
abbrev S40x1x68x1 : Shape := ⟨4, ![40, 1, 68, 1]⟩
abbrev S2048x8704 : Shape := ⟨2, ![2048, 8704]⟩
abbrev S2048x17x256 : Shape := ⟨3, ![2048, 17, 256]⟩
abbrev S2048x17x2x128 : Shape := ⟨4, ![2048, 17, 2, 128]⟩
abbrev S2048x17x2 : Shape := ⟨3, ![2048, 17, 2]⟩
abbrev S2048x17x2x1 : Shape := ⟨4, ![2048, 17, 2, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x5120, .bf16⟩
  | .hbm, ⟨1, _⟩ => ⟨S5120x8704, .fp8e4m3⟩
  | .hbm, ⟨2, _⟩ => ⟨S40x68, .f32⟩
  | .hbm, ⟨3, _⟩ => ⟨S2048x4352, .fp8e4m3⟩
  | .hbm, ⟨4, _⟩ => ⟨S17x2048x2, .f32⟩
  | .hbm, ⟨5, _⟩ => ⟨S2048x4352, .bf16⟩
  | .local _ .vmem, ⟨0, _⟩ => ⟨S2048x5120, .bf16⟩
  | .local _ .vmem, ⟨1, _⟩ => ⟨S5120x8704, .fp8e4m3⟩
  | .local _ .vmem, ⟨2, _⟩ => ⟨S40x68, .f32⟩
  | .local _ .vmem, ⟨3, _⟩ => ⟨S2048x4352, .fp8e4m3⟩
  | .local _ .vmem, ⟨4, _⟩ => ⟨S17x2048x2, .f32⟩
  | .local _ .vmem, ⟨5, _⟩ => ⟨S2048x4352, .bf16⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8704 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x68 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x4352 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S17x2048x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== NormQuant.lean ====
abbrev S2048x5120 : Shape := ⟨2, ![2048, 5120]⟩
abbrev S5120 : Shape := ⟨1, ![5120]⟩
abbrev S1x5120 : Shape := ⟨2, ![1, 5120]⟩
abbrev S2048x40 : Shape := ⟨2, ![2048, 40]⟩
abbrev S256x5120 : Shape := ⟨2, ![256, 5120]⟩
abbrev S256x40 : Shape := ⟨2, ![256, 40]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S2048x5120, .bf16⟩
  | .hbm, ⟨1, _⟩ => ⟨S5120, .f32⟩
  | .hbm, ⟨2, _⟩ => ⟨S1x5120, .f32⟩
  | .hbm, ⟨3, _⟩ => ⟨S2048x5120, .fp8e4m3⟩
  | .hbm, ⟨4, _⟩ => ⟨S2048x40, .f32⟩
  | .hbm, ⟨5, _⟩ => ⟨S2048x5120, .bf16⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S256x5120, .fp8e4m3⟩
  | .local _ .vmem, ⟨4, _⟩ => ⟨S256x5120, .fp8e4m3⟩
  | .local _ .vmem, ⟨5, _⟩ => ⟨S256x40, .f32⟩
  | .local _ .vmem, ⟨6, _⟩ => ⟨S256x40, .f32⟩
  | .local _ .vmem, ⟨7, _⟩ => ⟨S256x5120, .bf16⟩
  | .local _ .vmem, ⟨8, _⟩ => ⟨S256x5120, .bf16⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormQuantRefIdeal.lean ====
abbrev S2048x5120 : Shape := ⟨2, ![2048, 5120]⟩
abbrev S5120 : Shape := ⟨1, ![5120]⟩
abbrev S1x5120 : Shape := ⟨2, ![1, 5120]⟩
abbrev S2048x40 : Shape := ⟨2, ![2048, 40]⟩
abbrev S2048 : Shape := ⟨1, ![2048]⟩
abbrev S2048x1 : Shape := ⟨2, ![2048, 1]⟩
abbrev S2048x40x128 : Shape := ⟨3, ![2048, 40, 128]⟩
abbrev S2048x40x1 : Shape := ⟨3, ![2048, 40, 1]⟩

abbrev nBuf : Space → Nat
  | .hbm => 6
  | .vmem => 5
  | .smem => 0
  | _ => 0

abbrev bufTy : (tb : Table) → Fin (tcTables nBuf tb) → BufTy
  | .hbm, ⟨0, _⟩ => ⟨S2048x5120, .bf16⟩
  | .hbm, ⟨1, _⟩ => ⟨S5120, .f32⟩
  | .hbm, ⟨2, _⟩ => ⟨S1x5120, .f32⟩
  | .hbm, ⟨3, _⟩ => ⟨S2048x5120, .fp8e4m3⟩
  | .hbm, ⟨4, _⟩ => ⟨S2048x40, .f32⟩
  | .hbm, ⟨5, _⟩ => ⟨S2048x5120, .bf16⟩
  | .local _ .vmem, ⟨0, _⟩ => ⟨S2048x5120, .bf16⟩
  | .local _ .vmem, ⟨1, _⟩ => ⟨S1x5120, .f32⟩
  | .local _ .vmem, ⟨2, _⟩ => ⟨S2048x5120, .fp8e4m3⟩
  | .local _ .vmem, ⟨3, _⟩ => ⟨S2048x40, .f32⟩
  | .local _ .vmem, ⟨4, _⟩ => ⟨S2048x5120, .bf16⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== OutProj.lean ====
abbrev S2048x1536 : Shape := ⟨2, ![2048, 1536]⟩
abbrev S2048x128 : Shape := ⟨2, ![2048, 128]⟩
abbrev S1536x5120 : Shape := ⟨2, ![1536, 5120]⟩
abbrev S12x40 : Shape := ⟨2, ![12, 40]⟩
abbrev S2048x5120 : Shape := ⟨2, ![2048, 5120]⟩
abbrev S5120 : Shape := ⟨1, ![5120]⟩
abbrev S1x5120 : Shape := ⟨2, ![1, 5120]⟩
abbrev S2048x40 : Shape := ⟨2, ![2048, 40]⟩
abbrev S256x1536 : Shape := ⟨2, ![256, 1536]⟩
abbrev S256x128 : Shape := ⟨2, ![256, 128]⟩
abbrev S256x5120 : Shape := ⟨2, ![256, 5120]⟩
abbrev S256x40 : Shape := ⟨2, ![256, 40]⟩
abbrev S1x1 : Shape := ⟨2, ![1, 1]⟩
abbrev S1536x512 : Shape := ⟨2, ![1536, 512]⟩
abbrev S128x128 : Shape := ⟨2, ![128, 128]⟩
abbrev S256 : Shape := ⟨1, ![256]⟩
abbrev S256x1 : Shape := ⟨2, ![256, 1]⟩
abbrev S1x128 : Shape := ⟨2, ![1, 128]⟩

abbrev nBuf : Space → Nat
  | .hbm => 11
  | .vmem => 17
  | .smem => 1
  | _ => 0

abbrev bufTy : (tb : Table) → Fin (tcTables nBuf tb) → BufTy
  | .hbm, ⟨0, _⟩ => ⟨S2048x1536, .fp8e4m3⟩
  | .hbm, ⟨1, _⟩ => ⟨S2048x128, .f32⟩
  | .hbm, ⟨2, _⟩ => ⟨S1536x5120, .fp8e4m3⟩
  | .hbm, ⟨3, _⟩ => ⟨S12x40, .f32⟩
  | .hbm, ⟨4, _⟩ => ⟨S2048x5120, .bf16⟩
  | .hbm, ⟨5, _⟩ => ⟨S5120, .f32⟩
  | .hbm, ⟨6, _⟩ => ⟨S1x5120, .f32⟩
  | .hbm, ⟨7, _⟩ => ⟨S2048x5120, .f32⟩
  | .hbm, ⟨8, _⟩ => ⟨S2048x5120, .fp8e4m3⟩
  | .hbm, ⟨9, _⟩ => ⟨S2048x40, .f32⟩
  | .hbm, ⟨10, _⟩ => ⟨S2048x5120, .bf16⟩
  | .local _ .vmem, ⟨0, _⟩ => ⟨S256x1536, .fp8e4m3⟩
  | .local _ .vmem, ⟨1, _⟩ => ⟨S256x1536, .fp8e4m3⟩
  | .local _ .vmem, ⟨2, _⟩ => ⟨S256x128, .f32⟩
  | .local _ .vmem, ⟨3, _⟩ => ⟨S256x128, .f32⟩
  | .local _ .vmem, ⟨4, _⟩ => ⟨S1536x5120, .fp8e4m3⟩
  | .local _ .vmem, ⟨5, _⟩ => ⟨S256x5120, .bf16⟩
  | .local _ .vmem, ⟨6, _⟩ => ⟨S256x5120, .bf16⟩
  | .local _ .vmem, ⟨7, _⟩ => ⟨S1x5120, .f32⟩
  | .local _ .vmem, ⟨8, _⟩ => ⟨S256x5120, .f32⟩
  | .local _ .vmem, ⟨9, _⟩ => ⟨S256x5120, .f32⟩
  | .local _ .vmem, ⟨10, _⟩ => ⟨S256x5120, .fp8e4m3⟩
  | .local _ .vmem, ⟨11, _⟩ => ⟨S256x5120, .fp8e4m3⟩
  | .local _ .vmem, ⟨12, _⟩ => ⟨S256x40, .f32⟩
  | .local _ .vmem, ⟨13, _⟩ => ⟨S256x40, .f32⟩
  | .local _ .vmem, ⟨14, _⟩ => ⟨S256x5120, .bf16⟩
  | .local _ .vmem, ⟨15, _⟩ => ⟨S256x5120, .bf16⟩
  | .local _ .vmem, ⟨16, _⟩ => ⟨S1536x5120, .bf16⟩
  | .local _ .smem, ⟨0, _⟩ => ⟨S12x40, .f32⟩
  | _, _ => ⟨S2048x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1691 : BitVec 32 := 0#32
  let c10_i32_1692 : BitVec 32 := 10#32
  let v4659 : BitVec 32 := Scalar.addi c0_i32_1691 c10_i32_1692
  let c1_i32_1693 : BitVec 32 := 1#32
  ⟨c0_i32_1691, v4659, c1_i32_1693⟩
def k0_mult1 (k0_t1 : Fin k0_t1_loop.trips) : BitVec 32 :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  v4660
def k0_off1 (k0_t1 : Fin k0_t1_loop.trips) (c0_i32_1696 : BitVec 32) : Fin 2 → Nat :=
  let c0_1697 : Index := 0#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4663 : BitVec 32 := Scalar.addi v4662 c0_i32_1696
  let v4664 : Index := Scalar.indexCast v4663
  ![0, v4664.toNat]
def k0_off2 (k0_t1 : Fin k0_t1_loop.trips) : Fin 2 → Nat :=
  let c0_i32_1698 : BitVec 32 := 0#32
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![0, v4661.toNat]
def k0_off3 (k0_t1 : Fin k0_t1_loop.trips) : Fin 2 → Nat :=
  let c0_i32_1701 : BitVec 32 := 0#32
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![0, v4661.toNat]
def k0_off4 (k0_t1 : Fin k0_t1_loop.trips) : Fin 2 → Nat :=
  let c0_i32_1709 : BitVec 32 := 0#32
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![0, Nat.add v4661.toNat 128]
def k0_off5 (k0_t1 : Fin k0_t1_loop.trips) : Fin 2 → Nat :=
  let c0_i32_1717 : BitVec 32 := 0#32
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![0, Nat.add v4661.toNat 256]
def k0_off6 (k0_t1 : Fin k0_t1_loop.trips) : Fin 2 → Nat :=
  let c0_i32_1725 : BitVec 32 := 0#32
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![0, Nat.add v4661.toNat 384]
def k0_off7 (k0_t1 : Fin k0_t1_loop.trips) (c0_i32_1728 : BitVec 32) : Fin 2 → Nat :=
  let c1 : Index := 1#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4715 : BitVec 32 := Scalar.addi v4662 c0_i32_1728
  let v4716 : Index := Scalar.indexCast v4715
  ![1, v4716.toNat]
def k0_off8 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![128, v4661.toNat]
def k0_off9 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![128, Nat.add v4661.toNat 128]
def k0_off10 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![128, Nat.add v4661.toNat 256]
def k0_off11 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![128, Nat.add v4661.toNat 384]
def k0_off12 (k0_t1 : Fin k0_t1_loop.trips) (c0_i32_1759 : BitVec 32) : Fin 2 → Nat :=
  let c2 : Index := 2#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4767 : BitVec 32 := Scalar.addi v4662 c0_i32_1759
  let v4768 : Index := Scalar.indexCast v4767
  ![2, v4768.toNat]
def k0_off13 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![256, v4661.toNat]
def k0_off14 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![256, Nat.add v4661.toNat 128]
def k0_off15 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![256, Nat.add v4661.toNat 256]
def k0_off16 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![256, Nat.add v4661.toNat 384]
def k0_off17 (k0_t1 : Fin k0_t1_loop.trips) (c0_i32_1790 : BitVec 32) : Fin 2 → Nat :=
  let c3 : Index := 3#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4819 : BitVec 32 := Scalar.addi v4662 c0_i32_1790
  let v4820 : Index := Scalar.indexCast v4819
  ![3, v4820.toNat]
def k0_off18 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![384, v4661.toNat]
def k0_off19 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![384, Nat.add v4661.toNat 128]
def k0_off20 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![384, Nat.add v4661.toNat 256]
def k0_off21 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![384, Nat.add v4661.toNat 384]
def k0_off22 (k0_t1 : Fin k0_t1_loop.trips) (c0_i32_1821 : BitVec 32) : Fin 2 → Nat :=
  let c4 : Index := 4#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4871 : BitVec 32 := Scalar.addi v4662 c0_i32_1821
  let v4872 : Index := Scalar.indexCast v4871
  ![4, v4872.toNat]
def k0_off23 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![512, v4661.toNat]
def k0_off24 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![512, Nat.add v4661.toNat 128]
def k0_off25 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![512, Nat.add v4661.toNat 256]
def k0_off26 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![512, Nat.add v4661.toNat 384]
def k0_off27 (k0_t1 : Fin k0_t1_loop.trips) (c0_i32_1852 : BitVec 32) : Fin 2 → Nat :=
  let c5 : Index := 5#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4923 : BitVec 32 := Scalar.addi v4662 c0_i32_1852
  let v4924 : Index := Scalar.indexCast v4923
  ![5, v4924.toNat]
def k0_off28 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![640, v4661.toNat]
def k0_off29 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![640, Nat.add v4661.toNat 128]
def k0_off30 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![640, Nat.add v4661.toNat 256]
def k0_off31 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![640, Nat.add v4661.toNat 384]
def k0_off32 (k0_t1 : Fin k0_t1_loop.trips) (c0_i32_1883 : BitVec 32) : Fin 2 → Nat :=
  let c6 : Index := 6#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v4975 : BitVec 32 := Scalar.addi v4662 c0_i32_1883
  let v4976 : Index := Scalar.indexCast v4975
  ![6, v4976.toNat]
def k0_off33 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![768, v4661.toNat]
def k0_off34 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![768, Nat.add v4661.toNat 128]
def k0_off35 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![768, Nat.add v4661.toNat 256]
def k0_off36 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![768, Nat.add v4661.toNat 384]
def k0_off37 (k0_t1 : Fin k0_t1_loop.trips) (c0_i32_1914 : BitVec 32) : Fin 2 → Nat :=
  let c7 : Index := 7#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v5027 : BitVec 32 := Scalar.addi v4662 c0_i32_1914
  let v5028 : Index := Scalar.indexCast v5027
  ![7, v5028.toNat]
def k0_off38 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![896, v4661.toNat]
def k0_off39 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![896, Nat.add v4661.toNat 128]
def k0_off40 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![896, Nat.add v4661.toNat 256]
def k0_off41 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![896, Nat.add v4661.toNat 384]
def k0_off42 (k0_t1 : Fin k0_t1_loop.trips) (c0_i32_1945 : BitVec 32) : Fin 2 → Nat :=
  let c8 : Index := 8#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v5079 : BitVec 32 := Scalar.addi v4662 c0_i32_1945
  let v5080 : Index := Scalar.indexCast v5079
  ![8, v5080.toNat]
def k0_off43 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1024, v4661.toNat]
def k0_off44 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1024, Nat.add v4661.toNat 128]
def k0_off45 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1024, Nat.add v4661.toNat 256]
def k0_off46 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1024, Nat.add v4661.toNat 384]
def k0_off47 (k0_t1 : Fin k0_t1_loop.trips) (c0_i32_1976 : BitVec 32) : Fin 2 → Nat :=
  let c9 : Index := 9#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v5131 : BitVec 32 := Scalar.addi v4662 c0_i32_1976
  let v5132 : Index := Scalar.indexCast v5131
  ![9, v5132.toNat]
def k0_off48 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1152, v4661.toNat]
def k0_off49 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1152, Nat.add v4661.toNat 128]
def k0_off50 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1152, Nat.add v4661.toNat 256]
def k0_off51 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1152, Nat.add v4661.toNat 384]
def k0_off52 (k0_t1 : Fin k0_t1_loop.trips) (c0_i32_2007 : BitVec 32) : Fin 2 → Nat :=
  let c10 : Index := 10#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v5183 : BitVec 32 := Scalar.addi v4662 c0_i32_2007
  let v5184 : Index := Scalar.indexCast v5183
  ![10, v5184.toNat]
def k0_off53 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1280, v4661.toNat]
def k0_off54 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1280, Nat.add v4661.toNat 128]
def k0_off55 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1280, Nat.add v4661.toNat 256]
def k0_off56 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1280, Nat.add v4661.toNat 384]
def k0_off57 (k0_t1 : Fin k0_t1_loop.trips) (c0_i32_2038 : BitVec 32) : Fin 2 → Nat :=
  let c11 : Index := 11#32
  let c0_i32_1691 : BitVec 32 := 0#32
  let c1_i32_1693 : BitVec 32 := 1#32
  let arg12 : BitVec 32 := Scf.iv c0_i32_1691 c1_i32_1693 k0_t1
  let c4_i32_1695 : BitVec 32 := 4#32
  let v4662 : BitVec 32 := Scalar.muli arg12 c4_i32_1695
  let v5235 : BitVec 32 := Scalar.addi v4662 c0_i32_2038
  let v5236 : Index := Scalar.indexCast v5235
  ![11, v5236.toNat]
def k0_off58 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1408, v4661.toNat]
def k0_off59 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1408, Nat.add v4661.toNat 128]
def k0_off60 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1408, Nat.add v4661.toNat 256]
def k0_off61 (k0_t1 : Fin k0_t1_loop.trips) : Fin 2 → Nat :=
  let c0_i32_1691 : BitVec 32 := 0#32
  let c1_i32_1693 : BitVec 32 := 1#32
  let arg12 : BitVec 32 := Scf.iv c0_i32_1691 c1_i32_1693 k0_t1
  let c512_i32 : BitVec 32 := 512#32
  let v4660 : BitVec 32 := Scalar.muli arg12 c512_i32
  let v4661 : BitVec 32 := v4660
  ![1408, Nat.add v4661.toNat 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S12x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S2048x1536 : Shape := ⟨2, ![2048, 1536]⟩
abbrev S2048x128 : Shape := ⟨2, ![2048, 128]⟩
abbrev S1536x5120 : Shape := ⟨2, ![1536, 5120]⟩
abbrev S12x40 : Shape := ⟨2, ![12, 40]⟩
abbrev S2048x5120 : Shape := ⟨2, ![2048, 5120]⟩
abbrev S5120 : Shape := ⟨1, ![5120]⟩
abbrev S1x5120 : Shape := ⟨2, ![1, 5120]⟩
abbrev S2048x40 : Shape := ⟨2, ![2048, 40]⟩
abbrev S12x128x40x128 : Shape := ⟨4, ![12, 128, 40, 128]⟩
abbrev S12x1x40x1 : Shape := ⟨4, ![12, 1, 40, 1]⟩
abbrev S2048x40x128 : Shape := ⟨3, ![2048, 40, 128]⟩
abbrev S2048x1x128 : Shape := ⟨3, ![2048, 1, 128]⟩
abbrev S2048 : Shape := ⟨1, ![2048]⟩
abbrev S2048x1 : Shape := ⟨2, ![2048, 1]⟩
abbrev S2048x40x1 : Shape := ⟨3, ![2048, 40, 1]⟩

abbrev nBuf : Space → Nat
  | .hbm => 11
  | .vmem => 10
  | .smem => 0
  | _ => 0

abbrev bufTy : (tb : Table) → Fin (tcTables nBuf tb) → BufTy
  | .hbm, ⟨0, _⟩ => ⟨S2048x1536, .fp8e4m3⟩
  | .hbm, ⟨1, _⟩ => ⟨S2048x128, .f32⟩
  | .hbm, ⟨2, _⟩ => ⟨S1536x5120, .fp8e4m3⟩
  | .hbm, ⟨3, _⟩ => ⟨S12x40, .f32⟩
  | .hbm, ⟨4, _⟩ => ⟨S2048x5120, .bf16⟩
  | .hbm, ⟨5, _⟩ => ⟨S5120, .f32⟩
  | .hbm, ⟨6, _⟩ => ⟨S1x5120, .f32⟩
  | .hbm, ⟨7, _⟩ => ⟨S2048x5120, .f32⟩
  | .hbm, ⟨8, _⟩ => ⟨S2048x5120, .fp8e4m3⟩
  | .hbm, ⟨9, _⟩ => ⟨S2048x40, .f32⟩
  | .hbm, ⟨10, _⟩ => ⟨S2048x5120, .bf16⟩
  | .local _ .vmem, ⟨0, _⟩ => ⟨S2048x1536, .fp8e4m3⟩
  | .local _ .vmem, ⟨1, _⟩ => ⟨S2048x128, .f32⟩
  | .local _ .vmem, ⟨2, _⟩ => ⟨S1536x5120, .fp8e4m3⟩
  | .local _ .vmem, ⟨3, _⟩ => ⟨S12x40, .f32⟩
  | .local _ .vmem, ⟨4, _⟩ => ⟨S2048x5120, .bf16⟩
  | .local _ .vmem, ⟨5, _⟩ => ⟨S1x5120, .f32⟩
  | .local _ .vmem, ⟨6, _⟩ => ⟨S2048x5120, .f32⟩
  | .local _ .vmem, ⟨7, _⟩ => ⟨S2048x5120, .fp8e4m3⟩
  | .local _ .vmem, ⟨8, _⟩ => ⟨S2048x40, .f32⟩
  | .local _ .vmem, ⟨9, _⟩ => ⟨S2048x5120, .bf16⟩
  | _, _ => ⟨S2048x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2048x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x5120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.DownValue.lean ====
module

public import proofs.«01_k».proof.Proof.Gen.DownIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.DownIdeal.Value

open Cert.DownIdeal Cert.DownIdeal.Gen

/-- The widened weight block of grid step `i`: entry `(k, n)` is the weight there times the scale
    of its 128 x 128 block, the block's column of scales counted from the step's first. -/
def wide (i : grid0.Coords) (w : FVec Ideal S4352x512 .fp8e4m3) (s : FVec Ideal S34x40 .f32) : FVec Ideal S4352x512 .bf16 :=
  fun y => w y * s (ix2 (⟨(y 0).val / 128, by have := (y 0).isLt; change (y 0).val < 4352 at this; omega⟩ : Fin 34)
    (⟨4 * (i 0).val + (y 1).val / 128, by
      have := (y 1).isLt; change (y 1).val < 512 at this; have h : (i 0).val < 10 := (i 0).isLt; omega⟩ : Fin 40))

/-- The offsets at which the kernel reads a scale, with the block row and the word of the block
    column as parameters. -/
def off (n : ℕ) (i : grid0.Coords) (w : BitVec 32) : Fin 2 → Nat :=
  ![n, (Scalar.indexCast (Scalar.addi (Scalar.muli 4#32 (BitVec.ofNat 32 (i 0).val)) w)).toNat]

/-- The second offset as a number. -/
theorem off_one (n : ℕ) (i : grid0.Coords) (w : BitVec 32) (hw : w.toNat < 4) : off n i w 1 = 4 * (i 0).val + w.toNat := by
  have h : (i 0).val < 10 := (i 0).isLt
  show (Scalar.indexCast (Scalar.addi (Scalar.muli 4#32 (BitVec.ofNat 32 (i 0).val)) w)).toNat = _
  simp only [Scalar.indexCast, Scalar.addi, Scalar.muli, IntOp.addi, IntOp.muli]
  rw [BitVec.toNat_add, BitVec.toNat_mul, BitVec.toNat_ofNat, BitVec.toNat_ofNat]
  omega

/-- One widened 128 x 128 piece is the widened weight block there. -/
theorem piece_eq (i : grid0.Coords) (arg2 : Memref sig .tc .vmem S4352x512 .fp8e4m3) (harg2 : arg2.IsWhole)
    (arg3 : Memref sig .tc .smem S34x40 .f32) (harg3 : arg3.IsWhole)
    (x1 : Vec Ideal S4352x512 .fp8e4m3) (x2 : Vec Ideal S34x40 .f32) (n : ℕ) (w : BitVec 32) (a b : ℕ)
    (inb : ∀ d, (![a, b] : Fin 2 → ℕ) d + S128x128.size d ≤ S4352x512.size d)
    (inb' : ∀ d, off n i w d + S1x1.size d ≤ S34x40.size d) (h1 : 0 < S1x1.numel)
    (hw : w.toNat < 4) (ha : a = 128 * n) (hb : b = 128 * w.toNat)
    (x : S128x128.Idx) :
    k0_pay4 (F := Ideal)
        (View.readAt (Elt Ideal) arg3.view (Rect.unit (s := S34x40) (off n i w) S1x1.size inb').toLoadRect (harg3.unread x2) (Shape.Idx.first h1))
        (View.readAt (Elt Ideal) arg2.view (Rect.unit (s := S4352x512) ![a, b] S128x128.size inb).toLoadRect (harg2.unread x1)) x
      = wide i x1 x2 ((Rect.unit (s := S4352x512) ![a, b] S128x128.size inb).emb x) := by
  subst ha hb
  simp only [View.readAt_eq_ld, harg2.read_unread, harg3.read_unread]
  unfold k0_pay4
  rw [shapeCast_id]
  show x1 _ * x2 _ = x1 _ * x2 _
  congr 2
  · funext d
    apply Fin.ext
    match d with
    | ⟨0, _⟩ =>
      show n + 0 = (128 * n + 1 * (x 0).val) / 128
      have : (x 0).val < 128 := (x 0).isLt
      omega
    | ⟨1, _⟩ =>
      show off n i w 1 + 0 = 4 * (i 0).val + (128 * w.toNat + 1 * (x 1).val) / 128
      have : (x 1).val < 128 := (x 1).isLt
      rw [off_one n i w hw]
      omega

open Idealize.ShloMosaic.View in
/-- Every piece the kernel widens into its buffer is the widened weight block there. -/
theorem pieces (c : Dev nD) (i : grid0.Coords) (arg2 : Memref sig .tc .vmem S4352x512 .fp8e4m3) (harg2 : arg2.IsWhole)
    (arg3 : Memref sig .tc .smem S34x40 .f32) (harg3 : arg3.IsWhole)
    (x1 : Vec Ideal S4352x512 .fp8e4m3) (x2 : Vec Ideal S34x40 .f32) :
    PiecesOf (wide i x1 x2) (kernelRun0_A.sl.HS0_136 (F := Ideal) c i arg2 harg2 arg3 harg3 x1 x2) := by
  unfold kernelRun0_A.sl.HS0_136
  repeat refine ⟨fun x => ?_, ?_⟩; exact piece_eq i arg2 harg2 arg3 harg3 x1 x2 _ _ _ _ _ _ _ (by decide) (by decide) (by decide) x
  exact trivial

section
variable (c : Dev nD) (i : grid0.Coords) (arg2 : Memref sig .tc .vmem S4352x512 .fp8e4m3) (harg2 : arg2.IsWhole)
    (arg3 : Memref sig .tc .smem S34x40 .f32) (harg3 : arg3.IsWhole) (arg6 : Memref sig .tc .vmem S4352x512 .bf16)
    (x1 : Vec Ideal S4352x512 .fp8e4m3) (x2 : Vec Ideal S34x40 .f32)

/-- The pieces together are the widened weight block. -/
theorem canon_pieces (y : S4352x512.Idx) :
    View.canon (kernelRun0_A.sl.HS0_136 (F := Ideal) c i arg2 harg2 arg3 harg3 x1 x2) y = wide i x1 x2 y :=
  View.canon_apply_of_pieces _ _ (pieces c i arg2 harg2 arg3 harg3 x1 x2).mem y
    (View.cover_of_tiledL (kernelRun0_A.sl.HS0_136 (F := Ideal) c i arg2 harg2 arg3 harg3 x1 x2) S128x128.size (by sl_kernel_rfl) y)

/-- What the later row chunks load from the buffer. -/
theorem v1512_eq : kernelRun0_A.sl.v1512 (F := Ideal) c i arg2 harg2 arg3 harg3 arg6 x1 x2 = wide i x1 x2 := by
  unfold kernelRun0_A.sl.v1512
  rw [View.readCov_eq_canon']
  funext y
  refine (canon_pieces c i arg2 harg2 arg3 harg3 x1 x2 _).trans (congrArg _ (funext fun d => Fin.ext ?_))
  match d with
  | ⟨0, _⟩ => show 0 + 1 * (y 0).val = (y 0).val; omega
  | ⟨1, _⟩ => show 0 + 1 * (y 1).val = (y 1).val; omega

/-- What the first row chunks load from the buffer. -/
theorem v1498_eq : kernelRun0_A.sl.v1498 (F := Ideal) c i arg2 harg2 arg3 harg3 arg6 x1 x2 = wide i x1 x2 := by
  unfold kernelRun0_A.sl.v1498
  rw [View.readCov_eq_canon']
  funext y
  refine (canon_pieces c i arg2 harg2 arg3 harg3 x1 x2 _).trans (congrArg _ (funext fun d => Fin.ext ?_))
  match d with
  | ⟨0, _⟩ => show 0 + 1 * (y 0).val = (y 0).val; omega
  | ⟨1, _⟩ => show 0 + 1 * (y 1).val = (y 1).val; omega

end

/-- What a grid step leaves in its output block. -/
def outBlock (i : grid0.Coords) (x0 : FVec Ideal S2048x4352 .bf16) (x1 : FVec Ideal S4352x512 .fp8e4m3)
    (x2 : FVec Ideal S34x40 .f32) (x3 : FVec Ideal S2048x512 .f32) : FVec Ideal S2048x512 .bf16 :=
  fun y => x3 y + ∑ k : Fin 4352, x0 (ix2 (show Fin 2048 from y 0) k) * wide i x1 x2 (ix2 k (show Fin 512 from y 1))

/-- One chunk of 512 rows is the output block there. -/
theorem chunk_eq (i : grid0.Coords) (arg1 : Memref sig .tc .vmem S2048x4352 .bf16) (harg1 : arg1.IsWhole)
    (arg4 : Memref sig .tc .vmem S2048x512 .f32) (harg4 : arg4.IsWhole)
    (x0 : Vec Ideal S2048x4352 .bf16) (x1 : Vec Ideal S4352x512 .fp8e4m3) (x2 : Vec Ideal S34x40 .f32) (x3 : Vec Ideal S2048x512 .f32)
    (v : FVec Ideal S4352x512 .bf16) (hv : v = wide i x1 x2) (o : ℕ)
    (inb : ∀ d, (![o, 0] : Fin 2 → ℕ) d + S512x4352.size d ≤ S2048x4352.size d)
    (inb' : ∀ d, (![o, 0] : Fin 2 → ℕ) d + S512x512.size d ≤ S2048x512.size d) (x : S512x512.Idx) :
    k0_pay3 (F := Ideal)
        (View.readAt (Elt Ideal) arg1.view (Rect.unit (s := S2048x4352) ![o, 0] S512x4352.size inb).toLoadRect (harg1.unread x0)) v
        (View.readAt (Elt Ideal) arg4.view (Rect.unit (s := S2048x512) ![o, 0] S512x512.size inb').toLoadRect (harg4.unread x3)) x
      = outBlock i x0 x1 x2 x3 ((Rect.unit (s := S2048x512) ![o, 0] S512x512.size inb').emb x) := by
  subst hv
  simp only [View.readAt_eq_ld, harg1.read_unread, harg4.read_unread]
  have e : (Rect.unit (s := S2048x512) ![o, 0] S512x512.size inb').emb x
      = ix2 (⟨o + (x 0).val, by have h : o + 512 ≤ 2048 := inb' 0; have : (x 0).val < 512 := (x 0).isLt; omega⟩ : Fin 2048)
          (show Fin 512 from x 1) := by
    funext d
    apply Fin.ext
    match d with
    | ⟨0, _⟩ => show o + 1 * (x 0).val = o + (x 0).val; omega
    | ⟨1, _⟩ => show 0 + 1 * (x 1).val = (x 1).val; omega
  rw [e]
  pointwise [k0_pay3]
  rfl

variable (m : (ℓ : Loc nD τ sig) → Buf (Elt Ideal) ℓ)

/-- What grid step `t` leaves in the output's buffer. -/
theorem outs_eq (c : Dev nD) (t : Fin cfg0.N) :
    outsAt0 m c t = outBlock (grid0.coords t) (iblk m c 0 t) (iblk m c 1 t) (iblk m c 2 t) (iblk m c 3 t) := by
  funext y
  have hc := cover0_A_4 c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) (iblk m c 3 t) y
  unfold outsAt0 out0_A_4
  rw [View.read_writes_junk_eq_canon]
  refine View.canon_apply_of_pieces _ _ (View.PiecesOf.mem ?_) y hc
  unfold kernelRun0_A
  refine ⟨fun x => ?_, fun x => ?_, fun x => ?_, fun x => ?_, trivial⟩
  · exact chunk_eq _ (ms0_0 t) (hs0_0 t) (ms0_3 t) (hs0_3 t) _ _ _ _ _ (v1512_eq ..) _ _ _ x
  · exact chunk_eq _ (ms0_0 t) (hs0_0 t) (ms0_3 t) (hs0_3 t) _ _ _ _ _ (v1512_eq ..) _ _ _ x
  · exact chunk_eq _ (ms0_0 t) (hs0_0 t) (ms0_3 t) (hs0_3 t) _ _ _ _ _ (v1498_eq ..) _ _ _ x
  · exact chunk_eq _ (ms0_0 t) (hs0_0 t) (ms0_3 t) (hs0_3 t) _ _ _ _ _ (v1498_eq ..) _ _ _ x

/-- The windows' block indices and the grid step's coordinate, at every step. -/
theorem idx : ∀ t : Fin cfg0.N, win0_0.index t = ![0, 0] ∧ win0_1.index t = ![0, t.val] ∧ win0_2.index t = ![0, 0]
    ∧ win0_3.index t = ![0, t.val] ∧ win0_4.index t = ![0, t.val] ∧ (grid0.coords t 0).val = t.val :=
  (by decide +kernel : ∀ t : Fin grid0.N, _)

/-- The result array after the run, entry by entry. -/
theorem final (c : Dev nD) (r : Fin 2048) (n : Fin 5120) :
    (dats m 0 c).arrAt 4 cfg0.N (ix2 r n)
      = (show FVec Ideal S2048x5120 .f32 from m ((c : Thread nD τ).loc main_arg3)) (ix2 r n)
        + ∑ k : Fin 4352, (show FVec Ideal S2048x4352 .bf16 from m ((c : Thread nD τ).loc main_arg0)) (ix2 r k)
          * ((show FVec Ideal S4352x5120 .fp8e4m3 from m ((c : Thread nD τ).loc main_arg1)) (ix2 k n)
            * (show FVec Ideal S34x40 .f32 from m ((c : Thread nD τ).loc main_arg2))
                (ix2 (⟨k.val / 128, by omega⟩ : Fin 34) (⟨n.val / 128, by omega⟩ : Fin 40))) := by
  refine congrFun ((dats m 0 c).arrAt_eq_of_covers 4 (fun y =>
    (show FVec Ideal S2048x5120 .f32 from m ((c : Thread nD τ).loc main_arg3)) y
        + ∑ k : Fin 4352, (show FVec Ideal S2048x4352 .bf16 from m ((c : Thread nD τ).loc main_arg0)) (ix2 (show Fin 2048 from y 0) k)
          * ((show FVec Ideal S4352x5120 .fp8e4m3 from m ((c : Thread nD τ).loc main_arg1)) (ix2 k (show Fin 5120 from y 1))
            * (show FVec Ideal S34x40 .f32 from m ((c : Thread nD τ).loc main_arg2))
                (ix2 (⟨k.val / 128, by omega⟩ : Fin 34) (⟨(y 1).val / 128, by have : (y 1).val < 5120 := (y 1).isLt; omega⟩ : Fin 40)))) (by decide +kernel) fun t _ y => ?_) (ix2 r n)
  blk_simp
  rw [after0_4, outs_eq]
  unfold outBlock wide
  blk_point [iblk, V, idx t]

end Cert.DownIdeal.Value

end
-- ==== Proof.DownRefValue.lean ====
module

public import proofs.«01_k».proof.Proof.Gen.DownRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DownRefIdeal.Value

open Cert.DownRefIdeal Cert.DownRefIdeal.Gen

/-- The reference's result at row `r`, column `c`: the residual plus the plain product with the
    weights, each weight multiplied by the scale of its 128 x 128 block. -/
theorem ref_apply (a : FVec Ideal S2048x4352 .bf16) (w : FVec Ideal S4352x5120 .fp8e4m3)
    (s : FVec Ideal S34x40 .f32) (h : FVec Ideal S2048x5120 .f32) (r : Fin 2048) (c : Fin 5120) :
    k0_pay1 (F := Ideal) a w s h (ix2 r c)
      = h (ix2 r c) + ∑ k : Fin 4352, a (ix2 r k)
          * (w (ix2 k c) * s (ix2 (⟨k.val / 128, by omega⟩ : Fin 34) (⟨c.val / 128, by omega⟩ : Fin 40))) := by
  pointwise [k0_pay1]

end Cert.DownRefIdeal.Value

end
-- ==== Proof.DownAlg.lean ====
module

public import proofs.«01_k».proof.Proof.DownValue
public import proofs.«01_k».proof.Proof.DownRefValue

@[expose] public section

set_option maxRecDepth 16384

noncomputable section

open Idealize.ShloMosaic Idealize.ShloMosaic.TcCoe Idealize.SL.Sem

namespace Cert.DownProof

/-- From memories that agree on the arguments, the reference's result is the kernel's. -/
theorem result_eq (m : (ℓ : Loc Cert.DownIdeal.nD Cert.DownIdeal.τ Cert.DownIdeal.sig) → Buf (Elt Ideal) ℓ)
    (m' : (ℓ : Loc Cert.DownRefIdeal.nD Cert.DownRefIdeal.τ Cert.DownRefIdeal.sig) → Buf (Elt Ideal) ℓ)
    (c : Dev Cert.DownIdeal.nD)
    (h0 : m' ((c.tc : Thread Cert.DownRefIdeal.nD Cert.DownRefIdeal.τ).loc Cert.DownRefIdeal.main_arg0) = m ((c.tc : Thread Cert.DownIdeal.nD Cert.DownIdeal.τ).loc Cert.DownIdeal.main_arg0))
    (h1 : m' ((c.tc : Thread Cert.DownRefIdeal.nD Cert.DownRefIdeal.τ).loc Cert.DownRefIdeal.main_arg1) = m ((c.tc : Thread Cert.DownIdeal.nD Cert.DownIdeal.τ).loc Cert.DownIdeal.main_arg1))
    (h2 : m' ((c.tc : Thread Cert.DownRefIdeal.nD Cert.DownRefIdeal.τ).loc Cert.DownRefIdeal.main_arg2) = m ((c.tc : Thread Cert.DownIdeal.nD Cert.DownIdeal.τ).loc Cert.DownIdeal.main_arg2))
    (h3 : m' ((c.tc : Thread Cert.DownRefIdeal.nD Cert.DownRefIdeal.τ).loc Cert.DownRefIdeal.main_arg3) = m ((c.tc : Thread Cert.DownIdeal.nD Cert.DownIdeal.τ).loc Cert.DownIdeal.main_arg3)) :
    Cert.DownRefIdeal.Value.G4 (F := Ideal)
        (m' ((c.tc : Thread Cert.DownRefIdeal.nD Cert.DownRefIdeal.τ).loc Cert.DownRefIdeal.main_arg0))
        (m' ((c.tc : Thread Cert.DownRefIdeal.nD Cert.DownRefIdeal.τ).loc Cert.DownRefIdeal.main_arg1))
        (m' ((c.tc : Thread Cert.DownRefIdeal.nD Cert.DownRefIdeal.τ).loc Cert.DownRefIdeal.main_arg2))
        (m' ((c.tc : Thread Cert.DownRefIdeal.nD Cert.DownRefIdeal.τ).loc Cert.DownRefIdeal.main_arg3))
      = (Cert.DownIdeal.Gen.dats m 0 c).arrAt 4 Cert.DownIdeal.cfg0.N := by
  rw [h0, h1, h2, h3]
  funext y
  have e : y = ix2 (show Fin 2048 from y 0) (show Fin 5120 from y 1) := by
    funext d
    match d with
    | ⟨0, _⟩ => rfl
    | ⟨1, _⟩ => rfl
  rw [e]
  exact (Cert.DownRefIdeal.Value.ref_apply _ _ _ _ _ _).trans (Cert.DownIdeal.Value.final m c _ _).symm

end Cert.DownProof

end
-- ==== Proof.Quant.lean ====
module

public import Idealize.ShloMosaic.Lib.Pointwise
public import Idealize.ShloMosaic.PureOps.Ideal

@[expose] public section

noncomputable section

open Idealize.ShloMosaic

namespace Cert.Quant

/-- One step of the search for the exponent of `q`: take `k` more if the float with that exponent
    field is still at most `q`. -/
def step (k : BitVec 32) (q : EReal) (e : BitVec 32) : BitVec 32 :=
  if Ideal.ofBits .f32 ((e + k) <<< 23) ≤ q then e + k else e

/-- The exponent field found for `q`, by halving. -/
def field (q : EReal) : BitVec 32 :=
  step 1#32 q (step 2#32 q (step 4#32 q (step 8#32 q (step 16#32 q (step 32#32 q (step 64#32 q (step 128#32 q 0#32)))))))

/-- The float whose exponent field is `n`, fraction zero. -/
def thr (n : ℕ) : EReal := Ideal.ofBits .f32 (BitVec.ofNat 32 n <<< 23)

/-- The float with exponent field `n` is the power of two with exponent `n - 127`. -/
theorem thr_eq (n : ℕ) (h0 : 1 ≤ n) (h1 : n ≤ 254) : thr n = ((2:ℝ) ^ ((n:ℤ) - 127) : ℝ) := by
  have h : ∀ n : Fin 255, 1 ≤ n.val →
      ((BitVec.ofNat 32 n.val <<< 23).extractLsb' 31 1 == 1#1) = false ∧ ((BitVec.ofNat 32 n.val <<< 23).extractLsb' 23 8).toNat = n.val
      ∧ ((BitVec.ofNat 32 n.val <<< 23).extractLsb' 0 23).toNat = 0 := by decide +kernel
  obtain ⟨a, b, c⟩ := h ⟨n, by omega⟩ h0
  simp only at a b c
  unfold thr
  simp only [Ideal.ofBits, Ideal.ieee, a, b, c]
  have n255 : ¬ n = 2 ^ 8 - 1 := by omega
  have n0 : ¬ n = 0 := by omega
  simp only [n255, n0, if_false, Bool.false_eq_true]
  refine congrArg Real.toEReal ?_
  have e : ((n:ℤ) - (2 ^ (8 - 1) - 1) - ((23:ℕ):ℤ)) = ((n:ℤ) - 127) + (-23) := by norm_num; ring
  rw [e, zpow_add₀ (by norm_num : (2:ℝ) ≠ 0), Nat.add_zero, Nat.cast_pow, Nat.cast_ofNat, one_mul, mul_comm ((2:ℝ) ^ ((n:ℤ) - 127)), ← mul_assoc]
  have : (2:ℝ) ^ 23 * (2:ℝ) ^ (-23 : ℤ) = 1 := by norm_num
  rw [this, one_mul]

/-- The word of all exponent bits is the infinity. -/
theorem thr_top : thr 255 = ⊤ := by
  have a : ((BitVec.ofNat 32 255 <<< 23).extractLsb' 31 1 == 1#1) = false := by decide
  have b : ((BitVec.ofNat 32 255 <<< 23).extractLsb' 23 8).toNat = 255 := by decide
  have c : ((BitVec.ofNat 32 255 <<< 23).extractLsb' 0 23).toNat = 0 := by decide
  unfold thr
  simp only [Ideal.ofBits, Ideal.ieee, a, b, c]
  norm_num

/-- These floats grow with the exponent field. -/
theorem thr_lt (a b : ℕ) (h0 : 1 ≤ a) (hab : a < b) (h1 : b ≤ 255) : thr a < thr b := by
  rw [thr_eq a h0 (by omega)]
  rcases Nat.lt_or_ge b 255 with hb | hb
  · rw [thr_eq b (by omega) (by omega), EReal.coe_lt_coe_iff]
    exact zpow_lt_zpow_right₀ (by norm_num) (by omega)
  · rw [show b = 255 by omega, thr_top]
    exact EReal.coe_lt_top _

/-- One step keeps the bracket around `q` and halves it. -/
theorem step_spec (q : EReal) (n k : ℕ) (e : BitVec 32) (he : e = BitVec.ofNat 32 n) (hb : n + 2 * k ≤ 256)
    (hl : n = 0 ∨ thr n ≤ q) (hu : n + 2 * k = 256 ∨ q < thr (n + 2 * k)) :
    ∃ n', step (BitVec.ofNat 32 k) q e = BitVec.ofNat 32 n' ∧ n' + k ≤ 256 ∧ (n' = 0 ∨ thr n' ≤ q)
      ∧ (n' + k = 256 ∨ q < thr (n' + k)) := by
  subst he
  unfold step
  rw [← BitVec.ofNat_add]
  by_cases h : thr (n + k) ≤ q
  · refine ⟨n + k, if_pos h, by omega, .inr h, ?_⟩
    rw [show n + k + k = n + 2 * k by omega]
    exact hu
  · exact ⟨n, if_neg h, by omega, hl, .inr (not_le.mp h)⟩

/-- What the search finds: the largest exponent field whose float is at most `q`. -/
theorem field_spec (q : EReal) :
    ∃ n, n ≤ 255 ∧ field q = BitVec.ofNat 32 n ∧ (n = 0 ∨ thr n ≤ q) ∧ (n = 255 ∨ q < thr (n + 1)) := by
  obtain ⟨n7, e7, b7, l7, u7⟩ := step_spec q 0 128 0#32 rfl (by omega) (.inl rfl) (.inl rfl)
  obtain ⟨n6, e6, b6, l6, u6⟩ := step_spec q n7 64 _ e7 b7 l7 u7
  obtain ⟨n5, e5, b5, l5, u5⟩ := step_spec q n6 32 _ e6 b6 l6 u6
  obtain ⟨n4, e4, b4, l4, u4⟩ := step_spec q n5 16 _ e5 b5 l5 u5
  obtain ⟨n3, e3, b3, l3, u3⟩ := step_spec q n4 8 _ e4 b4 l4 u4
  obtain ⟨n2, e2, b2, l2, u2⟩ := step_spec q n3 4 _ e3 b3 l3 u3
  obtain ⟨n1, e1, b1, l1, u1⟩ := step_spec q n2 2 _ e2 b2 l2 u2
  obtain ⟨n0, e0, b0, l0, u0⟩ := step_spec q n1 1 _ e1 b1 l1 u1
  exact ⟨n0, by omega, e0, l0, u0.imp (fun h => by omega) id⟩

/-- The exponent of the scale for the largest magnitude over the largest code, `t`, as the
    reference writes it with logarithms; `L` is the logarithm of two. -/
def expo (L t : EReal) : EReal :=
  if t < Ideal.ofBits .f32 8388608#32 then 0
  else min (Ideal.liftRound Int.floor (Ideal.div (Ideal.log t) L)) (Ideal.ofBits .f32 1122893824#32) + 1

/-- The bits of the search's float for `t`. -/
def bits (t : EReal) : BitVec 32 := field (min t (Ideal.ofBits .f32 2063597568#32)) <<< 23

/-- The bits of 119. -/
theorem f119 : Ideal.ofBits .f32 1122893824#32 = ((119 : ℝ) : EReal) := by
  simp [Ideal.ofBits, Ideal.ieee, -EReal.coe_mul]; norm_num

/-- The whole part of a logarithm to base two. -/
theorem floor_log (r : ℝ) (hr : 0 < r) (k : ℤ) : k ≤ ⌊Real.log r / Real.log 2⌋ ↔ (2:ℝ) ^ k ≤ r := by
  rw [Int.le_floor, le_div_iff₀ (Real.log_pos (by norm_num)), ← Real.log_zpow]
  exact Real.log_le_log_iff (zpow_pos (by norm_num) _) hr

/-- The search and the logarithm find the same exponent. -/
theorem expo_spec (t : EReal) :
    ∃ n, n ≤ 246 ∧ field (min t (Ideal.ofBits .f32 2063597568#32)) = BitVec.ofNat 32 n
      ∧ expo ((Real.log 2 : ℝ) : EReal) t = if n = 0 then 0 else (((n : ℝ) - 126 : ℝ) : EReal) := by
  have c246 : Ideal.ofBits .f32 2063597568#32 = thr 246 := rfl
  have c1 : Ideal.ofBits .f32 8388608#32 = thr 1 := rfl
  unfold expo
  rw [c246, c1, f119]
  obtain ⟨n, hn, hf, hl, hu⟩ := field_spec (min t (thr 246))
  have h246 : n ≤ 246 := by
    by_contra hc
    rcases hl with h | h
    · omega
    · exact absurd (thr_lt 246 n (by omega) (by omega) hn) (not_lt.mpr (h.trans (min_le_right _ _)))
  refine ⟨n, h246, hf, ?_⟩
  by_cases ht : t < thr 1
  · rw [if_pos ht]
    have : n = 0 := by
      rcases hl with h | h
      · exact h
      · by_contra hc
        have h1 : thr n < thr 1 := lt_of_le_of_lt (h.trans (min_le_left _ _)) ht
        rcases Nat.lt_or_ge 1 n with h2 | h2
        · exact absurd (thr_lt 1 n le_rfl h2 hn) (not_lt.mpr h1.le)
        · rw [show n = 1 by omega] at h1
          exact absurd h1 (lt_irrefl _)
    rw [if_pos this]
  · rw [if_neg ht]
    have hn1 : n ≠ 0 := by
      rintro rfl
      rcases hu with h | h
      · omega
      · exact absurd h (not_lt.mpr (le_min (not_lt.mp ht) (thr_lt 1 246 le_rfl (by norm_num) (by norm_num)).le))
    rw [if_neg hn1]
    have hu : min t (thr 246) < thr (n + 1) := hu.resolve_left (by omega)
    have hl : thr n ≤ min t (thr 246) := hl.resolve_left hn1
    rw [thr_eq (n + 1) (by omega) (by omega), thr_eq 246 (by norm_num) (by norm_num)] at hu
    rw [thr_eq n (by omega) (by omega), thr_eq 246 (by norm_num) (by norm_num)] at hl
    rw [thr_eq 1 (by norm_num) (by norm_num)] at ht
    have key : min (Ideal.liftRound Int.floor (Ideal.div (Ideal.log t) ((Real.log 2 : ℝ) : EReal))) ((119 : ℝ) : EReal)
        = (((n : ℝ) - 127 : ℝ) : EReal) := by
      have l2 : (0:ℝ) < Real.log 2 := Real.log_pos (by norm_num)
      have l2' : ((Real.log 2 : ℝ) : EReal) ≠ 0 := by exact_mod_cast l2.ne'
      induction t with
      | bot => exact absurd (EReal.bot_lt_coe _) ht
      | top =>
        have hn246 : n = 246 := by
          by_contra hc
          rw [min_eq_right le_top, EReal.coe_lt_coe_iff, zpow_lt_zpow_iff_right₀ (by norm_num)] at hu
          push_cast at hu
          omega
        have e1 : Ideal.div (Ideal.log ⊤) ((Real.log 2 : ℝ) : EReal) = ⊤ := by
          show Ideal.div ⊤ _ = _
          unfold Ideal.div
          rw [if_neg l2', ← EReal.coe_inv]
          exact EReal.top_mul_coe_of_pos (inv_pos.mpr l2)
        rw [e1, hn246]
        show min ⊤ _ = _
        rw [min_eq_right le_top]
        norm_num
      | coe r =>
        rw [not_lt, EReal.coe_le_coe_iff] at ht
        have hr : 0 < r := lt_of_lt_of_le (zpow_pos (by norm_num) _) ht
        have e1 : Ideal.div (Ideal.log (r : EReal)) ((Real.log 2 : ℝ) : EReal) = ((Real.log r / Real.log 2 : ℝ) : EReal) := by
          unfold Ideal.div
          rw [if_neg l2', Ideal.log_coe, if_neg (not_le.mpr hr), ← EReal.coe_inv, ← EReal.coe_mul, div_eq_mul_inv]
        rw [e1]
        show min (((⌊Real.log r / Real.log 2⌋ : ℤ) : ℝ) : EReal) _ = _
        rw [← EReal.coe_strictMono.monotone.map_min] at hu hl ⊢
        rw [EReal.coe_lt_coe_iff] at hu
        rw [EReal.coe_le_coe_iff] at hl
        refine congrArg Real.toEReal ?_
        have g1 : ((n:ℤ) - 127) ≤ ⌊Real.log r / Real.log 2⌋ := (floor_log r hr _).mpr (hl.trans (min_le_left _ _))
        rcases Nat.lt_or_ge n 246 with h | h
        · have g2 : r < (2:ℝ) ^ (((n + 1 : ℕ) : ℤ) - 127) := by
            rcases min_lt_iff.mp hu with h' | h'
            · exact h'
            · rw [zpow_lt_zpow_iff_right₀ (by norm_num)] at h'
              push_cast at h'
              omega
          have g3 : ¬ (((n + 1 : ℕ) : ℤ) - 127) ≤ ⌊Real.log r / Real.log 2⌋ := fun h' => absurd ((floor_log r hr _).mp h') (not_le.mpr g2)
          have g4 : ⌊Real.log r / Real.log 2⌋ = (n:ℤ) - 127 := by push_cast at g3; omega
          rw [g4, min_eq_left]
          · push_cast; ring
          · have : (n:ℝ) ≤ 246 := by exact_mod_cast h246
            push_cast; linarith
        · have hn246 : n = 246 := by omega
          subst hn246
          rw [min_eq_right]
          · norm_num
          · have : (119 : ℤ) ≤ ⌊Real.log r / Real.log 2⌋ := by push_cast at g1; omega
            exact_mod_cast this
    rw [key, show (1 : EReal) = ((1 : ℝ) : EReal) from rfl, ← EReal.coe_add]
    congr 1
    ring

/-- The exponent words: what shifting, adding and subtracting do to them. -/
theorem words : ∀ n : Fin 247, (n.val ≠ 0 → BitVec.ofNat 32 n.val <<< 23 ≠ 0#32)
    ∧ BitVec.ofNat 32 n.val <<< 23 + 8388608#32 = BitVec.ofNat 32 (n.val + 1) <<< 23
    ∧ 2122317824#32 - BitVec.ofNat 32 n.val <<< 23 = BitVec.ofNat 32 (253 - n.val) <<< 23 := by decide +kernel

/-- The scale of the kernel's bits is the reference's power of two. -/
theorem scale_eq (t : EReal) :
    (if bits t = 0#32 then (1 : EReal) else Ideal.ofBits .f32 (bits t + 8388608#32)) = Ideal.exp2 (expo ((Real.log 2 : ℝ) : EReal) t) := by
  obtain ⟨n, hn, hf, he⟩ := expo_spec t
  obtain ⟨w0, w1, w2⟩ := words ⟨n, by omega⟩
  simp only at w0 w1 w2
  unfold bits
  rw [hf, he]
  by_cases h : n = 0
  · subst h
    rw [if_pos (by decide), if_pos rfl, ← EReal.coe_zero, Ideal.exp2_coe]
    simp
  · rw [if_neg (w0 h), if_neg h, w1, Ideal.exp2_coe]
    show thr (n + 1) = _
    rw [thr_eq (n + 1) (by omega) (by omega), ← Real.rpow_intCast]
    congr 2
    push_cast
    ring

/-- The inverse scale of the kernel's bits is the power of two with the opposite exponent. -/
theorem inv_eq (t : EReal) :
    (if bits t = 0#32 then (1 : EReal) else Ideal.ofBits .f32 (2122317824#32 - bits t)) = Ideal.exp2 (0 - expo ((Real.log 2 : ℝ) : EReal) t) := by
  obtain ⟨n, hn, hf, he⟩ := expo_spec t
  obtain ⟨w0, w1, w2⟩ := words ⟨n, by omega⟩
  simp only at w0 w1 w2
  unfold bits
  rw [hf, he]
  by_cases h : n = 0
  · subst h
    rw [if_pos (by decide), if_pos rfl, sub_zero, ← EReal.coe_zero, Ideal.exp2_coe]
    simp
  · rw [if_neg (w0 h), if_neg h, w2, ← EReal.coe_zero, ← EReal.coe_sub, Ideal.exp2_coe]
    show thr (253 - n) = _
    rw [thr_eq (253 - n) (by omega) (by omega), ← Real.rpow_intCast]
    congr 2
    rw [Nat.cast_sub (by omega)]
    push_cast
    ring

/-- The largest magnitude of a group of 128. -/
def amax (f : Fin 128 → EReal) : EReal :=
  Finset.fold max (Ideal.ofBits .f32 4286578688#32) (fun x => FloatOps.absf (F := Ideal) (φ := .f32) (f x)) Finset.univ

/-- The scale of a group of 128: the power of two one above the whole part of the logarithm of its
    largest magnitude over 448. -/
def scale (f : Fin 128 → EReal) : EReal := Ideal.exp2 (expo ((Real.log 2 : ℝ) : EReal) (amax f * Ideal.ofBits .f32 991054117#32))

/-- The inverse of that scale. -/
def inv (f : Fin 128 → EReal) : EReal := Ideal.exp2 (0 - expo ((Real.log 2 : ℝ) : EReal) (amax f * Ideal.ofBits .f32 991054117#32))

/-- The code of entry `l` of a group of 128. -/
def code (f : Fin 128 → EReal) (l : Fin 128) : EReal :=
  min (Ideal.ofBits .f32 1138753536#32) (max (Ideal.ofBits .f32 3286237184#32) (f l * inv f))

end Cert.Quant
-- ==== Proof.GateUpMath.lean ====
module

public import proofs.«01_k».proof.Proof.Quant

@[expose] public section

noncomputable section

open Idealize.ShloMosaic

namespace Cert.GateUpMath

/-- Entry `(r, n)` of the product of the activations with the weights, each weight multiplied by the
    scale of its 128 x 128 block. -/
def lin (a : (⟨2, ![2048, 5120]⟩ : Shape).Idx → EReal) (w : (⟨2, ![5120, 8704]⟩ : Shape).Idx → EReal)
    (s : (⟨2, ![40, 68]⟩ : Shape).Idx → EReal) (r : Fin 2048) (n : Fin 8704) : EReal :=
  ∑ k : Fin 5120, a (ix2 r k) * (w (ix2 k n) * s (ix2 (⟨k.val / 128, by omega⟩ : Fin 40) (⟨n.val / 128, by omega⟩ : Fin 68)))

/-- The gated activation: the gate half through `x * logistic x`, times the up half. -/
def swi (a : (⟨2, ![2048, 5120]⟩ : Shape).Idx → EReal) (w : (⟨2, ![5120, 8704]⟩ : Shape).Idx → EReal)
    (s : (⟨2, ![40, 68]⟩ : Shape).Idx → EReal) (r : Fin 2048) (n : Fin 4352) : EReal :=
  lin a w s r ⟨n.val, by omega⟩ * Ideal.logistic (lin a w s r ⟨n.val, by omega⟩) * lin a w s r ⟨4352 + n.val, by omega⟩

/-- Group `q` of 128 columns of a row of gated activations. -/
def grp (a : (⟨2, ![2048, 5120]⟩ : Shape).Idx → EReal) (w : (⟨2, ![5120, 8704]⟩ : Shape).Idx → EReal)
    (s : (⟨2, ![40, 68]⟩ : Shape).Idx → EReal) (r : Fin 2048) (q : ℕ) (hq : q < 34) (l : Fin 128) : EReal :=
  swi a w s r ⟨128 * q + l.val, by omega⟩

end Cert.GateUpMath
-- ==== Proof.GateUpValue.lean ====
module

public import proofs.«01_k».proof.Proof.Gen.GateUpIdeal.Value
public import Idealize.ShloMosaic.Lib.Pipeline.ValueKit
public import Idealize.ShloMosaic.Lib.Pipeline.ReadBack
public import Idealize.ShloMosaic.Lib.Pointwise
public import proofs.«01_k».proof.Proof.GateUpMath

@[expose] public section

set_option maxRecDepth 16384

noncomputable section

open Idealize.ShloMosaic Idealize.ShloMosaic.TcCoe Idealize.SL.Sem

namespace Cert.GateUpIdeal.Value

open Cert.GateUpIdeal Cert.GateUpIdeal.Gen

section
variable {F : FTy → Type} [FloatOps F]

/-- One step of the kernel's search for the exponent: take `k` more if the power of two with that
    exponent is still at most `q`. -/
def stepV (k : BitVec 32) (q : FVec F S512x1 .f32) (e : IVec S512x1 32) : IVec S512x1 32 :=
  select (cmpf .ole (bitcastToFloat .f32 (shli (addi e (broadcast S512x1 k)) (broadcast S512x1 23#32))) q) (addi e (broadcast S512x1 k)) e

/-- The exponent bits the kernel finds for every row of `q`. -/
def bitsV (q : FVec F S512x1 .f32) : IVec S512x1 32 :=
  shli (stepV 1#32 q (stepV 2#32 q (stepV 4#32 q (stepV 8#32 q (stepV 16#32 q (stepV 32#32 q (stepV 64#32 q (stepV 128#32 q
    (broadcast S512x1 0#32))))))))) (broadcast S512x1 23#32)

/-- The largest magnitude of every row, divided by the largest code and cut off above. -/
def rowMax (v : FVec F S512x128 .f32) : FVec F S512x1 .f32 :=
  minimumf (mulf (shapeCast S512x1 (multiReduction .maximumf [1] S512 (absf v) 0xFF800000#32 reduces_S512x128_S512 (.inl rfl) rfl) shapeCasts_S512_S512x1)
    (broadcast S512x1 (Scalar.ofBits .f32 0x3B124925#32))) (broadcast S512x1 (Scalar.ofBits .f32 0x7B000000#32))

/-- The scale of every row of a group. -/
def scaleV (v : FVec F S512x128 .f32) : FVec F S512x1 .f32 :=
  select (cmpi .eq (bitsV (rowMax v)) (broadcast S512x1 0#32)) (broadcast S512x1 (Scalar.ofBits .f32 0x3F800000#32))
    (bitcastToFloat .f32 (addi (bitsV (rowMax v)) (broadcast S512x1 8388608#32)))

/-- The inverse of the scale of every row of a group. -/
def invV (v : FVec F S512x128 .f32) : FVec F S512x1 .f32 :=
  select (cmpi .eq (bitsV (rowMax v)) (broadcast S512x1 0#32)) (broadcast S512x1 (Scalar.ofBits .f32 0x3F800000#32))
    (bitcastToFloat .f32 (subi (broadcast S512x1 2122317824#32) (bitsV (rowMax v))))

/-- The codes of a group. -/
def codesV (v : FVec F S512x128 .f32) : FVec F S512x128 .fp8e4m3 :=
  truncf .fp8e4m3 (minimumf (broadcast S512x128 (Scalar.ofBits .f32 0x43E00000#32)) (maximumf (broadcast S512x128 (Scalar.ofBits .f32 0xC3E00000#32))
    (mulf v (broadcastTo S512x128 (invV v) broadcasts_S512x1_S512x128)))) bitsLt_fp8e4m3_f32

/-- A group rounded to its codes and multiplied by its scales again. -/
def actV (v : FVec F S512x128 .f32) : FVec F S512x128 .bf16 :=
  truncf .bf16 (mulf (extf .f32 (codesV v) bitsLt_fp8e4m3_f32) (broadcastTo S512x128 (scaleV v) broadcasts_S512x1_S512x128)) bitsLt_bf16_f32

/-- The gated activations of 512 rows: the two products, and the gate. -/
def gated (a : FVec F S512x5120 .bf16) (g u : FVec F S5120x256 .bf16) : FVec F S512x256 .f32 :=
  have p : FVec F S512x256 .f32 := matmul dot_S512x5120_S5120x256_S512x256_1_0_0_1_n_n none a g (constant S512x256 .f32 0x00000000#32)
  mulf (mulf p (logistic p)) (matmul dot_S512x5120_S5120x256_S512x256_1_0_0_1_n_n none a u (constant S512x256 .f32 0x00000000#32))

/-- One 128 x 128 tile of weights widened. -/
def tile (s : Elt F .f32) (w : Vec F S128x128 .fp8e4m3) : FVec F S128x128 .bf16 :=
  shapeCast S128x128 (mulf (extf .bf16 w bitsLt_fp8e4m3_bf16) (truncf .bf16 (broadcast S128x128 s) bitsLt_bf16_f32)) shapeCasts_S128x128_S128x128

end

/-- The shift by 23 bits, on words. -/
theorem shli23 (x : BitVec 32) : IntOp.shli ArithUnit.vector x 23#32 = x <<< 23 := by
  rfl

/-- A step of the search, entry by entry. -/
theorem stepV_apply (k : BitVec 32) (q : FVec Ideal S512x1 .f32) (e : IVec S512x1 32) (r : Fin 512) (l : Fin 1) :
    stepV k q e (ix2 r l) = Quant.step k (q (ix2 r l)) (e (ix2 r l)) := by
  unfold Quant.step
  pointwise [stepV]
  simp only [shli23]
  rfl

/-- The exponent bits, entry by entry. -/
theorem bitsV_apply (q : FVec Ideal S512x1 .f32) (r : Fin 512) (l : Fin 1) :
    bitsV q (ix2 r l) = Quant.field (q (ix2 r l)) <<< 23 := by
  have h : ∀ e : IVec S512x1 32, shli e (broadcast S512x1 23#32) (ix2 r l) = e (ix2 r l) <<< 23 := fun e => rfl
  have h0 : broadcast S512x1 0#32 (ix2 r l) = 0#32 := rfl
  unfold bitsV Quant.field
  simp only [h, stepV_apply, h0]

/-- The divided largest magnitude, entry by entry. -/
theorem rowMax_apply (v : FVec Ideal S512x128 .f32) (r : Fin 512) (l : Fin 1) :
    rowMax v (ix2 r l) = min (Quant.amax (fun x => v (ix2 r x)) * Ideal.ofBits .f32 991054117#32) (Ideal.ofBits .f32 2063597568#32) := by
  unfold Quant.amax
  pointwise [rowMax]

/-- The exponent bits of a row's largest magnitude. -/
theorem rowBits (v : FVec Ideal S512x128 .f32) (r : Fin 512) (l : Fin 1) :
    bitsV (rowMax v) (ix2 r l) = Quant.bits (Quant.amax (fun x => v (ix2 r x)) * Ideal.ofBits .f32 991054117#32) := by
  rw [bitsV_apply, rowMax_apply]
  rfl

/-- The choice between one and another value by whether the bits are zero. -/
theorem sel (b x : BitVec 32) (y : EReal) : Scalar.select (IntOp.cmpi .eq b 0#32) (1 : EReal) y = if b = 0#32 then 1 else y := by
  unfold Scalar.select IntOp.cmpi
  by_cases h : b = 0#32
  · simp [h]
  · have : (b == 0#32) = false := by simpa using h
    simp [h, this]

/-- The scale the kernel finds is the scale. -/
theorem scaleV_apply (v : FVec Ideal S512x128 .f32) (r : Fin 512) (l : Fin 1) :
    scaleV v (ix2 r l) = Quant.scale (fun x => v (ix2 r x)) := by
  unfold Quant.scale
  rw [← Quant.scale_eq, ← rowBits v r l, ← sel _ 0#32]
  pointwise [scaleV]
  rfl

/-- The inverse the kernel finds is the inverse scale. -/
theorem invV_apply (v : FVec Ideal S512x128 .f32) (r : Fin 512) (l : Fin 1) :
    invV v (ix2 r l) = Quant.inv (fun x => v (ix2 r x)) := by
  unfold Quant.inv
  rw [← Quant.inv_eq, ← rowBits v r l, ← sel _ 0#32]
  pointwise [invV]
  rfl

/-- The kernel's codes are the codes. -/
theorem codesV_apply (v : FVec Ideal S512x128 .f32) (r : Fin 512) (l : Fin 128) :
    codesV v (ix2 r l) = Quant.code (fun x => v (ix2 r x)) l := by
  unfold Quant.code
  rw [← invV_apply v r 0]
  pointwise [codesV]

/-- The kernel's rounded activations are codes times scales. -/
theorem actV_apply (v : FVec Ideal S512x128 .f32) (r : Fin 512) (l : Fin 128) :
    actV v (ix2 r l) = Quant.code (fun x => v (ix2 r x)) l * Quant.scale (fun x => v (ix2 r x)) := by
  rw [← scaleV_apply v r 0, ← codesV_apply v r l]
  pointwise [actV]

/-- A gated activation as the sums over the inner dimension. -/
theorem gated_apply (a : FVec Ideal S512x5120 .bf16) (g u : FVec Ideal S5120x256 .bf16) (r : Fin 512) (n : Fin 256) :
    gated a g u (ix2 r n) = (∑ k : Fin 5120, a (ix2 r k) * g (ix2 k n)) * Ideal.logistic (∑ k : Fin 5120, a (ix2 r k) * g (ix2 k n))
      * ∑ k : Fin 5120, a (ix2 r k) * u (ix2 k n) := by
  pointwise [gated]

/-- An entry of a group of columns. -/
theorem slice_apply (o : ℕ) (v : FVec Ideal S512x256 .f32) (h : S512x256.Slices ![0, o] S512x128) (r : Fin 512) (l : Fin 128) (ho : o + 128 ≤ 256) :
    extractStridedSlice S512x128 ![0, o] v h (ix2 r l) = v (ix2 r (⟨o + l.val, by omega⟩ : Fin 256)) := by
  pointwise []

/-- One half's widened weight block of grid step `i`: entry `(k, n)` is the weight there times the
    scale of its 128 x 128 block, the block's column of scales counted from `b`. -/
def wide (b : ℕ) (hb : b + 2 ≤ 68) (w : FVec Ideal S5120x256 .fp8e4m3) (s : FVec Ideal S40x68 .f32) : FVec Ideal S5120x256 .bf16 :=
  fun y => w y * s (ix2 (⟨(y 0).val / 128, by have := (y 0).isLt; change (y 0).val < 5120 at this; omega⟩ : Fin 40)
    (⟨b + (y 1).val / 128, by have := (y 1).isLt; change (y 1).val < 256 at this; omega⟩ : Fin 68))

/-- The offsets at which the kernel reads a scale of the gate half. -/
def offG (n : ℕ) (i : grid0.Coords) (w : BitVec 32) : Fin 2 → Nat :=
  ![n, (Scalar.indexCast (Scalar.addi (Scalar.muli 2#32 (BitVec.ofNat 32 (i 0).val)) w)).toNat]

/-- The offsets at which the kernel reads a scale of the up half. -/
def offU (n : ℕ) (i : grid0.Coords) (w : BitVec 32) : Fin 2 → Nat :=
  ![n, (Scalar.indexCast (Scalar.addi (Scalar.muli 2#32 (Scalar.addi 17#32 (BitVec.ofNat 32 (i 0).val))) w)).toNat]

/-- The grid has 17 steps. -/
theorem lt17 (i : grid0.Coords) : (i 0).val < 17 := (i 0).isLt

/-- The column at which a scale of the gate half is read. -/
theorem offG_one (n : ℕ) (i : grid0.Coords) (w : BitVec 32) (hw : w.toNat < 2) : offG n i w 1 = 2 * (i 0).val + w.toNat := by
  have h := lt17 i
  show (Scalar.indexCast (Scalar.addi (Scalar.muli 2#32 (BitVec.ofNat 32 (i 0).val)) w)).toNat = _
  simp only [Scalar.indexCast, Scalar.addi, Scalar.muli, IntOp.addi, IntOp.muli]
  rw [BitVec.toNat_add, BitVec.toNat_mul, BitVec.toNat_ofNat, BitVec.toNat_ofNat]
  omega

/-- The column at which a scale of the up half is read. -/
theorem offU_one (n : ℕ) (i : grid0.Coords) (w : BitVec 32) (hw : w.toNat < 2) : offU n i w 1 = 2 * (17 + (i 0).val) + w.toNat := by
  have h := lt17 i
  show (Scalar.indexCast (Scalar.addi (Scalar.muli 2#32 (Scalar.addi 17#32 (BitVec.ofNat 32 (i 0).val))) w)).toNat = _
  simp only [Scalar.indexCast, Scalar.addi, Scalar.muli, IntOp.addi, IntOp.muli]
  rw [BitVec.toNat_add, BitVec.toNat_mul, BitVec.toNat_add, BitVec.toNat_ofNat, BitVec.toNat_ofNat, BitVec.toNat_ofNat]
  omega

/-- One widened 128 x 128 piece is the widened weight block there. -/
theorem tile_eq (B : ℕ) (hB : B + 2 ≤ 68) (arg2 : Memref sig .tc .vmem S5120x256 .fp8e4m3) (harg2 : arg2.IsWhole)
    (arg3 : Memref sig .tc .smem S40x68 .f32) (harg3 : arg3.IsWhole)
    (x1 : Vec Ideal S5120x256 .fp8e4m3) (x2 : Vec Ideal S40x68 .f32) (n v : ℕ) (a b : ℕ)
    (inb : ∀ d, (![a, b] : Fin 2 → ℕ) d + S128x128.size d ≤ S5120x256.size d)
    (o : Fin 2 → ℕ) (inb' : ∀ d, o d + S1x1.size d ≤ S40x68.size d) (h1 : 0 < S1x1.numel)
    (o0 : o 0 = n) (o1 : o 1 = B + v) (hv : v < 2) (ha : a = 128 * n) (hb : b = 128 * v)
    (x : S128x128.Idx) :
    tile (F := Ideal)
        (View.readAt (Elt Ideal) arg3.view (Rect.unit (s := S40x68) o S1x1.size inb').toLoadRect (harg3.unread x2) (Shape.Idx.first h1))
        (View.readAt (Elt Ideal) arg2.view (Rect.unit (s := S5120x256) ![a, b] S128x128.size inb).toLoadRect (harg2.unread x1)) x
      = wide B hB x1 x2 ((Rect.unit (s := S5120x256) ![a, b] S128x128.size inb).emb x) := by
  subst ha hb
  simp only [View.readAt_eq_ld, harg2.read_unread, harg3.read_unread]
  unfold tile
  rw [shapeCast_id]
  show x1 _ * x2 _ = x1 _ * x2 _
  congr 2
  · funext d
    apply Fin.ext
    match d with
    | ⟨0, _⟩ =>
      show o 0 + 0 = (128 * n + 1 * (x 0).val) / 128
      have : (x 0).val < 128 := (x 0).isLt
      rw [o0]
      omega
    | ⟨1, _⟩ =>
      show o 1 + 0 = B + (128 * v + 1 * (x 1).val) / 128
      have : (x 1).val < 128 := (x 1).isLt
      rw [o1]
      omega

/-- One tile of the gate half widened, entry by entry. -/
theorem tileG_eq (i : grid0.Coords) (arg2 : Memref sig .tc .vmem S5120x256 .fp8e4m3) (harg2 : arg2.IsWhole)
    (arg3 : Memref sig .tc .smem S40x68 .f32) (harg3 : arg3.IsWhole)
    (x1 : Vec Ideal S5120x256 .fp8e4m3) (x2 : Vec Ideal S40x68 .f32) (n : ℕ) (w : BitVec 32) (a b : ℕ)
    (inb : ∀ d, (![a, b] : Fin 2 → ℕ) d + S128x128.size d ≤ S5120x256.size d)
    (inb' : ∀ d, offG n i w d + S1x1.size d ≤ S40x68.size d) (h1 : 0 < S1x1.numel)
    (hw : w.toNat < 2) (ha : a = 128 * n) (hb : b = 128 * w.toNat) (x : S128x128.Idx) :
    tile (F := Ideal)
        (View.readAt (Elt Ideal) arg3.view (Rect.unit (s := S40x68) (offG n i w) S1x1.size inb').toLoadRect (harg3.unread x2) (Shape.Idx.first h1))
        (View.readAt (Elt Ideal) arg2.view (Rect.unit (s := S5120x256) ![a, b] S128x128.size inb).toLoadRect (harg2.unread x1)) x
      = wide (2 * (i 0).val) (by have := lt17 i; omega) x1 x2 ((Rect.unit (s := S5120x256) ![a, b] S128x128.size inb).emb x) :=
  tile_eq _ _ arg2 harg2 arg3 harg3 x1 x2 n w.toNat a b inb _ inb' h1 rfl (offG_one n i w hw) hw ha hb x

/-- One tile of the up half widened, entry by entry. -/
theorem tileU_eq (i : grid0.Coords) (arg2 : Memref sig .tc .vmem S5120x256 .fp8e4m3) (harg2 : arg2.IsWhole)
    (arg3 : Memref sig .tc .smem S40x68 .f32) (harg3 : arg3.IsWhole)
    (x1 : Vec Ideal S5120x256 .fp8e4m3) (x2 : Vec Ideal S40x68 .f32) (n : ℕ) (w : BitVec 32) (a b : ℕ)
    (inb : ∀ d, (![a, b] : Fin 2 → ℕ) d + S128x128.size d ≤ S5120x256.size d)
    (inb' : ∀ d, offU n i w d + S1x1.size d ≤ S40x68.size d) (h1 : 0 < S1x1.numel)
    (hw : w.toNat < 2) (ha : a = 128 * n) (hb : b = 128 * w.toNat) (x : S128x128.Idx) :
    tile (F := Ideal)
        (View.readAt (Elt Ideal) arg3.view (Rect.unit (s := S40x68) (offU n i w) S1x1.size inb').toLoadRect (harg3.unread x2) (Shape.Idx.first h1))
        (View.readAt (Elt Ideal) arg2.view (Rect.unit (s := S5120x256) ![a, b] S128x128.size inb).toLoadRect (harg2.unread x1)) x
      = wide (2 * (17 + (i 0).val)) (by have := lt17 i; omega) x1 x2 ((Rect.unit (s := S5120x256) ![a, b] S128x128.size inb).emb x) :=
  tile_eq _ _ arg2 harg2 arg3 harg3 x1 x2 n w.toNat a b inb _ inb' h1 rfl (offU_one n i w hw) hw ha hb x

section
variable (c : Dev nD) (i : grid0.Coords) (arg2 : Memref sig .tc .vmem S5120x256 .fp8e4m3) (harg2 : arg2.IsWhole)
    (arg3 : Memref sig .tc .smem S40x68 .f32) (harg3 : arg3.IsWhole) (arg6 : Memref sig .tc .vmem S5120x256 .bf16)
    (x1 : Vec Ideal S5120x256 .fp8e4m3) (x2 : Vec Ideal S40x68 .f32)

open Idealize.ShloMosaic.View in
/-- Every piece the kernel widens into its gate buffer is the widened weight block there. -/
theorem piecesG : PiecesOf (wide (2 * (i 0).val) (by have := lt17 i; omega) x1 x2) (kernelRun0_A.sl.HS0_80 (F := Ideal) c i arg2 harg2 arg3 harg3 x1 x2) := by
  unfold kernelRun0_A.sl.HS0_80
  repeat refine ⟨fun x => ?_, ?_⟩; exact tileG_eq i arg2 harg2 arg3 harg3 x1 x2 _ _ _ _ _ _ _ (by decide) (by decide) (by decide) x
  exact trivial

open Idealize.ShloMosaic.View in
/-- Every piece the kernel widens into its up buffer is the widened weight block there. -/
theorem piecesU : PiecesOf (wide (2 * (17 + (i 0).val)) (by have := lt17 i; omega) x1 x2) (kernelRun0_A.sl.HS1_80 (F := Ideal) c i arg2 harg2 arg3 harg3 x1 x2) := by
  unfold kernelRun0_A.sl.HS1_80
  repeat refine ⟨fun x => ?_, ?_⟩; exact tileU_eq i arg2 harg2 arg3 harg3 x1 x2 _ _ _ _ _ _ _ (by decide) (by decide) (by decide) x
  exact trivial

/-- What the row chunks load from the gate buffer. -/
theorem loadG : kernelRun0_A.sl.v1764 (F := Ideal) c i arg2 harg2 arg3 harg3 arg6 x1 x2 = wide (2 * (i 0).val) (by have := lt17 i; omega) x1 x2 := by
  unfold kernelRun0_A.sl.v1764
  rw [View.readCov_eq_canon']
  funext y
  refine (View.canon_apply_of_pieces _ _ (piecesG c i arg2 harg2 arg3 harg3 x1 x2).mem _
    (View.cover_of_tiledL (kernelRun0_A.sl.HS0_80 (F := Ideal) c i arg2 harg2 arg3 harg3 x1 x2) S128x128.size (by sl_kernel_rfl) _)).trans
      (congrArg _ (funext fun d => Fin.ext ?_))
  match d with
  | ⟨0, _⟩ => show 0 + 1 * (y 0).val = (y 0).val; omega
  | ⟨1, _⟩ => show 0 + 1 * (y 1).val = (y 1).val; omega

/-- What the row chunks load from the up buffer. -/
theorem loadU : kernelRun0_A.sl.v1766 (F := Ideal) c i arg2 harg2 arg3 harg3 arg6 x1 x2 = wide (2 * (17 + (i 0).val)) (by have := lt17 i; omega) x1 x2 := by
  unfold kernelRun0_A.sl.v1766
  rw [View.readCov_eq_canon']
  funext y
  refine (View.canon_apply_of_pieces _ _ (piecesU c i arg2 harg2 arg3 harg3 x1 x2).mem _
    (View.cover_of_tiledL (kernelRun0_A.sl.HS1_80 (F := Ideal) c i arg2 harg2 arg3 harg3 x1 x2) S128x128.size (by sl_kernel_rfl) _)).trans
      (congrArg _ (funext fun d => Fin.ext ?_))
  match d with
  | ⟨0, _⟩ => show 0 + 1 * (y 0).val = (y 0).val; omega
  | ⟨1, _⟩ => show 0 + 1 * (y 1).val = (y 1).val; omega

end

end Cert.GateUpIdeal.Value

end
-- ==== Proof.GateUpEqs.lean ====
module

public import proofs.«01_k».proof.Proof.GateUpValue

@[expose] public section

set_option maxRecDepth 16384

noncomputable section

open Idealize.ShloMosaic Idealize.ShloMosaic.TcCoe Idealize.SL.Sem

namespace Cert.GateUpIdeal.Value

open Cert.GateUpIdeal Cert.GateUpIdeal.Gen

variable {F : FTy → Type} [FloatOps F] (a : FVec F S512x5120 .bf16) (g u : FVec F S5120x256 .bf16)

/-- The codes the kernel computes from rows 1536 to 2047, group 1 of the block, in the order it computes them. -/
theorem codes_1536_1_eq : (k0_pay288 (k0_pay278 (k0_pay268 a g u)) (k0_pay279 (k0_pay268 a g u)) (k0_pay283 (k0_pay279 (k0_pay268 a g u)) k0_pay280 k0_pay281 k0_pay282) k0_pay284)
    = codesV (extractStridedSlice S512x128 ![0, 128] (gated a g u) slices_S512x256_o0_128_S512x128) := by
  rfl

/-- The codes the kernel computes from rows 1536 to 2047, group 0 of the block, in the order it computes them. -/
theorem codes_1536_0_eq : (k0_pay275 (k0_pay269 a g u) (k0_pay272 (k0_pay270 a g u) (k0_pay271 a g u)) (k0_pay273 (k0_pay270 a g u) (k0_pay271 a g u)))
    = codesV (extractStridedSlice S512x128 ![0, 0] (gated a g u) slices_S512x256_o0_0_S512x128) := by
  rfl

/-- The codes the kernel computes from rows 1024 to 1535, group 1 of the block, in the order it computes them. -/
theorem codes_1024_1_eq : (k0_pay265 (k0_pay258 (k0_pay245 a g u)) (k0_pay259 (k0_pay245 a g u)) (k0_pay260 (k0_pay245 a g u)) k0_pay261)
    = codesV (extractStridedSlice S512x128 ![0, 128] (gated a g u) slices_S512x256_o0_128_S512x128) := by
  rfl

/-- The codes the kernel computes from rows 1024 to 1535, group 0 of the block, in the order it computes them. -/
theorem codes_1024_0_eq : (k0_pay255 (k0_pay246 a g u) (k0_pay247 a g u) (k0_pay249 (k0_pay247 a g u) k0_pay248) (k0_pay250 (k0_pay247 a g u) k0_pay248) (k0_pay251 (k0_pay247 a g u) k0_pay248))
    = codesV (extractStridedSlice S512x128 ![0, 0] (gated a g u) slices_S512x256_o0_0_S512x128) := by
  rfl

/-- The codes the kernel computes from rows 512 to 1023, group 1 of the block, in the order it computes them. -/
theorem codes_512_1_eq : (k0_pay242 (k0_pay234 (k0_pay221 a (k0_pay220 a g) u)) (k0_pay239 (k0_pay235 (k0_pay221 a (k0_pay220 a g) u)) (k0_pay236 (k0_pay221 a (k0_pay220 a g) u)) k0_pay237) (k0_pay240 (k0_pay235 (k0_pay221 a (k0_pay220 a g) u)) (k0_pay236 (k0_pay221 a (k0_pay220 a g) u)) k0_pay237))
    = codesV (extractStridedSlice S512x128 ![0, 128] (gated a g u) slices_S512x256_o0_128_S512x128) := by
  rfl

/-- The codes the kernel computes from rows 512 to 1023, group 0 of the block, in the order it computes them. -/
theorem codes_512_0_eq : (k0_pay230 (k0_pay222 a (k0_pay220 a g) u) (k0_pay223 a (k0_pay220 a g) u) (k0_pay224 a (k0_pay220 a g) u) (k0_pay225 a (k0_pay220 a g) u) (k0_pay226 a (k0_pay220 a g) u))
    = codesV (extractStridedSlice S512x128 ![0, 0] (gated a g u) slices_S512x256_o0_0_S512x128) := by
  rfl

/-- The codes the kernel computes from rows 0 to 511, group 1 of the block, in the order it computes them. -/
theorem codes_0_1_eq : (k0_pay217 (k0_pay207 (k0_pay193 a g u)) (k0_pay211 (k0_pay208 (k0_pay193 a g u)) (k0_pay209 (k0_pay193 a g u)) k0_pay210) (k0_pay212 (k0_pay208 (k0_pay193 a g u)) (k0_pay209 (k0_pay193 a g u)) k0_pay210) (k0_pay213 (k0_pay208 (k0_pay193 a g u)) (k0_pay209 (k0_pay193 a g u)) k0_pay210))
    = codesV (extractStridedSlice S512x128 ![0, 128] (gated a g u) slices_S512x256_o0_128_S512x128) := by
  rfl

/-- The codes the kernel computes from rows 0 to 511, group 0 of the block, in the order it computes them. -/
theorem codes_0_0_eq : (k0_pay204 (k0_pay194 a g u) (k0_pay199 (k0_pay195 a g u) (k0_pay196 a g u) (k0_pay197 a g u) (k0_pay198 a g u)) (k0_pay200 (k0_pay195 a g u) (k0_pay196 a g u) (k0_pay197 a g u) (k0_pay198 a g u)) k0_pay202)
    = codesV (extractStridedSlice S512x128 ![0, 0] (gated a g u) slices_S512x256_o0_0_S512x128) := by
  rfl

/-- The scales the kernel computes from rows 1536 to 2047, group 1 of the block, in the order it computes them. -/
theorem scale_1536_1_eq : (k0_pay290 (k0_pay279 (k0_pay268 a g u)) (k0_pay283 (k0_pay279 (k0_pay268 a g u)) k0_pay280 k0_pay281 k0_pay282) k0_pay284)
    = shapeCast S1x512x1 (scaleV (extractStridedSlice S512x128 ![0, 128] (gated a g u) slices_S512x256_o0_128_S512x128)) shapeCasts_S512x1_S1x512x1 := by
  rfl

/-- The scales the kernel computes from rows 1536 to 2047, group 0 of the block, in the order it computes them. -/
theorem scale_1536_0_eq : (k0_pay277 (k0_pay272 (k0_pay270 a g u) (k0_pay271 a g u)) (k0_pay273 (k0_pay270 a g u) (k0_pay271 a g u)))
    = shapeCast S1x512x1 (scaleV (extractStridedSlice S512x128 ![0, 0] (gated a g u) slices_S512x256_o0_0_S512x128)) shapeCasts_S512x1_S1x512x1 := by
  rfl

/-- The scales the kernel computes from rows 1024 to 1535, group 1 of the block, in the order it computes them. -/
theorem scale_1024_1_eq : (k0_pay267 (k0_pay264 (k0_pay259 (k0_pay245 a g u)) (k0_pay260 (k0_pay245 a g u)) k0_pay261))
    = shapeCast S1x512x1 (scaleV (extractStridedSlice S512x128 ![0, 128] (gated a g u) slices_S512x256_o0_128_S512x128)) shapeCasts_S512x1_S1x512x1 := by
  rfl

/-- The scales the kernel computes from rows 1024 to 1535, group 0 of the block, in the order it computes them. -/
theorem scale_1024_0_eq : (k0_pay257 (k0_pay247 a g u) (k0_pay249 (k0_pay247 a g u) k0_pay248) (k0_pay250 (k0_pay247 a g u) k0_pay248) (k0_pay251 (k0_pay247 a g u) k0_pay248))
    = shapeCast S1x512x1 (scaleV (extractStridedSlice S512x128 ![0, 0] (gated a g u) slices_S512x256_o0_0_S512x128)) shapeCasts_S512x1_S1x512x1 := by
  rfl

/-- The scales the kernel computes from rows 512 to 1023, group 1 of the block, in the order it computes them. -/
theorem scale_512_1_eq : (k0_pay244 (k0_pay241 (k0_pay235 (k0_pay221 a (k0_pay220 a g) u)) (k0_pay236 (k0_pay221 a (k0_pay220 a g) u)) k0_pay237))
    = shapeCast S1x512x1 (scaleV (extractStridedSlice S512x128 ![0, 128] (gated a g u) slices_S512x256_o0_128_S512x128)) shapeCasts_S512x1_S1x512x1 := by
  rfl

/-- The scales the kernel computes from rows 512 to 1023, group 0 of the block, in the order it computes them. -/
theorem scale_512_0_eq : (k0_pay233 (k0_pay229 (k0_pay223 a (k0_pay220 a g) u) (k0_pay224 a (k0_pay220 a g) u) (k0_pay225 a (k0_pay220 a g) u) (k0_pay226 a (k0_pay220 a g) u)))
    = shapeCast S1x512x1 (scaleV (extractStridedSlice S512x128 ![0, 0] (gated a g u) slices_S512x256_o0_0_S512x128)) shapeCasts_S512x1_S1x512x1 := by
  rfl

/-- The scales the kernel computes from rows 0 to 511, group 1 of the block, in the order it computes them. -/
theorem scale_0_1_eq : (k0_pay219 (k0_pay211 (k0_pay208 (k0_pay193 a g u)) (k0_pay209 (k0_pay193 a g u)) k0_pay210) (k0_pay212 (k0_pay208 (k0_pay193 a g u)) (k0_pay209 (k0_pay193 a g u)) k0_pay210) (k0_pay213 (k0_pay208 (k0_pay193 a g u)) (k0_pay209 (k0_pay193 a g u)) k0_pay210))
    = shapeCast S1x512x1 (scaleV (extractStridedSlice S512x128 ![0, 128] (gated a g u) slices_S512x256_o0_128_S512x128)) shapeCasts_S512x1_S1x512x1 := by
  rfl

/-- The scales the kernel computes from rows 0 to 511, group 0 of the block, in the order it computes them. -/
theorem scale_0_0_eq : (k0_pay206 (k0_pay200 (k0_pay195 a g u) (k0_pay196 a g u) (k0_pay197 a g u) (k0_pay198 a g u)) (k0_pay201 (k0_pay195 a g u) (k0_pay196 a g u) (k0_pay197 a g u) (k0_pay198 a g u)))
    = shapeCast S1x512x1 (scaleV (extractStridedSlice S512x128 ![0, 0] (gated a g u) slices_S512x256_o0_0_S512x128)) shapeCasts_S512x1_S1x512x1 := by
  rfl

/-- The rounded activations the kernel computes from rows 1536 to 2047, group 1 of the block, in the order it computes them. -/
theorem act_1536_1_eq : (k0_pay289 (k0_pay278 (k0_pay268 a g u)) (k0_pay279 (k0_pay268 a g u)) (k0_pay283 (k0_pay279 (k0_pay268 a g u)) k0_pay280 k0_pay281 k0_pay282) k0_pay284)
    = actV (extractStridedSlice S512x128 ![0, 128] (gated a g u) slices_S512x256_o0_128_S512x128) := by
  rfl

/-- The rounded activations the kernel computes from rows 1536 to 2047, group 0 of the block, in the order it computes them. -/
theorem act_1536_0_eq : (k0_pay276 (k0_pay269 a g u) (k0_pay272 (k0_pay270 a g u) (k0_pay271 a g u)) (k0_pay273 (k0_pay270 a g u) (k0_pay271 a g u)))
    = actV (extractStridedSlice S512x128 ![0, 0] (gated a g u) slices_S512x256_o0_0_S512x128) := by
  rfl

/-- The rounded activations the kernel computes from rows 1024 to 1535, group 1 of the block, in the order it computes them. -/
theorem act_1024_1_eq : (k0_pay266 (k0_pay258 (k0_pay245 a g u)) (k0_pay259 (k0_pay245 a g u)) (k0_pay260 (k0_pay245 a g u)) k0_pay261)
    = actV (extractStridedSlice S512x128 ![0, 128] (gated a g u) slices_S512x256_o0_128_S512x128) := by
  rfl

/-- The rounded activations the kernel computes from rows 1024 to 1535, group 0 of the block, in the order it computes them. -/
theorem act_1024_0_eq : (k0_pay256 (k0_pay246 a g u) (k0_pay247 a g u) (k0_pay249 (k0_pay247 a g u) k0_pay248) (k0_pay250 (k0_pay247 a g u) k0_pay248) (k0_pay251 (k0_pay247 a g u) k0_pay248))
    = actV (extractStridedSlice S512x128 ![0, 0] (gated a g u) slices_S512x256_o0_0_S512x128) := by
  rfl

/-- The rounded activations the kernel computes from rows 512 to 1023, group 1 of the block, in the order it computes them. -/
theorem act_512_1_eq : (k0_pay243 (k0_pay234 (k0_pay221 a (k0_pay220 a g) u)) (k0_pay239 (k0_pay235 (k0_pay221 a (k0_pay220 a g) u)) (k0_pay236 (k0_pay221 a (k0_pay220 a g) u)) k0_pay237) (k0_pay240 (k0_pay235 (k0_pay221 a (k0_pay220 a g) u)) (k0_pay236 (k0_pay221 a (k0_pay220 a g) u)) k0_pay237) (k0_pay241 (k0_pay235 (k0_pay221 a (k0_pay220 a g) u)) (k0_pay236 (k0_pay221 a (k0_pay220 a g) u)) k0_pay237))
    = actV (extractStridedSlice S512x128 ![0, 128] (gated a g u) slices_S512x256_o0_128_S512x128) := by
  rfl

/-- The rounded activations the kernel computes from rows 512 to 1023, group 0 of the block, in the order it computes them. -/
theorem act_512_0_eq : (k0_pay232 (k0_pay229 (k0_pay223 a (k0_pay220 a g) u) (k0_pay224 a (k0_pay220 a g) u) (k0_pay225 a (k0_pay220 a g) u) (k0_pay226 a (k0_pay220 a g) u)) (k0_pay231 (k0_pay222 a (k0_pay220 a g) u) (k0_pay223 a (k0_pay220 a g) u) (k0_pay224 a (k0_pay220 a g) u) (k0_pay225 a (k0_pay220 a g) u) (k0_pay226 a (k0_pay220 a g) u)))
    = actV (extractStridedSlice S512x128 ![0, 0] (gated a g u) slices_S512x256_o0_0_S512x128) := by
  rfl

/-- The rounded activations the kernel computes from rows 0 to 511, group 1 of the block, in the order it computes them. -/
theorem act_0_1_eq : (k0_pay218 (k0_pay207 (k0_pay193 a g u)) (k0_pay211 (k0_pay208 (k0_pay193 a g u)) (k0_pay209 (k0_pay193 a g u)) k0_pay210) (k0_pay212 (k0_pay208 (k0_pay193 a g u)) (k0_pay209 (k0_pay193 a g u)) k0_pay210) (k0_pay213 (k0_pay208 (k0_pay193 a g u)) (k0_pay209 (k0_pay193 a g u)) k0_pay210))
    = actV (extractStridedSlice S512x128 ![0, 128] (gated a g u) slices_S512x256_o0_128_S512x128) := by
  rfl

/-- The rounded activations the kernel computes from rows 0 to 511, group 0 of the block, in the order it computes them. -/
theorem act_0_0_eq : (k0_pay205 (k0_pay194 a g u) (k0_pay199 (k0_pay195 a g u) (k0_pay196 a g u) (k0_pay197 a g u) (k0_pay198 a g u)) (k0_pay200 (k0_pay195 a g u) (k0_pay196 a g u) (k0_pay197 a g u) (k0_pay198 a g u)) (k0_pay201 (k0_pay195 a g u) (k0_pay196 a g u) (k0_pay197 a g u) (k0_pay198 a g u)) k0_pay202)
    = actV (extractStridedSlice S512x128 ![0, 0] (gated a g u) slices_S512x256_o0_0_S512x128) := by
  rfl

end Cert.GateUpIdeal.Value

end
-- ==== Proof.GateUpOut.lean ====
module

public import proofs.«01_k».proof.Proof.GateUpValue
public import proofs.«01_k».proof.Proof.GateUpEqs

@[expose] public section

set_option maxRecDepth 16384

noncomputable section

open Idealize.ShloMosaic Idealize.ShloMosaic.TcCoe Idealize.SL.Sem

namespace Cert.GateUpIdeal.Value

open Cert.GateUpIdeal Cert.GateUpIdeal.Gen

/-- A gated activation from the two widened weight blocks. -/
def mval (x0 : FVec Ideal S2048x5120 .bf16) (g u : FVec Ideal S5120x256 .bf16) (r : Fin 2048) (n : Fin 256) : EReal :=
  (∑ k : Fin 5120, x0 (ix2 r k) * g (ix2 k n)) * Ideal.logistic (∑ k : Fin 5120, x0 (ix2 r k) * g (ix2 k n))
      * ∑ k : Fin 5120, x0 (ix2 r k) * u (ix2 k n)

/-- Group `q` of 128 columns of a row of them. -/
def mgrp (x0 : FVec Ideal S2048x5120 .bf16) (g u : FVec Ideal S5120x256 .bf16) (r : Fin 2048) (q : ℕ) (hq : q < 2) (l : Fin 128) : EReal :=
  mval x0 g u r ⟨128 * q + l.val, by omega⟩

/-- The codes a grid step leaves in its block. -/
def codesBlock (x0 : FVec Ideal S2048x5120 .bf16) (g u : FVec Ideal S5120x256 .bf16) : FVec Ideal S2048x256 .fp8e4m3 :=
  fun y => Quant.code (mgrp x0 g u (show Fin 2048 from y 0) ((y 1).val / 128) (by have : (y 1).val < 256 := (y 1).isLt; omega)) ⟨(y 1).val % 128, by omega⟩

/-- The activations it leaves: codes times scales. -/
def actBlock (x0 : FVec Ideal S2048x5120 .bf16) (g u : FVec Ideal S5120x256 .bf16) : FVec Ideal S2048x256 .bf16 :=
  fun y => Quant.code (mgrp x0 g u (show Fin 2048 from y 0) ((y 1).val / 128) (by have : (y 1).val < 256 := (y 1).isLt; omega)) ⟨(y 1).val % 128, by omega⟩
    * Quant.scale (mgrp x0 g u (show Fin 2048 from y 0) ((y 1).val / 128) (by have : (y 1).val < 256 := (y 1).isLt; omega))

/-- The scales it leaves. -/
def scaleBlock (x0 : FVec Ideal S2048x5120 .bf16) (g u : FVec Ideal S5120x256 .bf16) : FVec Ideal S1x2048x2 .f32 :=
  fun y => Quant.scale (mgrp x0 g u (show Fin 2048 from y 1) (y 2).val (y 2).isLt)

section
variable (arg1 : Memref sig .tc .vmem S2048x5120 .bf16) (harg1 : arg1.IsWhole) (x0 : Vec Ideal S2048x5120 .bf16)
    (g u g' u' : FVec Ideal S5120x256 .bf16) (hg : g = g') (hu : u = u')
    (r0 o q : ℕ) (hq : q < 2) (ho : o = 128 * q)
    (inb : ∀ d, (![r0, 0] : Fin 2 → ℕ) d + S512x5120.size d ≤ S2048x5120.size d)
    (hs : S512x256.Slices ![0, o] S512x128)

include hg hu hq ho in
/-- The rows of a chunk, group by group. -/
theorem group_eq (r : Fin 512) :
    (fun l : Fin 128 => extractStridedSlice S512x128 ![0, o] (gated (F := Ideal)
        (View.readAt (Elt Ideal) arg1.view (Rect.unit (s := S2048x5120) ![r0, 0] S512x5120.size inb).toLoadRect (harg1.unread x0)) g u) hs (ix2 r l))
      = mgrp x0 g' u' ⟨r0 + r.val, by have h : r0 + 512 ≤ 2048 := inb 0; omega⟩ q hq := by
  subst hg hu ho
  funext l
  rw [slice_apply (128 * q) _ hs r l (by omega), gated_apply]
  simp only [View.readAt_eq_ld, harg1.read_unread]
  have e : ∀ k : Fin 5120, View.ld x0 (Rect.unit (s := S2048x5120) ![r0, 0] S512x5120.size inb) (ix2 r k)
      = x0 (ix2 (⟨r0 + r.val, by have h : r0 + 512 ≤ 2048 := inb 0; omega⟩ : Fin 2048) k) := by
    intro k
    show x0 _ = x0 _
    congr 1
    funext d
    apply Fin.ext
    match d with
    | ⟨0, _⟩ => show r0 + 1 * r.val = r0 + r.val; omega
    | ⟨1, _⟩ => show 0 + 1 * k.val = k.val; omega
  unfold mgrp mval
  simp only [e]

variable (inbo : ∀ d, (![r0, o] : Fin 2 → ℕ) d + S512x128.size d ≤ S2048x256.size d) (x : S512x128.Idx)

include ho in
/-- Where an entry of a chunk lies in the block. -/
theorem emb_eq : (Rect.unit (s := S2048x256) ![r0, o] S512x128.size inbo).emb x
      = ix2 (⟨r0 + (x 0).val, by have h : r0 + 512 ≤ 2048 := inbo 0; have : (x 0).val < 512 := (x 0).isLt; omega⟩ : Fin 2048)
          (⟨128 * q + (x 1).val, by have h : o + 128 ≤ 256 := inbo 1; have : (x 1).val < 128 := (x 1).isLt; omega⟩ : Fin 256) := by
  funext d
  apply Fin.ext
  match d with
  | ⟨0, _⟩ => show r0 + 1 * (x 0).val = r0 + (x 0).val; omega
  | ⟨1, _⟩ => show o + 1 * (x 1).val = 128 * q + (x 1).val; omega

/-- An index of a chunk by its two coordinates. -/
theorem x_eq : x = ix2 (show Fin 512 from x 0) (show Fin 128 from x 1) := by
  funext d
  match d with
  | ⟨0, _⟩ => rfl
  | ⟨1, _⟩ => rfl

/-- The block's code in group `q`, at column `l` of the group. -/
theorem codesBlock_at (r : Fin 2048) (l : Fin 128) (h : 128 * q + l.val < 256) :
    codesBlock x0 g u (ix2 r ⟨128 * q + l.val, h⟩) = Quant.code (mgrp x0 g u r q hq) l := by
  have h1 : (128 * q + l.val) / 128 = q := by omega
  have h2 : (128 * q + l.val) % 128 = l.val := by omega
  show Quant.code (mgrp x0 g u r ((128 * q + l.val) / 128) (by omega)) ⟨(128 * q + l.val) % 128, by omega⟩ = _
  have h3 : ∀ q' (h' : q' < 2), q' = q → mgrp x0 g u r q' h' = mgrp x0 g u r q hq := by rintro _ _ rfl; rfl
  simp only [h3 _ _ h1, h2]

/-- The block's rounded activation in group `q`, at column `l` of the group. -/
theorem actBlock_at (r : Fin 2048) (l : Fin 128) (h : 128 * q + l.val < 256) :
    actBlock x0 g u (ix2 r ⟨128 * q + l.val, h⟩) = Quant.code (mgrp x0 g u r q hq) l * Quant.scale (mgrp x0 g u r q hq) := by
  have h1 : (128 * q + l.val) / 128 = q := by omega
  have h2 : (128 * q + l.val) % 128 = l.val := by omega
  show Quant.code (mgrp x0 g u r ((128 * q + l.val) / 128) (by omega)) ⟨(128 * q + l.val) % 128, by omega⟩
    * Quant.scale (mgrp x0 g u r ((128 * q + l.val) / 128) (by omega)) = _
  have h3 : ∀ q' (h' : q' < 2), q' = q → mgrp x0 g u r q' h' = mgrp x0 g u r q hq := by rintro _ _ rfl; rfl
  simp only [h3 _ _ h1, h2]

include hg hu hq ho in
/-- A chunk's codes of one group are the block's there. -/
theorem codes_piece : codesV (extractStridedSlice S512x128 ![0, o] (gated (F := Ideal)
        (View.readAt (Elt Ideal) arg1.view (Rect.unit (s := S2048x5120) ![r0, 0] S512x5120.size inb).toLoadRect (harg1.unread x0)) g u) hs) x
      = codesBlock x0 g' u' ((Rect.unit (s := S2048x256) ![r0, o] S512x128.size inbo).emb x) := by
  rw [emb_eq r0 o q ho inbo x, codesBlock_at x0 g' u' q hq _ (show Fin 128 from x 1)]
  refine (congrArg _ (x_eq x)).trans ((codesV_apply _ _ _).trans ?_)
  rw [group_eq arg1 harg1 x0 g u g' u' hg hu r0 o q hq ho inb hs]

include hg hu hq ho in
/-- A chunk's activations of one group are the block's there. -/
theorem act_piece : actV (extractStridedSlice S512x128 ![0, o] (gated (F := Ideal)
        (View.readAt (Elt Ideal) arg1.view (Rect.unit (s := S2048x5120) ![r0, 0] S512x5120.size inb).toLoadRect (harg1.unread x0)) g u) hs) x
      = actBlock x0 g' u' ((Rect.unit (s := S2048x256) ![r0, o] S512x128.size inbo).emb x) := by
  rw [emb_eq r0 o q ho inbo x, actBlock_at x0 g' u' q hq _ (show Fin 128 from x 1)]
  refine (congrArg _ (x_eq x)).trans ((actV_apply _ _ _).trans ?_)
  rw [group_eq arg1 harg1 x0 g u g' u' hg hu r0 o q hq ho inb hs]

variable (inbs : ∀ d, (![0, r0, q] : Fin 3 → ℕ) d + S1x512x1.size d ≤ S1x2048x2.size d) (z : S1x512x1.Idx)

include hg hu hq ho in
/-- A chunk's scales of one group are the block's there. -/
theorem scale_piece : shapeCast S1x512x1 (scaleV (extractStridedSlice S512x128 ![0, o] (gated (F := Ideal)
        (View.readAt (Elt Ideal) arg1.view (Rect.unit (s := S2048x5120) ![r0, 0] S512x5120.size inb).toLoadRect (harg1.unread x0)) g u) hs))
          shapeCasts_S512x1_S1x512x1 z
      = scaleBlock x0 g' u' ((Rect.unit (s := S1x2048x2) ![0, r0, q] S1x512x1.size inbs).emb z) := by
  have e : (Rect.unit (s := S1x2048x2) ![0, r0, q] S1x512x1.size inbs).emb z
      = ix3 (0 : Fin 1) (⟨r0 + (z 1).val, by have h : r0 + 512 ≤ 2048 := inb 0; have : (z 1).val < 512 := (z 1).isLt; omega⟩ : Fin 2048) (⟨q, hq⟩ : Fin 2) := by
    funext d
    apply Fin.ext
    match d with
    | ⟨0, _⟩ => show 0 + 1 * (z 0).val = 0; have : (z 0).val < 1 := (z 0).isLt; omega
    | ⟨1, _⟩ => show r0 + 1 * (z 1).val = r0 + (z 1).val; omega
    | ⟨2, _⟩ => show q + 1 * (z 2).val = q; have : (z 2).val < 1 := (z 2).isLt; omega
  have ez : z = ix3 (0 : Fin 1) (show Fin 512 from z 1) (0 : Fin 1) := by
    funext d
    apply Fin.ext
    match d with
    | ⟨0, _⟩ => show (z 0).val = 0; have : (z 0).val < 1 := (z 0).isLt; omega
    | ⟨1, _⟩ => rfl
    | ⟨2, _⟩ => show (z 2).val = 0; have : (z 2).val < 1 := (z 2).isLt; omega
  have cast : ∀ (v : FVec Ideal S512x1 .f32) (r : Fin 512), shapeCast S1x512x1 v shapeCasts_S512x1_S1x512x1 (ix3 (0 : Fin 1) r (0 : Fin 1)) = v (ix2 r (0 : Fin 1)) := by
    intro v r
    pointwise []
  rw [e]
  refine (congrArg _ ez).trans ((cast _ _).trans ((scaleV_apply _ _ _).trans ?_))
  rw [group_eq arg1 harg1 x0 g u g' u' hg hu r0 o q hq ho inb hs]
  rfl

end

variable (m : (ℓ : Loc nD τ sig) → Buf (Elt Ideal) ℓ)

/-- The gate half's widened block at grid step `t`. -/
def wideG (c : Dev nD) (t : Fin cfg0.N) : FVec Ideal S5120x256 .bf16 :=
  wide (2 * (grid0.coords t 0).val) (by have := lt17 (grid0.coords t); omega) (iblk m c 1 t) (iblk m c 3 t)

/-- The up half's. -/
def wideU (c : Dev nD) (t : Fin cfg0.N) : FVec Ideal S5120x256 .bf16 :=
  wide (2 * (17 + (grid0.coords t 0).val)) (by have := lt17 (grid0.coords t); omega) (iblk m c 2 t) (iblk m c 3 t)

/-- The 512 rows of the activations read at row `r0`, as the kernel reads them. -/
abbrev rowsAt (c : Dev nD) (t : Fin cfg0.N) (r0 : ℕ) (inb : ∀ d, (![r0, 0] : Fin 2 → ℕ) d + S512x5120.size d ≤ S2048x5120.size d) : FVec Ideal S512x5120 .bf16 :=
  View.readAt (Elt Ideal) (ms0_0 t).view (Rect.unit (s := S2048x5120) ![r0, 0] S512x5120.size inb).toLoadRect ((hs0_0 t).unread (iblk m c 0 t))

/-- The gate half's widened block, as the kernel reads it back. -/
abbrev gateAt (c : Dev nD) (t : Fin cfg0.N) : FVec Ideal S5120x256 .bf16 :=
  kernelRun0_A.sl.v1764 c (grid0.coords t) (ms0_1 t) (hs0_1 t) (ms0_3 t) (hs0_3 t) scM0_0 (iblk m c 1 t) (iblk m c 3 t)

/-- The up half's. -/
abbrev upAt (c : Dev nD) (t : Fin cfg0.N) : FVec Ideal S5120x256 .bf16 :=
  kernelRun0_A.sl.v1766 c (grid0.coords t) (ms0_2 t) (hs0_2 t) (ms0_3 t) (hs0_3 t) scM0_1 (iblk m c 2 t) (iblk m c 3 t)

/-- What grid step `t` leaves in the codes' buffer. -/
theorem outs_codes (c : Dev nD) (t : Fin cfg0.N) : (outsAt0 m c t).1 = codesBlock (iblk m c 0 t) (wideG m c t) (wideU m c t) := by
  funext y
  have hc := cover0_A_4 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t)
    scM0_0 (Memref.isWhole_whole _) scM0_1 (Memref.isWhole_whole _) (iblk m c 0 t) (iblk m c 1 t) (iblk m c 2 t) (iblk m c 3 t) y
  unfold outsAt0 out0_A_4
  dsimp only
  rw [View.read_writes_junk_eq_canon]
  refine View.canon_apply_of_pieces _ _ (View.PiecesOf.mem ?_) y hc
  unfold kernelRun0_A
  refine ⟨fun x => ?_, fun x => ?_, fun x => ?_, fun x => ?_, fun x => ?_, fun x => ?_, fun x => ?_, fun x => ?_, trivial⟩
  · dsimp only
    exact (congrFun (codes_1536_1_eq (rowsAt m c t 1536 inb_S2048x5120_S512x5120_1536_0) (gateAt m c t) (upAt m c t)) x).trans
      (codes_piece (ms0_0 t) (hs0_0 t) (iblk m c 0 t) (gateAt m c t) (upAt m c t) (wideG m c t) (wideU m c t) (loadG ..) (loadU ..) 1536 128 1 (by decide) (by decide)
        inb_S2048x5120_S512x5120_1536_0 slices_S512x256_o0_128_S512x128 (by decide) x)
  · dsimp only
    exact (congrFun (codes_1536_0_eq (rowsAt m c t 1536 inb_S2048x5120_S512x5120_1536_0) (gateAt m c t) (upAt m c t)) x).trans
      (codes_piece (ms0_0 t) (hs0_0 t) (iblk m c 0 t) (gateAt m c t) (upAt m c t) (wideG m c t) (wideU m c t) (loadG ..) (loadU ..) 1536 0 0 (by decide) (by decide)
        inb_S2048x5120_S512x5120_1536_0 slices_S512x256_o0_0_S512x128 (by decide) x)
  · dsimp only
    exact (congrFun (codes_1024_1_eq (rowsAt m c t 1024 inb_S2048x5120_S512x5120_1024_0) (gateAt m c t) (upAt m c t)) x).trans
      (codes_piece (ms0_0 t) (hs0_0 t) (iblk m c 0 t) (gateAt m c t) (upAt m c t) (wideG m c t) (wideU m c t) (loadG ..) (loadU ..) 1024 128 1 (by decide) (by decide)
        inb_S2048x5120_S512x5120_1024_0 slices_S512x256_o0_128_S512x128 (by decide) x)
  · dsimp only
    exact (congrFun (codes_1024_0_eq (rowsAt m c t 1024 inb_S2048x5120_S512x5120_1024_0) (gateAt m c t) (upAt m c t)) x).trans
      (codes_piece (ms0_0 t) (hs0_0 t) (iblk m c 0 t) (gateAt m c t) (upAt m c t) (wideG m c t) (wideU m c t) (loadG ..) (loadU ..) 1024 0 0 (by decide) (by decide)
        inb_S2048x5120_S512x5120_1024_0 slices_S512x256_o0_0_S512x128 (by decide) x)
  · dsimp only
    exact (congrFun (codes_512_1_eq (rowsAt m c t 512 inb_S2048x5120_S512x5120_512_0) (gateAt m c t) (upAt m c t)) x).trans
      (codes_piece (ms0_0 t) (hs0_0 t) (iblk m c 0 t) (gateAt m c t) (upAt m c t) (wideG m c t) (wideU m c t) (loadG ..) (loadU ..) 512 128 1 (by decide) (by decide)
        inb_S2048x5120_S512x5120_512_0 slices_S512x256_o0_128_S512x128 (by decide) x)
  · dsimp only
    exact (congrFun (codes_512_0_eq (rowsAt m c t 512 inb_S2048x5120_S512x5120_512_0) (gateAt m c t) (upAt m c t)) x).trans
      (codes_piece (ms0_0 t) (hs0_0 t) (iblk m c 0 t) (gateAt m c t) (upAt m c t) (wideG m c t) (wideU m c t) (loadG ..) (loadU ..) 512 0 0 (by decide) (by decide)
        inb_S2048x5120_S512x5120_512_0 slices_S512x256_o0_0_S512x128 (by decide) x)
  · dsimp only
    exact (congrFun (codes_0_1_eq (rowsAt m c t 0 inb_S2048x5120_S512x5120_0_0) (gateAt m c t) (upAt m c t)) x).trans
      (codes_piece (ms0_0 t) (hs0_0 t) (iblk m c 0 t) (gateAt m c t) (upAt m c t) (wideG m c t) (wideU m c t) (loadG ..) (loadU ..) 0 128 1 (by decide) (by decide)
        inb_S2048x5120_S512x5120_0_0 slices_S512x256_o0_128_S512x128 (by decide) x)
  · dsimp only
    exact (congrFun (codes_0_0_eq (rowsAt m c t 0 inb_S2048x5120_S512x5120_0_0) (gateAt m c t) (upAt m c t)) x).trans
      (codes_piece (ms0_0 t) (hs0_0 t) (iblk m c 0 t) (gateAt m c t) (upAt m c t) (wideG m c t) (wideU m c t) (loadG ..) (loadU ..) 0 0 0 (by decide) (by decide)
        inb_S2048x5120_S512x5120_0_0 slices_S512x256_o0_0_S512x128 (by decide) x)

/-- What it leaves in the scales' buffer. -/
theorem outs_scales (c : Dev nD) (t : Fin cfg0.N) : (outsAt0 m c t).2.1 = scaleBlock (iblk m c 0 t) (wideG m c t) (wideU m c t) := by
  funext y
  have hc := cover0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t)
    scM0_0 (Memref.isWhole_whole _) scM0_1 (Memref.isWhole_whole _) (iblk m c 0 t) (iblk m c 1 t) (iblk m c 2 t) (iblk m c 3 t) y
  unfold outsAt0 out0_A_5
  dsimp only
  rw [View.read_writes_junk_eq_canon]
  refine View.canon_apply_of_pieces _ _ (View.PiecesOf.mem ?_) y hc
  unfold kernelRun0_A
  refine ⟨fun x => ?_, fun x => ?_, fun x => ?_, fun x => ?_, fun x => ?_, fun x => ?_, fun x => ?_, fun x => ?_, trivial⟩
  · dsimp only
    exact (congrFun (scale_1536_1_eq (rowsAt m c t 1536 inb_S2048x5120_S512x5120_1536_0) (gateAt m c t) (upAt m c t)) x).trans
      (scale_piece (ms0_0 t) (hs0_0 t) (iblk m c 0 t) (gateAt m c t) (upAt m c t) (wideG m c t) (wideU m c t) (loadG ..) (loadU ..) 1536 128 1 (by decide) (by decide)
        inb_S2048x5120_S512x5120_1536_0 slices_S512x256_o0_128_S512x128 (by decide) x)
  · dsimp only
    exact (congrFun (scale_1536_0_eq (rowsAt m c t 1536 inb_S2048x5120_S512x5120_1536_0) (gateAt m c t) (upAt m c t)) x).trans
      (scale_piece (ms0_0 t) (hs0_0 t) (iblk m c 0 t) (gateAt m c t) (upAt m c t) (wideG m c t) (wideU m c t) (loadG ..) (loadU ..) 1536 0 0 (by decide) (by decide)
        inb_S2048x5120_S512x5120_1536_0 slices_S512x256_o0_0_S512x128 (by decide) x)
  · dsimp only
    exact (congrFun (scale_1024_1_eq (rowsAt m c t 1024 inb_S2048x5120_S512x5120_1024_0) (gateAt m c t) (upAt m c t)) x).trans
      (scale_piece (ms0_0 t) (hs0_0 t) (iblk m c 0 t) (gateAt m c t) (upAt m c t) (wideG m c t) (wideU m c t) (loadG ..) (loadU ..) 1024 128 1 (by decide) (by decide)
        inb_S2048x5120_S512x5120_1024_0 slices_S512x256_o0_128_S512x128 (by decide) x)
  · dsimp only
    exact (congrFun (scale_1024_0_eq (rowsAt m c t 1024 inb_S2048x5120_S512x5120_1024_0) (gateAt m c t) (upAt m c t)) x).trans
      (scale_piece (ms0_0 t) (hs0_0 t) (iblk m c 0 t) (gateAt m c t) (upAt m c t) (wideG m c t) (wideU m c t) (loadG ..) (loadU ..) 1024 0 0 (by decide) (by decide)
        inb_S2048x5120_S512x5120_1024_0 slices_S512x256_o0_0_S512x128 (by decide) x)
  · dsimp only
    exact (congrFun (scale_512_1_eq (rowsAt m c t 512 inb_S2048x5120_S512x5120_512_0) (gateAt m c t) (upAt m c t)) x).trans
      (scale_piece (ms0_0 t) (hs0_0 t) (iblk m c 0 t) (gateAt m c t) (upAt m c t) (wideG m c t) (wideU m c t) (loadG ..) (loadU ..) 512 128 1 (by decide) (by decide)
        inb_S2048x5120_S512x5120_512_0 slices_S512x256_o0_128_S512x128 (by decide) x)
  · dsimp only
    exact (congrFun (scale_512_0_eq (rowsAt m c t 512 inb_S2048x5120_S512x5120_512_0) (gateAt m c t) (upAt m c t)) x).trans
      (scale_piece (ms0_0 t) (hs0_0 t) (iblk m c 0 t) (gateAt m c t) (upAt m c t) (wideG m c t) (wideU m c t) (loadG ..) (loadU ..) 512 0 0 (by decide) (by decide)
        inb_S2048x5120_S512x5120_512_0 slices_S512x256_o0_0_S512x128 (by decide) x)
  · dsimp only
    exact (congrFun (scale_0_1_eq (rowsAt m c t 0 inb_S2048x5120_S512x5120_0_0) (gateAt m c t) (upAt m c t)) x).trans
      (scale_piece (ms0_0 t) (hs0_0 t) (iblk m c 0 t) (gateAt m c t) (upAt m c t) (wideG m c t) (wideU m c t) (loadG ..) (loadU ..) 0 128 1 (by decide) (by decide)
        inb_S2048x5120_S512x5120_0_0 slices_S512x256_o0_128_S512x128 (by decide) x)
  · dsimp only
    exact (congrFun (scale_0_0_eq (rowsAt m c t 0 inb_S2048x5120_S512x5120_0_0) (gateAt m c t) (upAt m c t)) x).trans
      (scale_piece (ms0_0 t) (hs0_0 t) (iblk m c 0 t) (gateAt m c t) (upAt m c t) (wideG m c t) (wideU m c t) (loadG ..) (loadU ..) 0 0 0 (by decide) (by decide)
        inb_S2048x5120_S512x5120_0_0 slices_S512x256_o0_0_S512x128 (by decide) x)

/-- What it leaves in the activations' buffer. -/
theorem outs_act (c : Dev nD) (t : Fin cfg0.N) : (outsAt0 m c t).2.2 = actBlock (iblk m c 0 t) (wideG m c t) (wideU m c t) := by
  funext y
  have hc := cover0_A_6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t)
    scM0_0 (Memref.isWhole_whole _) scM0_1 (Memref.isWhole_whole _) (iblk m c 0 t) (iblk m c 1 t) (iblk m c 2 t) (iblk m c 3 t) y
  unfold outsAt0 out0_A_6
  dsimp only
  rw [View.read_writes_junk_eq_canon]
  refine View.canon_apply_of_pieces _ _ (View.PiecesOf.mem ?_) y hc
  unfold kernelRun0_A
  refine ⟨fun x => ?_, fun x => ?_, fun x => ?_, fun x => ?_, fun x => ?_, fun x => ?_, fun x => ?_, fun x => ?_, trivial⟩
  · dsimp only
    exact (congrFun (act_1536_1_eq (rowsAt m c t 1536 inb_S2048x5120_S512x5120_1536_0) (gateAt m c t) (upAt m c t)) x).trans
      (act_piece (ms0_0 t) (hs0_0 t) (iblk m c 0 t) (gateAt m c t) (upAt m c t) (wideG m c t) (wideU m c t) (loadG ..) (loadU ..) 1536 128 1 (by decide) (by decide)
        inb_S2048x5120_S512x5120_1536_0 slices_S512x256_o0_128_S512x128 (by decide) x)
  · dsimp only
    exact (congrFun (act_1536_0_eq (rowsAt m c t 1536 inb_S2048x5120_S512x5120_1536_0) (gateAt m c t) (upAt m c t)) x).trans
      (act_piece (ms0_0 t) (hs0_0 t) (iblk m c 0 t) (gateAt m c t) (upAt m c t) (wideG m c t) (wideU m c t) (loadG ..) (loadU ..) 1536 0 0 (by decide) (by decide)
        inb_S2048x5120_S512x5120_1536_0 slices_S512x256_o0_0_S512x128 (by decide) x)
  · dsimp only
    exact (congrFun (act_1024_1_eq (rowsAt m c t 1024 inb_S2048x5120_S512x5120_1024_0) (gateAt m c t) (upAt m c t)) x).trans
      (act_piece (ms0_0 t) (hs0_0 t) (iblk m c 0 t) (gateAt m c t) (upAt m c t) (wideG m c t) (wideU m c t) (loadG ..) (loadU ..) 1024 128 1 (by decide) (by decide)
        inb_S2048x5120_S512x5120_1024_0 slices_S512x256_o0_128_S512x128 (by decide) x)
  · dsimp only
    exact (congrFun (act_1024_0_eq (rowsAt m c t 1024 inb_S2048x5120_S512x5120_1024_0) (gateAt m c t) (upAt m c t)) x).trans
      (act_piece (ms0_0 t) (hs0_0 t) (iblk m c 0 t) (gateAt m c t) (upAt m c t) (wideG m c t) (wideU m c t) (loadG ..) (loadU ..) 1024 0 0 (by decide) (by decide)
        inb_S2048x5120_S512x5120_1024_0 slices_S512x256_o0_0_S512x128 (by decide) x)
  · dsimp only
    exact (congrFun (act_512_1_eq (rowsAt m c t 512 inb_S2048x5120_S512x5120_512_0) (gateAt m c t) (upAt m c t)) x).trans
      (act_piece (ms0_0 t) (hs0_0 t) (iblk m c 0 t) (gateAt m c t) (upAt m c t) (wideG m c t) (wideU m c t) (loadG ..) (loadU ..) 512 128 1 (by decide) (by decide)
        inb_S2048x5120_S512x5120_512_0 slices_S512x256_o0_128_S512x128 (by decide) x)
  · dsimp only
    exact (congrFun (act_512_0_eq (rowsAt m c t 512 inb_S2048x5120_S512x5120_512_0) (gateAt m c t) (upAt m c t)) x).trans
      (act_piece (ms0_0 t) (hs0_0 t) (iblk m c 0 t) (gateAt m c t) (upAt m c t) (wideG m c t) (wideU m c t) (loadG ..) (loadU ..) 512 0 0 (by decide) (by decide)
        inb_S2048x5120_S512x5120_512_0 slices_S512x256_o0_0_S512x128 (by decide) x)
  · dsimp only
    exact (congrFun (act_0_1_eq (rowsAt m c t 0 inb_S2048x5120_S512x5120_0_0) (gateAt m c t) (upAt m c t)) x).trans
      (act_piece (ms0_0 t) (hs0_0 t) (iblk m c 0 t) (gateAt m c t) (upAt m c t) (wideG m c t) (wideU m c t) (loadG ..) (loadU ..) 0 128 1 (by decide) (by decide)
        inb_S2048x5120_S512x5120_0_0 slices_S512x256_o0_128_S512x128 (by decide) x)
  · dsimp only
    exact (congrFun (act_0_0_eq (rowsAt m c t 0 inb_S2048x5120_S512x5120_0_0) (gateAt m c t) (upAt m c t)) x).trans
      (act_piece (ms0_0 t) (hs0_0 t) (iblk m c 0 t) (gateAt m c t) (upAt m c t) (wideG m c t) (wideU m c t) (loadG ..) (loadU ..) 0 0 0 (by decide) (by decide)
        inb_S2048x5120_S512x5120_0_0 slices_S512x256_o0_0_S512x128 (by decide) x)

end Cert.GateUpIdeal.Value

end
-- ==== Proof.GateUpFinal.lean ====
module

public import proofs.«01_k».proof.Proof.GateUpOut

@[expose] public section

set_option maxRecDepth 16384

noncomputable section

open Idealize.ShloMosaic Idealize.ShloMosaic.TcCoe Idealize.SL.Sem

namespace Cert.GateUpIdeal.Value

open Cert.GateUpIdeal Cert.GateUpIdeal.Gen

/-- Which block each grid step reads and writes. -/
theorem idx : ∀ t : Fin cfg0.N, win0_0.index t = ![0, 0] ∧ win0_1.index t = ![0, t.val] ∧ win0_2.index t = ![0, 17 + t.val]
    ∧ win0_3.index t = ![0, 0] ∧ win0_4.index t = ![0, t.val] ∧ win0_5.index t = ![t.val, 0, 0] ∧ win0_6.index t = ![0, t.val]
    ∧ (grid0.coords t 0).val = t.val :=
  (by decide +kernel : ∀ t : Fin grid0.N, _)

variable (m : (ℓ : Loc nD τ sig) → Buf (Elt Ideal) ℓ)

/-- The activations, the weights and the scales as the call finds them. -/
abbrev actM (c : Dev nD) : FVec Ideal S2048x5120 .bf16 := m ((c : Thread nD τ).loc main_arg0)
/-- The weights. -/
abbrev wM (c : Dev nD) : FVec Ideal S5120x8704 .fp8e4m3 := m ((c : Thread nD τ).loc main_arg1)
/-- The weights' scales. -/
abbrev sM (c : Dev nD) : FVec Ideal S40x68 .f32 := m ((c : Thread nD τ).loc main_arg2)

/-- The grid has 17 steps. -/
theorem lt17t (t : Fin cfg0.N) : t.val < 17 := t.isLt

/-- Every grid step sees the whole activations. -/
theorem iblk0 (c : Dev nD) (t : Fin cfg0.N) (r : Fin 2048) (k : Fin 5120) :
    (show FVec Ideal S2048x5120 .bf16 from iblk m c 0 t) (ix2 r k) = actM m c (ix2 r k) := by
  blk_point [iblk, V, idx t]

/-- Grid step `t` sees 256 columns of the gate half of the weights. -/
theorem iblk1 (c : Dev nD) (t : Fin cfg0.N) (k : Fin 5120) (n : Fin 256) :
    (show FVec Ideal S5120x256 .fp8e4m3 from iblk m c 1 t) (ix2 k n)
      = wM m c (ix2 k (⟨256 * t.val + n.val, by have := lt17t t; omega⟩ : Fin 8704)) := by
  blk_point [iblk, V, idx t]

/-- Grid step `t` sees 256 columns of the up half of the weights. -/
theorem iblk2 (c : Dev nD) (t : Fin cfg0.N) (k : Fin 5120) (n : Fin 256) :
    (show FVec Ideal S5120x256 .fp8e4m3 from iblk m c 2 t) (ix2 k n)
      = wM m c (ix2 k (⟨4352 + 256 * t.val + n.val, by have := lt17t t; omega⟩ : Fin 8704)) := by
  blk_point [iblk, V, idx t]

/-- Every grid step sees all scales. -/
theorem iblk3 (c : Dev nD) (t : Fin cfg0.N) (k : Fin 40) (n : Fin 68) :
    (show FVec Ideal S40x68 .f32 from iblk m c 3 t) (ix2 k n) = sM m c (ix2 k n) := by
  blk_point [iblk, V, idx t]

/-- An entry of the gate half's widened block, from the arrays the call was given. -/
theorem wideG_apply (c : Dev nD) (t : Fin cfg0.N) (k : Fin 5120) (n : Fin 256) :
    wideG m c t (ix2 k n) = wM m c (ix2 k (⟨256 * t.val + n.val, by have := lt17t t; omega⟩ : Fin 8704))
      * sM m c (ix2 (⟨k.val / 128, by omega⟩ : Fin 40) (⟨(256 * t.val + n.val) / 128, by have := lt17t t; omega⟩ : Fin 68)) := by
  have h := (idx t).2.2.2.2.2.2.2
  refine (congrArg₂ (· * ·) (iblk1 m c t k n) (iblk3 m c t _ _)).trans ?_
  refine congrArg (fun x => _ * sM m c (ix2 _ x)) (Fin.ext ?_)
  show 2 * (grid0.coords t 0).val + n.val / 128 = _
  rw [h]
  show _ = (256 * t.val + n.val) / 128
  omega

/-- An entry of the up half's widened block, from the arrays the call was given. -/
theorem wideU_apply (c : Dev nD) (t : Fin cfg0.N) (k : Fin 5120) (n : Fin 256) :
    wideU m c t (ix2 k n) = wM m c (ix2 k (⟨4352 + 256 * t.val + n.val, by have := lt17t t; omega⟩ : Fin 8704))
      * sM m c (ix2 (⟨k.val / 128, by omega⟩ : Fin 40) (⟨(4352 + 256 * t.val + n.val) / 128, by have := lt17t t; omega⟩ : Fin 68)) := by
  have h := (idx t).2.2.2.2.2.2.2
  refine (congrArg₂ (· * ·) (iblk2 m c t k n) (iblk3 m c t _ _)).trans ?_
  refine congrArg (fun x => _ * sM m c (ix2 _ x)) (Fin.ext ?_)
  show 2 * (17 + (grid0.coords t 0).val) + n.val / 128 = _
  rw [h]
  show _ = (4352 + 256 * t.val + n.val) / 128
  omega

/-- A group of the block of grid step `t` is the group of the whole. -/
theorem mgrp_eq (c : Dev nD) (t : Fin cfg0.N) (r : Fin 2048) (q p : ℕ) (hq : q < 2) (hp : p < 34) (h : p = 2 * t.val + q) :
    mgrp (iblk m c 0 t) (wideG m c t) (wideU m c t) r q hq = GateUpMath.grp (actM m c) (wM m c) (sM m c) r p hp := by
  subst h
  funext l
  have i0 := fun k => iblk0 m c t r k
  have iG := fun k => wideG_apply m c t k ⟨128 * q + l.val, by omega⟩
  have iU := fun k => wideU_apply m c t k ⟨128 * q + l.val, by omega⟩
  have e1 : 256 * t.val + (128 * q + l.val) = 128 * (2 * t.val + q) + l.val := by omega
  have e2 : 4352 + 256 * t.val + (128 * q + l.val) = 4352 + (128 * (2 * t.val + q) + l.val) := by omega
  simp only [e1] at iG
  simp only [e2] at iU
  unfold mgrp mval GateUpMath.grp GateUpMath.swi GateUpMath.lin
  simp only [iG, iU]
  refine congrArg₂ (· * ·) (congrArg₂ (· * ·) ?_ (congrArg _ ?_)) ?_ <;>
    exact Finset.sum_congr rfl fun k _ => congrArg (· * _) (i0 k)

/-- A code of the block of grid step `t` is the code of the whole at the same place. -/
theorem code_congr (c : Dev nD) (t : Fin cfg0.N) (r r' : Fin 2048) (q p l l' : ℕ) (hq : q < 2) (hp : p < 34) (hl : l < 128) (hl' : l' < 128)
    (hr : r'.val = r.val) (h : p = 2 * t.val + q) (e : l' = l) :
    Quant.code (mgrp (iblk m c 0 t) (wideG m c t) (wideU m c t) r q hq) ⟨l, hl⟩
      = Quant.code (GateUpMath.grp (actM m c) (wM m c) (sM m c) r' p hp) ⟨l', hl'⟩ := by
  obtain rfl := Fin.ext hr
  subst e
  rw [mgrp_eq m c t _ q p hq hp h]

/-- A scale of the block of grid step `t` is the scale of the whole at the same place. -/
theorem scale_congr (c : Dev nD) (t : Fin cfg0.N) (r r' : Fin 2048) (q p : ℕ) (hq : q < 2) (hp : p < 34)
    (hr : r'.val = r.val) (h : p = 2 * t.val + q) :
    Quant.scale (mgrp (iblk m c 0 t) (wideG m c t) (wideU m c t) r q hq)
      = Quant.scale (GateUpMath.grp (actM m c) (wM m c) (sM m c) r' p hp) := by
  obtain rfl := Fin.ext hr
  rw [mgrp_eq m c t _ q p hq hp h]

/-- The codes after the run. -/
theorem final4 (c : Dev nD) (r : Fin 2048) (n : Fin 4352) :
    (dats m 0 c).arrAt 4 cfg0.N (ix2 r n)
      = Quant.code (GateUpMath.grp (actM m c) (wM m c) (sM m c) r (n.val / 128) (by omega)) ⟨n.val % 128, by omega⟩ := by
  refine congrFun ((dats m 0 c).arrAt_eq_of_covers 4 (fun y => Quant.code (GateUpMath.grp (actM m c) (wM m c) (sM m c)
    (show Fin 2048 from y 0) ((y 1).val / 128) (by have : (y 1).val < 4352 := (y 1).isLt; omega)) ⟨(y 1).val % 128, by omega⟩)
    (by decide +kernel) fun t _ y => ?_) (ix2 r n)
  have e0 : (((cfg0.win 4).blk t).view.emb y 0).val = (y 0).val := by
    blk_simp
    simp [idx t]
  have e1 : (((cfg0.win 4).blk t).view.emb y 1).val = t.val * 256 + (y 1).val := by
    blk_simp
    simp [idx t]
  blk_simp
  rw [after0_4, outs_codes]
  exact code_congr m c t _ _ _ _ _ _ _ _ _ _ e0 (by rw [e1]; omega) (by omega)

/-- The scales after the run. -/
theorem final5 (c : Dev nD) (j : Fin 17) (r : Fin 2048) (x : Fin 2) :
    (dats m 0 c).arrAt 5 cfg0.N (ix3 j r x)
      = Quant.scale (GateUpMath.grp (actM m c) (wM m c) (sM m c) r (2 * j.val + x.val) (by omega)) := by
  refine congrFun ((dats m 0 c).arrAt_eq_of_covers 5 (fun y => Quant.scale (GateUpMath.grp (actM m c) (wM m c) (sM m c)
    (show Fin 2048 from y 1) (2 * (y 0).val + (y 2).val) (by have : (y 0).val < 17 := (y 0).isLt; have : (y 2).val < 2 := (y 2).isLt; omega)))
    (by decide +kernel) fun t _ y => ?_) (ix3 j r x)
  have e0 : (((cfg0.win 5).blk t).view.emb y 0).val = t.val := by
    blk_simp
    have : (y 0).val < 1 := (y 0).isLt
    simp [idx t]
  have e1 : (((cfg0.win 5).blk t).view.emb y 1).val = (y 1).val := by
    blk_simp
    simp [idx t]
  have e2 : (((cfg0.win 5).blk t).view.emb y 2).val = (y 2).val := by
    blk_simp
    simp [idx t]
  blk_simp
  rw [after0_5, outs_scales]
  exact scale_congr m c t _ _ _ _ _ _ e1 (by rw [e0, e2])

/-- The rounded activations after the run. -/
theorem final6 (c : Dev nD) (r : Fin 2048) (n : Fin 4352) :
    (dats m 0 c).arrAt 6 cfg0.N (ix2 r n)
      = Quant.code (GateUpMath.grp (actM m c) (wM m c) (sM m c) r (n.val / 128) (by omega)) ⟨n.val % 128, by omega⟩
        * Quant.scale (GateUpMath.grp (actM m c) (wM m c) (sM m c) r (n.val / 128) (by omega)) := by
  refine congrFun ((dats m 0 c).arrAt_eq_of_covers 6 (fun y => Quant.code (GateUpMath.grp (actM m c) (wM m c) (sM m c)
    (show Fin 2048 from y 0) ((y 1).val / 128) (by have : (y 1).val < 4352 := (y 1).isLt; omega)) ⟨(y 1).val % 128, by omega⟩
      * Quant.scale (GateUpMath.grp (actM m c) (wM m c) (sM m c) (show Fin 2048 from y 0) ((y 1).val / 128)
        (by have : (y 1).val < 4352 := (y 1).isLt; omega)))
    (by decide +kernel) fun t _ y => ?_) (ix2 r n)
  have e0 : (((cfg0.win 6).blk t).view.emb y 0).val = (y 0).val := by
    blk_simp
    simp [idx t]
  have e1 : (((cfg0.win 6).blk t).view.emb y 1).val = t.val * 256 + (y 1).val := by
    blk_simp
    simp [idx t]
  blk_simp
  rw [after0_6, outs_act]
  exact congrArg₂ (· * ·) (code_congr m c t _ _ _ _ _ _ _ _ _ _ e0 (by rw [e1]; omega) (by omega))
    (scale_congr m c t _ _ _ _ _ _ e0 (by rw [e1]; omega))

end Cert.GateUpIdeal.Value

end
-- ==== Proof.GateUpRefValue.lean ====
module

public import proofs.«01_k».proof.Proof.Gen.GateUpRefIdeal.Value
public import Idealize.ShloMosaic.Lib.Pipeline.ValueKit
public import Idealize.ShloMosaic.Lib.Pointwise
public import proofs.«01_k».proof.Proof.GateUpMath

@[expose] public section

set_option maxRecDepth 16384

noncomputable section

open Idealize.ShloMosaic Idealize.ShloMosaic.TcCoe Idealize.SL.Sem

namespace Cert.GateUpRefIdeal.Value

open Cert.GateUpRefIdeal Cert.GateUpRefIdeal.Gen Cert.GateUpMath

section
variable {F : FTy → Type} [FloatOps F] [Named F]

/-- The largest magnitude of every group of 128 of `v`. -/
def amax (v : FVec F S2048x17x2x128 .f32) : FVec F S2048x17x2 .f32 :=
  multiReduction .maximumf [3] S2048x17x2 (absf v) 0xFF800000#32 reduces_S2048x17x2x128_S2048x17x2 (.inl rfl) rfl

/-- The reference's exponents for the largest magnitudes `u`. -/
def expo (u : FVec F S2048x17x2 .f32) : FVec F S2048x17x2 .f32 :=
  have t : FVec F S2048x17x2 .f32 := mulf u (broadcast S2048x17x2 (Scalar.ofBits .f32 0x3B124925#32))
  select (cmpf .olt t (broadcast S2048x17x2 (Scalar.ofBits .f32 0x00800000#32))) (broadcast S2048x17x2 (Scalar.ofBits .f32 0x00000000#32))
    (addf (minimumf (floor (divf (log t) (broadcast S2048x17x2 (Named.named κ "ln2" 0x3F317218#32)))) (broadcast S2048x17x2 (Scalar.ofBits .f32 0x42EE0000#32)))
      (broadcast S2048x17x2 (Scalar.ofBits .f32 0x3F800000#32)))

/-- The groups of `v` divided by the scales of exponent `e`, cut off below. -/
def scaled (v : FVec F S2048x17x2x128 .f32) (e : FVec F S2048x17x2 .f32) : FVec F S2048x17x2x128 .f32 :=
  maximumf (broadcast S2048x17x2x128 (Scalar.ofBits .f32 0xC3E00000#32))
    (mulf v (broadcastTo S2048x17x2x128 (shapeCast S2048x17x2x1 (exp2 (subf (broadcast S2048x17x2 (Scalar.ofBits .f32 0x00000000#32)) e))
      shapeCasts_S2048x17x2_S2048x17x2x1) broadcasts_S2048x17x2x1_S2048x17x2x128))

/-- The reference's exponents, in the terms defined above. -/
theorem pay6_eq (a : FVec F S2048x5120 .bf16) (w : FVec F S5120x8704 .fp8e4m3) (s : FVec F S40x68 .f32) :
    k0_pay6 a w s = expo (amax (k0_pay5 a w s)) := rfl

/-- The reference's scaled values, in the terms defined above. -/
theorem pay8_eq (a : FVec F S2048x5120 .bf16) (w : FVec F S5120x8704 .fp8e4m3) (s : FVec F S40x68 .f32) :
    k0_pay8 a w s = scaled (k0_pay5 a w s) (k0_pay6 a w s) := rfl

/-- The reference's scales, in the terms defined above. -/
theorem pay7_eq (a : FVec F S2048x5120 .bf16) (w : FVec F S5120x8704 .fp8e4m3) (s : FVec F S40x68 .f32) :
    k0_pay7 a w s = exp2 (k0_pay6 a w s) := rfl

end

/-- A power of two, entry by entry. -/
theorem exp2_apply (e : FVec Ideal S2048x17x2 .f32) (i : S2048x17x2.Idx) : exp2 e i = Ideal.exp2 (e i) := rfl

/-- The largest magnitude of a group. -/
theorem amax_apply (v : FVec Ideal S2048x17x2x128 .f32) (r : Fin 2048) (j : Fin 17) (x : Fin 2) :
    amax v (ix3 r j x) = Quant.amax fun l => v (ix4 r j x l) := by
  unfold Quant.amax
  pointwise [amax]

/-- The named constant is the logarithm of two. -/
theorem ln2 : (Named.named (F := Ideal) κ "ln2" (φ := .f32) 1060205080#32) = ((Real.log 2 : ℝ) : EReal) := by
  rfl

/-- The exponent of a group. -/
theorem expo_apply (u : FVec Ideal S2048x17x2 .f32) (r : Fin 2048) (j : Fin 17) (x : Fin 2) :
    expo u (ix3 r j x) = Quant.expo ((Real.log 2 : ℝ) : EReal) (u (ix3 r j x) * Ideal.ofBits .f32 991054117#32) := by
  rw [← ln2]
  unfold Quant.expo
  pointwise [expo]

/-- A value divided by its scale. -/
theorem scaled_apply (v : FVec Ideal S2048x17x2x128 .f32) (e : FVec Ideal S2048x17x2 .f32) (r : Fin 2048) (j : Fin 17) (x : Fin 2)
    (l : Fin 128) : scaled v e (ix4 r j x l) = max (Ideal.ofBits .f32 3286237184#32) (v (ix4 r j x l) * Ideal.exp2 (0 - e (ix3 r j x))) := by
  pointwise [scaled]
  rfl

/-- A code, entry by entry. -/
theorem pay2_apply (t : EReal) (v : FVec Ideal S2048x17x2x128 .f32) (r : Fin 2048) (n : Fin 4352) :
    k0_pay2 (F := Ideal) t v (ix2 r n) = min t (v (ix4 r (⟨n.val / 256, by omega⟩ : Fin 17) (⟨n.val / 128 % 2, by omega⟩ : Fin 2) (⟨n.val % 128, by omega⟩ : Fin 128))) := by
  pointwise [k0_pay2, k0_pay1]

/-- A rounded activation, entry by entry. -/
theorem pay4_apply (t : EReal) (v : FVec Ideal S2048x17x2x128 .f32) (e : FVec Ideal S2048x17x2 .f32) (r : Fin 2048) (n : Fin 4352) :
    k0_pay4 (F := Ideal) e t v (ix2 r n) = min t (v (ix4 r (⟨n.val / 256, by omega⟩ : Fin 17) (⟨n.val / 128 % 2, by omega⟩ : Fin 2) (⟨n.val % 128, by omega⟩ : Fin 128)))
      * e (ix3 r (⟨n.val / 256, by omega⟩ : Fin 17) (⟨n.val / 128 % 2, by omega⟩ : Fin 2)) := by
  pointwise [k0_pay4, k0_pay1]

/-- A scale, entry by entry. -/
theorem pay3_apply (e : FVec Ideal S2048x17x2 .f32) (r : Fin 2048) (j : Fin 17) (x : Fin 2) :
    k0_pay3 (F := Ideal) e (ix3 j r x) = e (ix3 r j x) := by
  pointwise [k0_pay3]

section
variable (a : FVec Ideal S2048x5120 .bf16) (w : FVec Ideal S5120x8704 .fp8e4m3) (s : FVec Ideal S40x68 .f32)

/-- A gated activation of the reference, as the sum over the inner dimension. -/
theorem pay5_apply (r : Fin 2048) (j : Fin 17) (x : Fin 2) (l : Fin 128) :
    k0_pay5 (F := Ideal) a w s (ix4 r j x l) = grp a w s r (2 * j.val + x.val) (by omega) l := by
  have e : ∀ n : ℕ, n = 128 * (2 * j.val + x.val) + l.val → (j.val * 256 + x.val * 128 + l.val) / 128 * 128 + l.val = n := by
    intro n; omega
  have e' : ∀ n : ℕ, n = 4352 + (128 * (2 * j.val + x.val) + l.val) → (4352 + (j.val * 256 + x.val * 128 + l.val)) / 128 * 128 + l.val = n := by
    intro n; omega
  have f : ∀ n : ℕ, n = 128 * (2 * j.val + x.val) + l.val → (j.val * 256 + x.val * 128 + l.val) / 128 = n / 128 := by
    intro n; omega
  have f' : ∀ n : ℕ, n = 4352 + (128 * (2 * j.val + x.val) + l.val) → (4352 + (j.val * 256 + x.val * 128 + l.val)) / 128 = n / 128 := by
    intro n; omega
  have g : (128 * (2 * j.val + x.val) + l.val) / 128 * 128 + l.val = 128 * (2 * j.val + x.val) + l.val := by omega
  have g' : (4352 + (128 * (2 * j.val + x.val) + l.val)) / 128 * 128 + l.val = 4352 + (128 * (2 * j.val + x.val) + l.val) := by omega
  unfold grp swi lin
  pointwise [k0_pay5]
  simp only [e _ rfl, e' _ rfl, f _ rfl, f' _ rfl, g, g']

/-- The reference's codes. -/
theorem codes_apply (r : Fin 2048) (n : Fin 4352) :
    k0_pay2 (F := Ideal) (Ideal.ofBits .f32 0x43E00000#32) (k0_pay8 a w s) (ix2 r n)
      = Quant.code (grp a w s r (n.val / 128) (by omega)) ⟨n.val % 128, by omega⟩ := by
  have h : 2 * (n.val / 256) + n.val / 128 % 2 = n.val / 128 := by omega
  rw [pay2_apply, pay8_eq, scaled_apply, pay6_eq, expo_apply, amax_apply]
  simp only [pay5_apply, h]
  rfl

/-- The reference's rounded activations. -/
theorem act_apply (r : Fin 2048) (n : Fin 4352) :
    k0_pay4 (F := Ideal) (k0_pay7 a w s) (Ideal.ofBits .f32 0x43E00000#32) (k0_pay8 a w s) (ix2 r n)
      = Quant.code (grp a w s r (n.val / 128) (by omega)) ⟨n.val % 128, by omega⟩ * Quant.scale (grp a w s r (n.val / 128) (by omega)) := by
  have h : 2 * (n.val / 256) + n.val / 128 % 2 = n.val / 128 := by omega
  rw [pay4_apply, pay8_eq, scaled_apply, pay7_eq, exp2_apply, pay6_eq, expo_apply, amax_apply]
  simp only [pay5_apply, h]
  rfl

/-- The reference's scales. -/
theorem scales_apply (j : Fin 17) (r : Fin 2048) (x : Fin 2) :
    k0_pay3 (F := Ideal) (k0_pay7 a w s) (ix3 j r x) = Quant.scale (grp a w s r (2 * j.val + x.val) (by omega)) := by
  rw [pay3_apply, pay7_eq, exp2_apply, pay6_eq, expo_apply, amax_apply]
  simp only [pay5_apply]
  rfl

end

section
variable (a : Vec Ideal S2048x5120 .bf16) (w : Vec Ideal S5120x8704 .fp8e4m3) (s : Vec Ideal S40x68 .f32)

/-- A load of the whole array is the array. -/
theorem whole0 : View.ld a r0_0 = a :=
  View.ld_unit_zero (by funext d; match d with | ⟨0, _⟩ => rfl | ⟨1, _⟩ => rfl) _ _
/-- A load of the whole array is the array. -/
theorem whole1 : View.ld w r0_1 = w :=
  View.ld_unit_zero (by funext d; match d with | ⟨0, _⟩ => rfl | ⟨1, _⟩ => rfl) _ _
/-- A load of the whole array is the array. -/
theorem whole2 : View.ld s r0_2 = s :=
  View.ld_unit_zero (by funext d; match d with | ⟨0, _⟩ => rfl | ⟨1, _⟩ => rfl) _ _

/-- The same with the loads of the whole arrays. -/
theorem pay9_eq : k0_pay9 (F := Ideal) a w s = k0_pay7 a w s := by
  unfold k0_pay9
  rw [whole0, whole1, whole2]

/-- The same with the loads of the whole arrays. -/
theorem pay10_eq : k0_pay10 (F := Ideal) a w s = k0_pay8 a w s := by
  unfold k0_pay10
  rw [whole0, whole1, whole2]

/-- A result array without the loads. -/
theorem G3_eq : G3 (F := Ideal) a w s = k0_pay2 (Ideal.ofBits .f32 0x43E00000#32) (k0_pay8 a w s) := by
  rw [← pay10_eq]
  rfl

/-- A result array without the loads. -/
theorem G4_eq : G4 (F := Ideal) a w s = k0_pay3 (k0_pay7 a w s) := by
  rw [← pay9_eq]

/-- A result array without the loads. -/
theorem G5_eq : G5 (F := Ideal) a w s = k0_pay4 (k0_pay7 a w s) (Ideal.ofBits .f32 0x43E00000#32) (k0_pay8 a w s) := by
  rw [← pay9_eq, ← pay10_eq]
  rfl

end

end Cert.GateUpRefIdeal.Value

end
-- ==== Proof.GateUpAlg.lean ====
module

public import proofs.«01_k».proof.Proof.GateUpFinal
public import proofs.«01_k».proof.Proof.GateUpRefValue

@[expose] public section

set_option maxRecDepth 16384

noncomputable section

open Idealize.ShloMosaic Idealize.ShloMosaic.TcCoe Idealize.SL.Sem

namespace Cert.GateUpProof

variable (m : (ℓ : Loc Cert.GateUpIdeal.nD Cert.GateUpIdeal.τ Cert.GateUpIdeal.sig) → Buf (Elt Ideal) ℓ)
    (m' : (ℓ : Loc Cert.GateUpRefIdeal.nD Cert.GateUpRefIdeal.τ Cert.GateUpRefIdeal.sig) → Buf (Elt Ideal) ℓ)
    (c : Dev Cert.GateUpIdeal.nD)
    (h0 : m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0))
    (h1 : m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1))
    (h2 : m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2))

include h0 h1 h2 in
/-- From memories that agree on the arguments, the reference's codes are the kernel's. -/
theorem codes_eq : Cert.GateUpRefIdeal.Value.G3 (F := Ideal)
        (m' ((c.tc : Thread Cert.GateUpRefIdeal.nD Cert.GateUpRefIdeal.τ).loc Cert.GateUpRefIdeal.main_arg0))
        (m' ((c.tc : Thread Cert.GateUpRefIdeal.nD Cert.GateUpRefIdeal.τ).loc Cert.GateUpRefIdeal.main_arg1))
        (m' ((c.tc : Thread Cert.GateUpRefIdeal.nD Cert.GateUpRefIdeal.τ).loc Cert.GateUpRefIdeal.main_arg2))
      = (Cert.GateUpIdeal.Gen.dats m 0 c).arrAt 4 Cert.GateUpIdeal.cfg0.N := by
  rw [h0, h1, h2, Cert.GateUpRefIdeal.Value.G3_eq]
  funext y
  have e : y = ix2 (show Fin 2048 from y 0) (show Fin 4352 from y 1) := by
    funext d
    match d with
    | ⟨0, _⟩ => rfl
    | ⟨1, _⟩ => rfl
  rw [e]
  exact (Cert.GateUpRefIdeal.Value.codes_apply _ _ _ _ _).trans (Cert.GateUpIdeal.Value.final4 m c _ _).symm

include h0 h1 h2 in
/-- From memories that agree on the arguments, the reference's scales are the kernel's. -/
theorem scales_eq : Cert.GateUpRefIdeal.Value.G4 (F := Ideal)
        (m' ((c.tc : Thread Cert.GateUpRefIdeal.nD Cert.GateUpRefIdeal.τ).loc Cert.GateUpRefIdeal.main_arg0))
        (m' ((c.tc : Thread Cert.GateUpRefIdeal.nD Cert.GateUpRefIdeal.τ).loc Cert.GateUpRefIdeal.main_arg1))
        (m' ((c.tc : Thread Cert.GateUpRefIdeal.nD Cert.GateUpRefIdeal.τ).loc Cert.GateUpRefIdeal.main_arg2))
      = (Cert.GateUpIdeal.Gen.dats m 0 c).arrAt 5 Cert.GateUpIdeal.cfg0.N := by
  rw [h0, h1, h2, Cert.GateUpRefIdeal.Value.G4_eq]
  funext y
  have e : y = ix3 (show Fin 17 from y 0) (show Fin 2048 from y 1) (show Fin 2 from y 2) := by
    funext d
    match d with
    | ⟨0, _⟩ => rfl
    | ⟨1, _⟩ => rfl
    | ⟨2, _⟩ => rfl
  rw [e]
  exact (Cert.GateUpRefIdeal.Value.scales_apply _ _ _ _ _ _).trans (Cert.GateUpIdeal.Value.final5 m c _ _ _).symm

include h0 h1 h2 in
/-- From memories that agree on the arguments, the reference's rounded activations are the kernel's. -/
theorem act_eq : Cert.GateUpRefIdeal.Value.G5 (F := Ideal)
        (m' ((c.tc : Thread Cert.GateUpRefIdeal.nD Cert.GateUpRefIdeal.τ).loc Cert.GateUpRefIdeal.main_arg0))
        (m' ((c.tc : Thread Cert.GateUpRefIdeal.nD Cert.GateUpRefIdeal.τ).loc Cert.GateUpRefIdeal.main_arg1))
        (m' ((c.tc : Thread Cert.GateUpRefIdeal.nD Cert.GateUpRefIdeal.τ).loc Cert.GateUpRefIdeal.main_arg2))
      = (Cert.GateUpIdeal.Gen.dats m 0 c).arrAt 6 Cert.GateUpIdeal.cfg0.N := by
  rw [h0, h1, h2, Cert.GateUpRefIdeal.Value.G5_eq]
  funext y
  have e : y = ix2 (show Fin 2048 from y 0) (show Fin 4352 from y 1) := by
    funext d
    match d with
    | ⟨0, _⟩ => rfl
    | ⟨1, _⟩ => rfl
  rw [e]
  exact (Cert.GateUpRefIdeal.Value.act_apply _ _ _ _ _).trans (Cert.GateUpIdeal.Value.final6 m c _ _).symm

end Cert.GateUpProof

end
-- ==== Proof.NormQuantEqs.lean ====
module

public import proofs.«01_k».proof.Proof.Gen.NormQuantIdeal.Value
public import Idealize.ShloMosaic.Lib.Pipeline.ValueKit
public import Idealize.ShloMosaic.Lib.Pipeline.ReadBack

@[expose] public section

set_option maxRecDepth 65536

noncomputable section

open Idealize.ShloMosaic Idealize.ShloMosaic.TcCoe Idealize.SL.Sem

namespace Cert.NormQuantIdeal.Value

open Cert.NormQuantIdeal Cert.NormQuantIdeal.Gen

variable {F : FTy → Type} [FloatOps F]

/-- One step of the kernel's search for the exponent: take `k` more if the power of two with that
    exponent is still at most `q`. -/
def stepV (k : BitVec 32) (q : FVec F S256x1 .f32) (e : IVec S256x1 32) : IVec S256x1 32 :=
  select (cmpf .ole (bitcastToFloat .f32 (shli (addi e (broadcast S256x1 k)) (broadcast S256x1 23#32))) q) (addi e (broadcast S256x1 k)) e

/-- The exponent bits the kernel finds for every row of `q`. -/
def bitsV (q : FVec F S256x1 .f32) : IVec S256x1 32 :=
  shli (stepV 1#32 q (stepV 2#32 q (stepV 4#32 q (stepV 8#32 q (stepV 16#32 q (stepV 32#32 q (stepV 64#32 q (stepV 128#32 q
    (broadcast S256x1 0#32))))))))) (broadcast S256x1 23#32)

/-- The largest magnitude of every row, divided by the largest code and cut off above. -/
def rowMax (v : FVec F S256x128 .f32) : FVec F S256x1 .f32 :=
  minimumf (mulf (shapeCast S256x1 (multiReduction .maximumf [1] S256 (absf v) 0xFF800000#32 reduces_S256x128_S256 (.inl rfl) rfl) shapeCasts_S256_S256x1)
    (broadcast S256x1 (Scalar.ofBits .f32 0x3B124925#32))) (broadcast S256x1 (Scalar.ofBits .f32 0x7B000000#32))

/-- The scale of every row of a group. -/
def scaleV (v : FVec F S256x128 .f32) : FVec F S256x1 .f32 :=
  select (cmpi .eq (bitsV (rowMax v)) (broadcast S256x1 0#32)) (broadcast S256x1 (Scalar.ofBits .f32 0x3F800000#32))
    (bitcastToFloat .f32 (addi (bitsV (rowMax v)) (broadcast S256x1 8388608#32)))

/-- The inverse of the scale of every row of a group. -/
def invV (v : FVec F S256x128 .f32) : FVec F S256x1 .f32 :=
  select (cmpi .eq (bitsV (rowMax v)) (broadcast S256x1 0#32)) (broadcast S256x1 (Scalar.ofBits .f32 0x3F800000#32))
    (bitcastToFloat .f32 (subi (broadcast S256x1 2122317824#32) (bitsV (rowMax v))))

/-- The codes of a group. -/
def codesV (v : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf v (broadcastTo S256x128 (invV v) broadcasts_S256x1_S256x128)))) bitsLt_fp8e4m3_f32

/-- A group rounded to its codes and multiplied by its scales again. -/
def actV (v : FVec F S256x128 .f32) : FVec F S256x128 .bf16 :=
  truncf .bf16 (mulf (extf .f32 (codesV v) bitsLt_fp8e4m3_f32) (broadcastTo S256x128 (scaleV v) broadcasts_S256x1_S256x128)) bitsLt_bf16_f32

/-- The squares of the first `n + 1` groups, added up. -/
def ssq (v : Fin 40 → FVec F S256x128 .f32) : (n : ℕ) → n < 40 → FVec F S256x128 .f32
  | 0, h => mulf (v ⟨0, h⟩) (v ⟨0, h⟩)
  | n + 1, h => addf (ssq v n (by omega)) (mulf (v ⟨n + 1, h⟩) (v ⟨n + 1, h⟩))

/-- One over the root of the mean square of every row. -/
def rinvV (s : FVec F S256x128 .f32) : FVec F S256x1 .f32 :=
  divf (broadcast S256x1 (Scalar.ofBits .f32 0x3F800000#32)) (sqrt (addf (mulf (shapeCast S256x1
    (multiReduction .add [1] S256 s 0x00000000#32 reduces_S256x128_S256 (.inl rfl) rfl) shapeCasts_S256_S256x1)
    (broadcast S256x1 (Scalar.ofBits .f32 0x394CCCCD#32))) (broadcast S256x1 (Scalar.ofBits .f32 0x358637BD#32))))

/-- A group normed: multiplied by one over the root and by one plus the weights. -/
def normV (r : FVec F S256x1 .f32) (v : FVec F S256x128 .f32) (w : FVec F S1x128 .f32) : FVec F S256x128 .f32 :=
  mulf (mulf v (broadcastTo S256x128 r broadcasts_S256x1_S256x128))
    (broadcastTo S256x128 (addf (broadcast S1x128 (Scalar.ofBits .f32 0x3F800000#32)) (shapeCast S1x128 w shapeCasts_S1x128_S1x128)) broadcasts_S1x128_S256x128)

/-- The scales of the first `n` groups, each put in its column. -/
def scalesV (v : Fin 40 → FVec F S256x128 .f32) : (n : ℕ) → n ≤ 40 → FVec F S256x40 .f32
  | 0, _ => broadcast S256x40 (Scalar.ofBits .f32 0x00000000#32)
  | n + 1, h => select (cmpi .eq (iota .tc S256x40 32 [1] iota_S256x40_d1_w32) (broadcast S256x40 (BitVec.ofNat 32 n)))
      (broadcastTo S256x40 (shapeCast S256x1 (scaleV (v ⟨n, h⟩)) shapeCasts_S256x1_S256x1) broadcasts_S256x1_S256x40) (scalesV v n (by omega))

/-- Group `k` of 128 columns of a block. -/
abbrev rG (k : Fin 40) : Rect S256x5120 :=
  Rect.unit (s := S256x5120) ![0, 128 * k.val] S256x128.size fun d => match d with
    | ⟨0, _⟩ => by show 0 + 256 ≤ 256; omega
    | ⟨1, _⟩ => by show 128 * k.val + 128 ≤ 5120; omega

/-- Group `k` of 128 columns of the weights. -/
abbrev rW (k : Fin 40) : Rect S1x5120 :=
  Rect.unit (s := S1x5120) ![0, 128 * k.val] S1x128.size fun d => match d with
    | ⟨0, _⟩ => by show 0 + 1 ≤ 1; omega
    | ⟨1, _⟩ => by show 128 * k.val + 128 ≤ 5120; omega

/-- Group `k` of a block, widened. -/
def grpX (x0 : Vec F S256x5120 .bf16) (k : Fin 40) : FVec F S256x128 .f32 := extf .f32 (View.ld x0 (rG k)) bitsLt_bf16_f32

/-- Group `k` of a block of rows `v`, normed with weights `x1`. -/
def grpN (v : Fin 40 → FVec F S256x128 .f32) (x1 : Vec F S1x5120 .f32) (k : Fin 40) : FVec F S256x128 .f32 :=
  normV (rinvV (ssq v 39 (by omega))) (v k) (View.ld x1 (rW k))

/-- The pieces of the first `n` groups, last first. -/
def pieces {s : Shape} {e : EltTy} (p : Fin 40 → View.Piece (Elt F) s e) : (n : ℕ) → n ≤ 40 → List (View.Piece (Elt F) s e)
  | 0, _ => []
  | n + 1, h => p ⟨n, h⟩ :: pieces p n (by omega)

/-- What the kernel leaves in its block of codes. -/
theorem codes_eq (x0 : Vec F S256x5120 .bf16) (x1 : Vec F S1x5120 .f32) :
    out0_2 x0 x1 = View.canon (pieces (fun k => ⟨rG k, codesV (grpN (grpX x0) x1 k)⟩) 40 le_rfl) := rfl

/-- What the kernel leaves in its block of scales. -/
theorem scales_eq (x0 : Vec F S256x5120 .bf16) (x1 : Vec F S1x5120 .f32) :
    out0_3 x0 x1 = View.canon [⟨r0_80, scalesV (grpN (grpX x0) x1) 40 le_rfl⟩] := rfl

/-- What the kernel leaves in its block of rounded activations. -/
theorem act_eq (x0 : Vec F S256x5120 .bf16) (x1 : Vec F S1x5120 .f32) :
    out0_4 x0 x1 = View.canon (pieces (fun k => ⟨rG k, actV (grpN (grpX x0) x1 k)⟩) 40 le_rfl) := rfl

end Cert.NormQuantIdeal.Value

end
-- ==== Proof.NormMath.lean ====
module

public import proofs.«01_k».proof.Proof.Quant

@[expose] public section

noncomputable section

open Idealize.ShloMosaic

namespace Cert.NormMath

/-- The root of a row's mean square, with the small constant added under it. -/
def rms (v : Fin 5120 → EReal) : EReal :=
  Ideal.sqrt ((∑ n : Fin 5120, v n * v n) * Ideal.ofBits .f32 961334477#32 + Ideal.ofBits .f32 897988541#32)

/-- An entry of a row divided by that root and multiplied by one plus its weight. -/
def norm (v w : Fin 5120 → EReal) (n : Fin 5120) : EReal := Ideal.div (v n) (rms v) * (1 + w n)

/-- Group `q` of 128 columns of a normed row. -/
def grp (v w : Fin 5120 → EReal) (q : ℕ) (hq : q < 40) (l : Fin 128) : EReal := norm v w ⟨128 * q + l.val, by omega⟩

/-- A square is not negative. -/
theorem sq_nonneg (x : EReal) : 0 ≤ x * x := by
  induction x with
  | bot => simp
  | top => simp
  | coe r => exact_mod_cast mul_self_nonneg r

/-- The constant that stands for one over the width is not negative. -/
theorem width_nonneg : 0 ≤ Ideal.ofBits .f32 961334477#32 := by
  simp [Ideal.ofBits, Ideal.ieee, -EReal.coe_mul]

/-- The small constant is positive. -/
theorem eps_pos : 0 < Ideal.ofBits .f32 897988541#32 := by
  simp [Ideal.ofBits, Ideal.ieee, -EReal.coe_mul]

/-- The root of something positive is not zero. -/
theorem sqrt_ne (x : EReal) (h : 0 < x) : Ideal.sqrt x ≠ 0 := by
  induction x with
  | bot => exact absurd h (by simp)
  | top => show (⊤ : EReal) ≠ 0; simp
  | coe r =>
    have hr : 0 < r := by exact_mod_cast h
    show (if r < 0 then ⊥ else ((Real.sqrt r : ℝ) : EReal)) ≠ 0
    rw [if_neg hr.le.not_gt]
    exact_mod_cast (Real.sqrt_pos.mpr hr).ne'

/-- The root is not zero. -/
theorem rms_ne (v : Fin 5120 → EReal) : rms v ≠ 0 :=
  sqrt_ne _ (lt_of_lt_of_le eps_pos (le_add_of_nonneg_left (mul_nonneg (Finset.sum_nonneg fun n _ => sq_nonneg (v n)) width_nonneg)))

/-- Multiplying by one over the root is dividing by it. -/
theorem mul_inv_eq (v : Fin 5120 → EReal) (x : EReal) : x * Ideal.div 1 (rms v) = Ideal.div x (rms v) := by
  unfold Ideal.div
  rw [if_neg (rms_ne v), if_neg (rms_ne v), one_mul]

/-- A sum over the width, group by group. -/
theorem sum_groups (g : Fin 5120 → EReal) : ∑ n : Fin 5120, g n = ∑ l : Fin 128, ∑ q : Fin 40, g ⟨128 * q.val + l.val, by omega⟩ := by
  rw [Finset.sum_comm, ← (finProdFinEquiv (m := 40) (n := 128)).sum_comp g, Fintype.sum_prod_type]
  refine Finset.sum_congr rfl fun q _ => Finset.sum_congr rfl fun l _ => congrArg g (Fin.ext ?_)
  show l.val + 128 * q.val = 128 * q.val + l.val
  omega

end Cert.NormMath
-- ==== Proof.NormQuantValue.lean ====
module

public import proofs.«01_k».proof.Proof.NormQuantEqs
public import proofs.«01_k».proof.Proof.NormMath
public import Idealize.ShloMosaic.Lib.Pointwise

@[expose] public section

set_option maxRecDepth 16384

noncomputable section

open Idealize.ShloMosaic Idealize.ShloMosaic.TcCoe Idealize.SL.Sem

namespace Cert.NormQuantIdeal.Value

open Cert.NormQuantIdeal Cert.NormQuantIdeal.Gen

/-- The shift by 23 bits, on words. -/
theorem shli23 (x : BitVec 32) : IntOp.shli ArithUnit.vector x 23#32 = x <<< 23 := by
  rfl

/-- A step of the search, entry by entry. -/
theorem stepV_apply (k : BitVec 32) (q : FVec Ideal S256x1 .f32) (e : IVec S256x1 32) (r : Fin 256) (l : Fin 1) :
    stepV k q e (ix2 r l) = Quant.step k (q (ix2 r l)) (e (ix2 r l)) := by
  unfold Quant.step
  pointwise [stepV]
  simp only [shli23]
  rfl

/-- The exponent bits, entry by entry. -/
theorem bitsV_apply (q : FVec Ideal S256x1 .f32) (r : Fin 256) (l : Fin 1) :
    bitsV q (ix2 r l) = Quant.field (q (ix2 r l)) <<< 23 := by
  have h : ∀ e : IVec S256x1 32, shli e (broadcast S256x1 23#32) (ix2 r l) = e (ix2 r l) <<< 23 := fun e => rfl
  have h0 : broadcast S256x1 0#32 (ix2 r l) = 0#32 := rfl
  unfold bitsV Quant.field
  simp only [h, stepV_apply, h0]

/-- The divided largest magnitude, entry by entry. -/
theorem rowMax_apply (v : FVec Ideal S256x128 .f32) (r : Fin 256) (l : Fin 1) :
    rowMax v (ix2 r l) = min (Quant.amax (fun x => v (ix2 r x)) * Ideal.ofBits .f32 991054117#32) (Ideal.ofBits .f32 2063597568#32) := by
  unfold Quant.amax
  pointwise [rowMax]

/-- The exponent bits of a row's largest magnitude. -/
theorem rowBits (v : FVec Ideal S256x128 .f32) (r : Fin 256) (l : Fin 1) :
    bitsV (rowMax v) (ix2 r l) = Quant.bits (Quant.amax (fun x => v (ix2 r x)) * Ideal.ofBits .f32 991054117#32) := by
  rw [bitsV_apply, rowMax_apply]
  rfl

/-- The choice between one and another value by whether the bits are zero. -/
theorem sel (b x : BitVec 32) (y : EReal) : Scalar.select (IntOp.cmpi .eq b 0#32) (1 : EReal) y = if b = 0#32 then 1 else y := by
  unfold Scalar.select IntOp.cmpi
  by_cases h : b = 0#32
  · simp [h]
  · have : (b == 0#32) = false := by simpa using h
    simp [h, this]

/-- The scale the kernel finds is the scale. -/
theorem scaleV_apply (v : FVec Ideal S256x128 .f32) (r : Fin 256) (l : Fin 1) :
    scaleV v (ix2 r l) = Quant.scale (fun x => v (ix2 r x)) := by
  unfold Quant.scale
  rw [← Quant.scale_eq, ← rowBits v r l, ← sel _ 0#32]
  pointwise [scaleV]
  rfl

/-- The inverse the kernel finds is the inverse scale. -/
theorem invV_apply (v : FVec Ideal S256x128 .f32) (r : Fin 256) (l : Fin 1) :
    invV v (ix2 r l) = Quant.inv (fun x => v (ix2 r x)) := by
  unfold Quant.inv
  rw [← Quant.inv_eq, ← rowBits v r l, ← sel _ 0#32]
  pointwise [invV]
  rfl

/-- The kernel's codes are the codes. -/
theorem codesV_apply (v : FVec Ideal S256x128 .f32) (r : Fin 256) (l : Fin 128) :
    codesV v (ix2 r l) = Quant.code (fun x => v (ix2 r x)) l := by
  unfold Quant.code
  rw [← invV_apply v r 0]
  pointwise [codesV]

/-- The kernel's rounded activations are codes times scales. -/
theorem actV_apply (v : FVec Ideal S256x128 .f32) (r : Fin 256) (l : Fin 128) :
    actV v (ix2 r l) = Quant.code (fun x => v (ix2 r x)) l * Quant.scale (fun x => v (ix2 r x)) := by
  rw [← scaleV_apply v r 0, ← codesV_apply v r l]
  pointwise [actV]

/-- One over the root of the mean square, entry by entry. -/
theorem rinvV_apply (s : FVec Ideal S256x128 .f32) (r : Fin 256) (l : Fin 1) :
    rinvV s (ix2 r l) = Ideal.div 1 (Ideal.sqrt ((∑ x : Fin 128, s (ix2 r x)) * Ideal.ofBits .f32 961334477#32 + Ideal.ofBits .f32 897988541#32)) := by
  pointwise [rinvV]

/-- A normed group, entry by entry. -/
theorem normV_apply (q : FVec Ideal S256x1 .f32) (v : FVec Ideal S256x128 .f32) (w : FVec Ideal S1x128 .f32) (r : Fin 256) (l : Fin 128) :
    normV q v w (ix2 r l) = v (ix2 r l) * q (ix2 r 0) * (1 + w (ix2 0 l)) := by
  pointwise [normV]

/-- A sum of two groups' entries. -/
theorem addf_apply' (a b : FVec Ideal S256x128 .f32) (i : S256x128.Idx) : addf a (mulf b b) i = a i + b i * b i := rfl

/-- The squares of the first groups, added up, entry by entry. -/
theorem ssq_apply (v : Fin 40 → FVec Ideal S256x128 .f32) (i : S256x128.Idx) : ∀ (n : ℕ) (h : n < 40),
    ssq v n h i = ∑ k : Fin (n + 1), v ⟨k.val, by omega⟩ i * v ⟨k.val, by omega⟩ i
  | 0, h => by
    rw [Fin.sum_univ_one]
    rfl
  | n + 1, h => by
    rw [Fin.sum_univ_castSucc, ssq, addf_apply', ssq_apply v i n (by omega)]
    rfl

/-- One column of scales put in. -/
theorem put_apply (b : BitVec 32) (s : FVec Ideal S256x1 .f32) (p : FVec Ideal S256x40 .f32) (r : Fin 256) (k : Fin 40) :
    select (cmpi .eq (iota .tc S256x40 32 [1] iota_S256x40_d1_w32) (broadcast S256x40 b))
      (broadcastTo S256x40 (shapeCast S256x1 s shapeCasts_S256x1_S256x1) broadcasts_S256x1_S256x40) p (ix2 r k)
      = if BitVec.ofNat 32 k.val = b then s (ix2 r 0) else p (ix2 r k) := by
  have e : ∀ (x y : EReal), Scalar.select (IntOp.cmpi .eq (BitVec.ofNat 32 k.val) b) x y = if BitVec.ofNat 32 k.val = b then x else y := by
    intro x y
    unfold Scalar.select IntOp.cmpi
    by_cases h : BitVec.ofNat 32 k.val = b
    · simp [h]
    · have : (BitVec.ofNat 32 k.val == b) = false := by simpa using h
      simp [h, this]
  rw [← e]
  pointwise []

/-- The scales of the first groups, entry by entry. -/
theorem scalesV_apply (v : Fin 40 → FVec Ideal S256x128 .f32) (r : Fin 256) (k : Fin 40) : ∀ (n : ℕ) (h : n ≤ 40) (hk : k.val < n),
    scalesV v n h (ix2 r k) = Quant.scale (fun x => v k (ix2 r x))
  | 0, h, hk => absurd hk (by omega)
  | n + 1, h, hk => by
    rw [scalesV, put_apply]
    by_cases e : k.val = n
    · rw [if_pos (by rw [e]), scaleV_apply]
      obtain rfl : k = ⟨n, h⟩ := Fin.ext e
      rfl
    · rw [if_neg, scalesV_apply v r k n (by omega) (by omega)]
      intro hc
      have := congrArg BitVec.toNat hc
      simp only [BitVec.toNat_ofNat] at this
      omega

/-- Every group has its piece. -/
theorem mem_pieces {s : Shape} {e : EltTy} (p : Fin 40 → View.Piece (Elt Ideal) s e) : ∀ (n : ℕ) (h : n ≤ 40) (q : View.Piece (Elt Ideal) s e),
    q ∈ pieces p n h ↔ ∃ k : Fin 40, k.val < n ∧ q = p k
  | 0, h, q => by simp [pieces]
  | n + 1, h, q => by
    rw [pieces, List.mem_cons, mem_pieces p n (by omega) q]
    constructor
    · rintro (rfl | ⟨k, hk, rfl⟩)
      · exact ⟨_, Nat.lt_succ_self n, rfl⟩
      · exact ⟨k, by omega, rfl⟩
    · rintro ⟨k, hk, rfl⟩
      by_cases e : k.val = n
      · exact .inl (congrArg p (Fin.ext e))
      · exact .inr ⟨k, by omega, rfl⟩

/-- Where an entry of a group lies in the block. -/
theorem emb_rG (k : Fin 40) (x : S256x128.Idx) : (rG k).emb x
    = ix2 (show Fin 256 from x 0) (⟨128 * k.val + (x 1).val, by have : (x 1).val < 128 := (x 1).isLt; omega⟩ : Fin 5120) := by
  funext d
  apply Fin.ext
  match d with
  | ⟨0, _⟩ => show 0 + 1 * (x 0).val = (x 0).val; omega
  | ⟨1, _⟩ => show 128 * k.val + 1 * (x 1).val = 128 * k.val + (x 1).val; omega

/-- Pieces that are, group by group, a function of the block: the block is that function. -/
theorem canon_pieces {e : EltTy} (p : Fin 40 → FVec Ideal S256x128 .f32) (f : FVec Ideal S256x128 .f32 → Vec Ideal S256x128 e) (G : Vec Ideal S256x5120 e)
    (h : ∀ (k : Fin 40) (r : Fin 256) (l : Fin 128), f (p k) (ix2 r l) = G (ix2 r (⟨128 * k.val + l.val, by omega⟩ : Fin 5120))) :
    View.canon (pieces (F := Ideal) (fun k => ⟨rG k, f (p k)⟩) 40 le_rfl) = G := by
  have x_eq : ∀ x : S256x128.Idx, x = ix2 (show Fin 256 from x 0) (show Fin 128 from x 1) := by
    intro x
    funext d
    match d with
    | ⟨0, _⟩ => rfl
    | ⟨1, _⟩ => rfl
  funext y
  refine View.canon_apply_of_pieces G _ ?_ y ?_
  · intro q hq x
    obtain ⟨k, -, rfl⟩ := (mem_pieces _ _ _ _).mp hq
    show f (p k) x = G ((rG k).emb x)
    rw [emb_rG]
    exact (congrArg _ (x_eq x)).trans (h k _ _)
  · have hy : (y 1).val < 5120 := (y 1).isLt
    refine ⟨_, (mem_pieces _ _ _ _).mpr ⟨⟨(y 1).val / 128, by omega⟩, by show (y 1).val / 128 < 40; omega, rfl⟩, ?_⟩
    show y ∈ (rG _).set
    refine Rect.mem_set_unit.mpr fun d => ?_
    match d with
    | ⟨0, _⟩ => exact ⟨Nat.zero_le _, by have : (y 0).val < 256 := (y 0).isLt; show (y 0).val < 0 + 256; omega⟩
    | ⟨1, _⟩ => exact ⟨by show 128 * ((y 1).val / 128) ≤ (y 1).val; omega, by show (y 1).val < 128 * ((y 1).val / 128) + 128; omega⟩

section
variable (v : Fin 40 → FVec Ideal S256x128 .f32) (x1 : Vec Ideal S1x5120 .f32) (X : Fin 256 → Fin 5120 → EReal)
    (hX : ∀ (k : Fin 40) (r : Fin 256) (l : Fin 128), v k (ix2 r l) = X r ⟨128 * k.val + l.val, by omega⟩)

/-- The weights of the norm as a row. -/
def wrow (x1 : Vec Ideal S1x5120 .f32) (n : Fin 5120) : EReal := x1 (ix2 (0 : Fin 1) n)

include hX in
/-- A normed group of the kernel is the group of the normed row. -/
theorem grpN_apply (k : Fin 40) (r : Fin 256) (l : Fin 128) :
    grpN v x1 k (ix2 r l) = NormMath.grp (X r) (wrow x1) k.val k.isLt l := by
  have e : (∑ x : Fin 128, ssq v 39 (by omega) (ix2 r x)) = ∑ n : Fin 5120, X r n * X r n := by
    rw [NormMath.sum_groups]
    refine Finset.sum_congr rfl fun x _ => ?_
    rw [ssq_apply]
    refine Finset.sum_congr rfl fun q _ => ?_
    rw [hX]
  have ew : View.ld x1 (rW k) (ix2 0 l) = wrow x1 ⟨128 * k.val + l.val, by omega⟩ := by
    show x1 _ = x1 _
    congr 1
    funext d
    apply Fin.ext
    match d with
    | ⟨0, _⟩ => rfl
    | ⟨1, _⟩ => show 128 * k.val + 1 * l.val = 128 * k.val + l.val; omega
  unfold grpN
  rw [normV_apply, rinvV_apply, e, ew, hX]
  exact congrArg (· * _) (NormMath.mul_inv_eq _ _)

include hX in
/-- The same for a whole row of the group. -/
theorem grpN_row (k : Fin 40) (r : Fin 256) :
    (fun x : Fin 128 => grpN v x1 k (ix2 r x)) = NormMath.grp (X r) (wrow x1) k.val k.isLt :=
  funext fun l => grpN_apply v x1 X hX k r l

/-- The codes of a block of rows `X`. -/
def codesBlock (x1 : Vec Ideal S1x5120 .f32) (X : Fin 256 → Fin 5120 → EReal) : FVec Ideal S256x5120 .fp8e4m3 :=
  fun y => Quant.code (NormMath.grp (X (show Fin 256 from y 0)) (wrow x1) ((y 1).val / 128) (by have : (y 1).val < 5120 := (y 1).isLt; omega)) ⟨(y 1).val % 128, by omega⟩

/-- The rounded activations of a block of rows `X`. -/
def actBlock (x1 : Vec Ideal S1x5120 .f32) (X : Fin 256 → Fin 5120 → EReal) : FVec Ideal S256x5120 .bf16 :=
  fun y => Quant.code (NormMath.grp (X (show Fin 256 from y 0)) (wrow x1) ((y 1).val / 128) (by have : (y 1).val < 5120 := (y 1).isLt; omega)) ⟨(y 1).val % 128, by omega⟩
    * Quant.scale (NormMath.grp (X (show Fin 256 from y 0)) (wrow x1) ((y 1).val / 128) (by have : (y 1).val < 5120 := (y 1).isLt; omega))

/-- The scales of a block of rows `X`. -/
def scaleBlock (x1 : Vec Ideal S1x5120 .f32) (X : Fin 256 → Fin 5120 → EReal) : FVec Ideal S256x40 .f32 :=
  fun y => Quant.scale (NormMath.grp (X (show Fin 256 from y 0)) (wrow x1) (y 1).val (y 1).isLt)

/-- A code at a computed place. -/
theorem code_at (V W : Fin 5120 → EReal) (k : Fin 40) (l : Fin 128) (q j : ℕ) (hq : q < 40) (hj : j < 128) (h : q = k.val) (h' : j = l.val) :
    Quant.code (NormMath.grp V W k.val k.isLt) l = Quant.code (NormMath.grp V W q hq) ⟨j, hj⟩ := by
  subst h h'; rfl

/-- A scale at a computed place. -/
theorem scale_at (V W : Fin 5120 → EReal) (k : Fin 40) (q : ℕ) (hq : q < 40) (h : q = k.val) :
    Quant.scale (NormMath.grp V W k.val k.isLt) = Quant.scale (NormMath.grp V W q hq) := by
  subst h; rfl

include hX in
/-- The codes the pieces leave. -/
theorem codes_block : View.canon (pieces (F := Ideal) (e := .fp8e4m3) (fun k => ⟨rG k, codesV (grpN v x1 k)⟩) 40 le_rfl) = codesBlock x1 X := by
  refine canon_pieces (e := .fp8e4m3) (grpN (F := Ideal) v x1) (codesV (F := Ideal)) (codesBlock x1 X) fun k r l => ?_
  rw [codesV_apply, grpN_row v x1 X hX]
  exact code_at _ _ k l _ _ _ _ (show (128 * k.val + l.val) / 128 = k.val by omega) (show (128 * k.val + l.val) % 128 = l.val by omega)

include hX in
/-- The rounded activations the pieces leave. -/
theorem act_block : View.canon (pieces (F := Ideal) (e := .bf16) (fun k => ⟨rG k, actV (grpN v x1 k)⟩) 40 le_rfl) = actBlock x1 X := by
  refine canon_pieces (e := .bf16) (grpN (F := Ideal) v x1) (actV (F := Ideal)) (actBlock x1 X) fun k r l => ?_
  rw [actV_apply, grpN_row v x1 X hX]
  exact congrArg₂ (· * ·)
    (code_at _ _ k l _ _ _ _ (show (128 * k.val + l.val) / 128 = k.val by omega) (show (128 * k.val + l.val) % 128 = l.val by omega))
    (scale_at _ _ k _ _ (show (128 * k.val + l.val) / 128 = k.val by omega))

include hX in
/-- The scales the kernel puts together. -/
theorem scales_block : scalesV (F := Ideal) (grpN v x1) 40 le_rfl = scaleBlock x1 X := by
  funext y
  have e : y = ix2 (show Fin 256 from y 0) (show Fin 40 from y 1) := by
    funext d
    match d with
    | ⟨0, _⟩ => rfl
    | ⟨1, _⟩ => rfl
  rw [e, scalesV_apply _ _ _ _ _ (show Fin 40 from y 1).isLt, grpN_row v x1 X hX]
  rfl

end

/-- The rows of a block of the input. -/
def rowsX (x0 : Vec Ideal S256x5120 .bf16) (r : Fin 256) (n : Fin 5120) : EReal := x0 (ix2 r n)

/-- The groups the kernel loads are the groups of the rows. -/
theorem grpX_apply (x0 : Vec Ideal S256x5120 .bf16) (k : Fin 40) (r : Fin 256) (l : Fin 128) :
    grpX (F := Ideal) x0 k (ix2 r l) = rowsX x0 r ⟨128 * k.val + l.val, by omega⟩ :=
  congrArg x0 (emb_rG k (ix2 r l))

/-- The codes a grid step leaves in its block. -/
theorem outs_codes (x0 : Vec Ideal S256x5120 .bf16) (x1 : Vec Ideal S1x5120 .f32) : out0_2 (F := Ideal) x0 x1 = codesBlock x1 (rowsX x0) :=
  (codes_eq x0 x1).trans (codes_block _ _ _ (grpX_apply x0))

/-- The scales a grid step leaves in its block. -/
theorem outs_scales (x0 : Vec Ideal S256x5120 .bf16) (x1 : Vec Ideal S1x5120 .f32) : out0_3 (F := Ideal) x0 x1 = scaleBlock x1 (rowsX x0) := by
  rw [scales_eq, scales_block _ _ _ (grpX_apply x0)]
  exact View.canon_unit_zero (by funext d; match d with | ⟨0, _⟩ => rfl | ⟨1, _⟩ => rfl) _ _

/-- The rounded activations a grid step leaves in its block. -/
theorem outs_act (x0 : Vec Ideal S256x5120 .bf16) (x1 : Vec Ideal S1x5120 .f32) : out0_4 (F := Ideal) x0 x1 = actBlock x1 (rowsX x0) :=
  (act_eq x0 x1).trans (act_block _ _ _ (grpX_apply x0))

end Cert.NormQuantIdeal.Value

end
-- ==== Proof.NormQuantFinal.lean ====
module

public import proofs.«01_k».proof.Proof.NormQuantValue

@[expose] public section

set_option maxRecDepth 16384

noncomputable section

open Idealize.ShloMosaic Idealize.ShloMosaic.TcCoe Idealize.SL.Sem

namespace Cert.NormQuantIdeal.Value

open Cert.NormQuantIdeal Cert.NormQuantIdeal.Gen

/-- Which block each grid step reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

variable (m : (ℓ : Loc nD τ sig) → Buf (Elt Ideal) ℓ)

/-- Row `r` of the input as the call finds it. -/
def xRow (c : Dev nD) (r : Fin 2048) (n : Fin 5120) : EReal := (m ((c : Thread nD τ).loc main_arg0) : FVec Ideal S2048x5120 .bf16) (ix2 r n)
/-- The weights of the norm as the call finds them. -/
def wRow (c : Dev nD) (n : Fin 5120) : EReal := (m ((c : Thread nD τ).loc main_arg1) : FVec Ideal S5120 .f32) (ix1 n)

/-- The grid has 8 steps. -/
theorem lt8t (t : Fin cfg0.N) : t.val < 8 := t.isLt

/-- Grid step `t` sees 256 rows of the input. -/
theorem iblk0 (c : Dev nD) (t : Fin cfg0.N) (r : Fin 256) :
    rowsX (iblk m c 0 t) r = xRow m c (⟨256 * t.val + r.val, by have := lt8t t; omega⟩ : Fin 2048) := by
  funext n
  show (show FVec Ideal S256x5120 .bf16 from iblk m c 0 t) (ix2 r n) = (m ((c : Thread nD τ).loc main_arg0) : FVec Ideal S2048x5120 .bf16) (ix2 (⟨256 * t.val + r.val, by have := lt8t t; omega⟩ : Fin 2048) n)
  blk_point [iblk, V, idx t]

/-- Every grid step sees the whole weights of the norm. -/
theorem iblk1 (c : Dev nD) (t : Fin cfg0.N) : wrow (iblk m c 1 t) = wRow m c := by
  funext n
  show (show FVec Ideal S1x5120 .f32 from iblk m c 1 t) (ix2 0 n) = (m ((c : Thread nD τ).loc main_arg1) : FVec Ideal S5120 .f32) (ix1 n)
  blk_point [iblk, V, idx t, hostOps0]

/-- A group of the block of grid step `t` is the group of the whole at the same place. -/
theorem grp_congr (c : Dev nD) (t : Fin cfg0.N) (r : Fin 256) (r' : Fin 2048) (q q' : ℕ) (hq : q < 40) (hq' : q' < 40)
    (hr : r'.val = t.val * 256 + r.val) (h : q' = q) :
    NormMath.grp (rowsX (iblk m c 0 t) r) (wrow (iblk m c 1 t)) q hq = NormMath.grp (xRow m c r') (wRow m c) q' hq' := by
  have e : (⟨256 * t.val + r.val, by have := lt8t t; omega⟩ : Fin 2048) = r' := Fin.ext (by show 256 * t.val + r.val = _; omega)
  subst h
  rw [iblk0, iblk1, e]

/-- A code of the block of grid step `t` is the code of the whole at the same place. -/
theorem code_congr (c : Dev nD) (t : Fin cfg0.N) (r : Fin 256) (r' : Fin 2048) (q q' l l' : ℕ) (hq : q < 40) (hq' : q' < 40) (hl : l < 128) (hl' : l' < 128)
    (hr : r'.val = t.val * 256 + r.val) (h : q' = q) (e : l' = l) :
    Quant.code (NormMath.grp (rowsX (iblk m c 0 t) r) (wrow (iblk m c 1 t)) q hq) ⟨l, hl⟩
      = Quant.code (NormMath.grp (xRow m c r') (wRow m c) q' hq') ⟨l', hl'⟩ := by
  subst e
  rw [grp_congr m c t r r' q q' hq hq' hr h]

/-- A scale of the block of grid step `t` is the scale of the whole at the same place. -/
theorem scale_congr (c : Dev nD) (t : Fin cfg0.N) (r : Fin 256) (r' : Fin 2048) (q q' : ℕ) (hq : q < 40) (hq' : q' < 40)
    (hr : r'.val = t.val * 256 + r.val) (h : q' = q) :
    Quant.scale (NormMath.grp (rowsX (iblk m c 0 t) r) (wrow (iblk m c 1 t)) q hq)
      = Quant.scale (NormMath.grp (xRow m c r') (wRow m c) q' hq') := by
  rw [grp_congr m c t r r' q q' hq hq' hr h]

/-- The codes after the run. -/
theorem final2 (c : Dev nD) (r : Fin 2048) (n : Fin 5120) :
    (dats m 0 c).arrAt 2 cfg0.N (ix2 r n)
      = Quant.code (NormMath.grp (xRow m c r) (wRow m c) (n.val / 128) (by omega)) ⟨n.val % 128, by omega⟩ := by
  refine congrFun ((dats m 0 c).arrAt_eq_of_covers 2 (fun y => Quant.code (NormMath.grp (xRow m c
    (show Fin 2048 from y 0)) (wRow m c) ((y 1).val / 128) (by have : (y 1).val < 5120 := (y 1).isLt; omega)) ⟨(y 1).val % 128, by omega⟩)
    (by decide +kernel) fun t _ y => ?_) (ix2 r n)
  have e0 : (((cfg0.win 2).blk t).view.emb y 0).val = t.val * 256 + (y 0).val := by
    blk_simp
    simp [idx t]
  have e1 : (((cfg0.win 2).blk t).view.emb y 1).val = (y 1).val := by
    blk_simp
    simp [idx t]
  have e2 : win0_2.index t 1 * 5120 + (y 1).val = (y 1).val := by
    simp [idx t]
  blk_simp
  rw [after0_2, outs_codes]
  exact code_congr m c t _ _ _ _ _ _ _ _ _ _ e0 (congrArg (· / 128) e1) (congrArg (· % 128) e2)

/-- The scales after the run. -/
theorem final3 (c : Dev nD) (r : Fin 2048) (q : Fin 40) :
    (dats m 0 c).arrAt 3 cfg0.N (ix2 r q) = Quant.scale (NormMath.grp (xRow m c r) (wRow m c) q.val q.isLt) := by
  refine congrFun ((dats m 0 c).arrAt_eq_of_covers 3 (fun y => Quant.scale (NormMath.grp (xRow m c
    (show Fin 2048 from y 0)) (wRow m c) (y 1).val (y 1).isLt))
    (by decide +kernel) fun t _ y => ?_) (ix2 r q)
  have e0 : (((cfg0.win 3).blk t).view.emb y 0).val = t.val * 256 + (y 0).val := by
    blk_simp
    simp [idx t]
  have e1 : (((cfg0.win 3).blk t).view.emb y 1).val = (y 1).val := by
    blk_simp
    simp [idx t]
  blk_simp
  rw [after0_3, outs_scales]
  exact scale_congr m c t _ _ _ _ _ _ e0 e1

/-- The rounded activations after the run. -/
theorem final4 (c : Dev nD) (r : Fin 2048) (n : Fin 5120) :
    (dats m 0 c).arrAt 4 cfg0.N (ix2 r n)
      = Quant.code (NormMath.grp (xRow m c r) (wRow m c) (n.val / 128) (by omega)) ⟨n.val % 128, by omega⟩
        * Quant.scale (NormMath.grp (xRow m c r) (wRow m c) (n.val / 128) (by omega)) := by
  refine congrFun ((dats m 0 c).arrAt_eq_of_covers 4 (fun y => Quant.code (NormMath.grp (xRow m c
    (show Fin 2048 from y 0)) (wRow m c) ((y 1).val / 128) (by have : (y 1).val < 5120 := (y 1).isLt; omega)) ⟨(y 1).val % 128, by omega⟩
    * Quant.scale (NormMath.grp (xRow m c (show Fin 2048 from y 0)) (wRow m c) ((y 1).val / 128) (by have : (y 1).val < 5120 := (y 1).isLt; omega)))
    (by decide +kernel) fun t _ y => ?_) (ix2 r n)
  have e0 : (((cfg0.win 4).blk t).view.emb y 0).val = t.val * 256 + (y 0).val := by
    blk_simp
    simp [idx t]
  have e1 : (((cfg0.win 4).blk t).view.emb y 1).val = (y 1).val := by
    blk_simp
    simp [idx t]
  have e2 : win0_4.index t 1 * 5120 + (y 1).val = (y 1).val := by
    simp [idx t]
  blk_simp
  rw [after0_4, outs_act]
  exact congrArg₂ (· * ·) (code_congr m c t _ _ _ _ _ _ _ _ _ _ e0 (congrArg (· / 128) e1) (congrArg (· % 128) e2)) (scale_congr m c t _ _ _ _ _ _ e0 (congrArg (· / 128) e1))

end Cert.NormQuantIdeal.Value

end
-- ==== Proof.NormQuantRefValue.lean ====
module

public import proofs.«01_k».proof.Proof.Gen.NormQuantRefIdeal.Value
public import Idealize.ShloMosaic.Lib.Pipeline.ValueKit
public import Idealize.ShloMosaic.Lib.Pointwise
public import proofs.«01_k».proof.Proof.NormMath

@[expose] public section

set_option maxRecDepth 16384

noncomputable section

open Idealize.ShloMosaic Idealize.ShloMosaic.TcCoe Idealize.SL.Sem

namespace Cert.NormQuantRefIdeal.Value

open Cert.NormQuantRefIdeal Cert.NormQuantRefIdeal.Gen

section
variable {F : FTy → Type} [FloatOps F] [Named F]

/-- The largest magnitude of every group of 128 of `v`. -/
def amax (v : FVec F S2048x40x128 .f32) : FVec F S2048x40 .f32 :=
  multiReduction .maximumf [2] S2048x40 (absf v) 0xFF800000#32 reduces_S2048x40x128_S2048x40 (.inl rfl) rfl

/-- The reference's exponents for the largest magnitudes `u`. -/
def expo (u : FVec F S2048x40 .f32) : FVec F S2048x40 .f32 :=
  have t : FVec F S2048x40 .f32 := mulf u (broadcast S2048x40 (Scalar.ofBits .f32 0x3B124925#32))
  select (cmpf .olt t (broadcast S2048x40 (Scalar.ofBits .f32 0x00800000#32))) (broadcast S2048x40 (Scalar.ofBits .f32 0x00000000#32))
    (addf (minimumf (floor (divf (log t) (broadcast S2048x40 (Named.named κ "ln2" 0x3F317218#32)))) (broadcast S2048x40 (Scalar.ofBits .f32 0x42EE0000#32)))
      (broadcast S2048x40 (Scalar.ofBits .f32 0x3F800000#32)))

/-- The groups of `v` divided by the scales of exponent `e`. -/
def scaled (v : FVec F S2048x40x128 .f32) (e : FVec F S2048x40 .f32) : FVec F S2048x40x128 .f32 :=
  mulf v (broadcastTo S2048x40x128 (shapeCast S2048x40x1 (exp2 (subf (broadcast S2048x40 (Scalar.ofBits .f32 0x00000000#32)) e))
    shapeCasts_S2048x40_S2048x40x1) broadcasts_S2048x40x1_S2048x40x128)

/-- The codes of the scaled groups `u`. -/
def codes (u : FVec F S2048x40x128 .f32) : FVec F S2048x5120 .fp8e4m3 :=
  k0_pay1 u (Scalar.ofBits .f32 0xC3E00000#32) (Scalar.ofBits .f32 0x43E00000#32)

/-- The rounded activations of the scaled groups `u` with the scales `e`. -/
def acts (e : FVec F S2048x40 .f32) (u : FVec F S2048x40x128 .f32) : FVec F S2048x5120 .bf16 :=
  k0_pay2 e u (Scalar.ofBits .f32 0xC3E00000#32) (Scalar.ofBits .f32 0x43E00000#32)

/-- The reference's exponents, in the terms defined above. -/
theorem pay4_eq (x : FVec F S2048x5120 .bf16) (w : FVec F S1x5120 .f32) : k0_pay4 x w = expo (amax (k0_pay3 x w)) := rfl

/-- The reference's scales, in the terms defined above. -/
theorem pay5_eq (x : FVec F S2048x5120 .bf16) (w : FVec F S1x5120 .f32) : k0_pay5 x w = exp2 (expo (amax (k0_pay3 x w))) := rfl

/-- The reference's scaled values, in the terms defined above. -/
theorem pay6_eq (x : FVec F S2048x5120 .bf16) (w : FVec F S1x5120 .f32) :
    k0_pay6 x w = scaled (k0_pay3 x w) (expo (amax (k0_pay3 x w))) := rfl

end

/-- A power of two, entry by entry. -/
theorem exp2_apply (e : FVec Ideal S2048x40 .f32) (i : S2048x40.Idx) : exp2 e i = Ideal.exp2 (e i) := rfl

/-- The largest magnitude of a group. -/
theorem amax_apply (v : FVec Ideal S2048x40x128 .f32) (r : Fin 2048) (q : Fin 40) :
    amax v (ix2 r q) = Quant.amax fun l => v (ix3 r q l) := by
  unfold Quant.amax
  pointwise [amax]

/-- The named constant is the logarithm of two. -/
theorem ln2 : (Named.named (F := Ideal) κ "ln2" (φ := .f32) 1060205080#32) = ((Real.log 2 : ℝ) : EReal) := by
  rfl

/-- The exponent of a group. -/
theorem expo_apply (u : FVec Ideal S2048x40 .f32) (r : Fin 2048) (q : Fin 40) :
    expo u (ix2 r q) = Quant.expo ((Real.log 2 : ℝ) : EReal) (u (ix2 r q) * Ideal.ofBits .f32 991054117#32) := by
  rw [← ln2]
  unfold Quant.expo
  pointwise [expo]

/-- A value divided by its scale. -/
theorem scaled_apply (v : FVec Ideal S2048x40x128 .f32) (e : FVec Ideal S2048x40 .f32) (r : Fin 2048) (q : Fin 40)
    (l : Fin 128) : scaled v e (ix3 r q l) = v (ix3 r q l) * Ideal.exp2 (0 - e (ix2 r q)) := by
  pointwise [scaled]
  rfl

/-- A code, entry by entry. -/
theorem codes_apply (v : FVec Ideal S2048x40x128 .f32) (r : Fin 2048) (n : Fin 5120) :
    codes v (ix2 r n) = min (Ideal.ofBits .f32 0x43E00000#32) (max (Ideal.ofBits .f32 3286237184#32)
      (v (ix3 r (⟨n.val / 128, by omega⟩ : Fin 40) (⟨n.val % 128, by omega⟩ : Fin 128)))) := by
  pointwise [codes, k0_pay1]

/-- A rounded activation, entry by entry. -/
theorem acts_apply (v : FVec Ideal S2048x40x128 .f32) (e : FVec Ideal S2048x40 .f32) (r : Fin 2048) (n : Fin 5120) :
    acts e v (ix2 r n) = min (Ideal.ofBits .f32 0x43E00000#32) (max (Ideal.ofBits .f32 3286237184#32)
      (v (ix3 r (⟨n.val / 128, by omega⟩ : Fin 40) (⟨n.val % 128, by omega⟩ : Fin 128))))
      * e (ix2 r (⟨n.val / 128, by omega⟩ : Fin 40)) := by
  pointwise [acts, k0_pay2, k0_pay1]

section
variable (v : FVec Ideal S2048x40x128 .f32) (g : Fin 2048 → Fin 40 → Fin 128 → EReal) (hv : ∀ r q l, v (ix3 r q l) = g r q l)

include hv in
/-- The codes of groups `g`. -/
theorem codes_of (r : Fin 2048) (n : Fin 5120) :
    codes (scaled v (expo (amax v))) (ix2 r n) = Quant.code (g r (⟨n.val / 128, by omega⟩ : Fin 40)) ⟨n.val % 128, by omega⟩ := by
  rw [codes_apply, scaled_apply, expo_apply, amax_apply]
  simp only [hv]
  rfl

include hv in
/-- The rounded activations of groups `g`. -/
theorem acts_of (r : Fin 2048) (n : Fin 5120) :
    acts (exp2 (expo (amax v))) (scaled v (expo (amax v))) (ix2 r n)
      = Quant.code (g r (⟨n.val / 128, by omega⟩ : Fin 40)) ⟨n.val % 128, by omega⟩ * Quant.scale (g r (⟨n.val / 128, by omega⟩ : Fin 40)) := by
  rw [acts_apply, scaled_apply, exp2_apply, expo_apply, amax_apply]
  simp only [hv]
  rfl

include hv in
/-- The scales of groups `g`. -/
theorem scales_of (r : Fin 2048) (q : Fin 40) : exp2 (expo (amax v)) (ix2 r q) = Quant.scale (g r q) := by
  rw [exp2_apply, expo_apply, amax_apply]
  simp only [hv]
  rfl

end

section
variable (x : FVec Ideal S2048x5120 .bf16) (w : FVec Ideal S1x5120 .f32)

/-- A group of the normed rows of the reference. -/
theorem pay3_apply (r : Fin 2048) (q : Fin 40) (l : Fin 128) :
    k0_pay3 (F := Ideal) x w (ix3 r q l) = NormMath.grp (fun n => x (ix2 r n)) (fun n => w (ix2 0 n)) q.val q.isLt l := by
  have e : q.val * 128 + l.val = 128 * q.val + l.val := by omega
  unfold NormMath.grp NormMath.norm NormMath.rms
  pointwise [k0_pay3]
  simp only [e]

end

section
variable (x : Vec Ideal S2048x5120 .bf16) (w : Vec Ideal S1x5120 .f32)

/-- A load of the whole array is the array. -/
theorem whole0 : View.ld x r0_0 = x :=
  View.ld_unit_zero (by funext d; match d with | ⟨0, _⟩ => rfl | ⟨1, _⟩ => rfl) _ _
/-- A load of the whole array is the array. -/
theorem whole1 : View.ld w r0_1 = w :=
  View.ld_unit_zero (by funext d; match d with | ⟨0, _⟩ => rfl | ⟨1, _⟩ => rfl) _ _

/-- The same with the loads of the whole arrays. -/
theorem pay7_eq : k0_pay7 (F := Ideal) x w = exp2 (expo (amax (k0_pay3 x w))) := by
  unfold k0_pay7
  rw [whole0, whole1, pay5_eq]

/-- The same with the loads of the whole arrays. -/
theorem pay8_eq : k0_pay8 (F := Ideal) x w = scaled (k0_pay3 x w) (expo (amax (k0_pay3 x w))) := by
  unfold k0_pay8
  rw [whole0, whole1, pay6_eq]

/-- What the reference leaves in its codes. -/
theorem out2_eq : out0_2 (F := Ideal) x w = codes (scaled (k0_pay3 x w) (expo (amax (k0_pay3 x w)))) := by
  rw [← pay8_eq]
  exact View.canon_unit_zero (by funext d; match d with | ⟨0, _⟩ => rfl | ⟨1, _⟩ => rfl) _ _

/-- What the reference leaves in its scales. -/
theorem out3_eq : out0_3 (F := Ideal) x w = exp2 (expo (amax (k0_pay3 x w))) := by
  rw [← pay7_eq]
  exact View.canon_unit_zero (by funext d; match d with | ⟨0, _⟩ => rfl | ⟨1, _⟩ => rfl) _ _

/-- What the reference leaves in its rounded activations. -/
theorem out4_eq : out0_4 (F := Ideal) x w = acts (exp2 (expo (amax (k0_pay3 x w)))) (scaled (k0_pay3 x w) (expo (amax (k0_pay3 x w)))) := by
  rw [← pay7_eq, ← pay8_eq]
  exact View.canon_unit_zero (by funext d; match d with | ⟨0, _⟩ => rfl | ⟨1, _⟩ => rfl) _ _

end

/-- The one grid step reads and writes whole arrays. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

variable (m : (ℓ : Loc nD τ sig) → Buf (Elt Ideal) ℓ)

/-- Row `r` of the input as the reference finds it. -/
def xRow (c : Dev nD) (r : Fin 2048) (n : Fin 5120) : EReal := (m ((c : Thread nD τ).loc main_arg0) : FVec Ideal S2048x5120 .bf16) (ix2 r n)
/-- The weights of the norm as the reference finds them. -/
def wRow (c : Dev nD) (n : Fin 5120) : EReal := (m ((c : Thread nD τ).loc main_arg1) : FVec Ideal S5120 .f32) (ix1 n)

/-- The step sees the whole input. -/
theorem iblk0 (c : Dev nD) (t : Fin cfg0.N) (r : Fin 2048) (n : Fin 5120) :
    (show FVec Ideal S2048x5120 .bf16 from iblk m c 0 t) (ix2 r n) = xRow m c r n := by
  unfold xRow
  blk_point [iblk, V, idx t]

/-- The step sees the whole weights of the norm. -/
theorem iblk1 (c : Dev nD) (t : Fin cfg0.N) (n : Fin 5120) :
    (show FVec Ideal S1x5120 .f32 from iblk m c 1 t) (ix2 0 n) = wRow m c n := by
  unfold wRow
  blk_point [iblk, V, idx t, hostOps0]

/-- The groups the reference norms, from the arrays it was given. -/
theorem grp_apply (c : Dev nD) (t : Fin cfg0.N) (r : Fin 2048) (q : Fin 40) (l : Fin 128) :
    k0_pay3 (F := Ideal) (iblk m c 0 t) (iblk m c 1 t) (ix3 r q l) = NormMath.grp (xRow m c r) (wRow m c) q.val q.isLt l := by
  rw [pay3_apply, funext (iblk0 m c t r), funext (iblk1 m c t)]

/-- The codes after the reference's run. -/
theorem final2 (c : Dev nD) (r : Fin 2048) (n : Fin 5120) :
    (dats m 0 c).arrAt 2 cfg0.N (ix2 r n)
      = Quant.code (NormMath.grp (xRow m c r) (wRow m c) (n.val / 128) (by omega)) ⟨n.val % 128, by omega⟩ := by
  refine congrFun ((dats m 0 c).arrAt_eq_of_covers 2 (fun y => Quant.code (NormMath.grp (xRow m c
    (show Fin 2048 from y 0)) (wRow m c) ((y 1).val / 128) (by have : (y 1).val < 5120 := (y 1).isLt; omega)) ⟨(y 1).val % 128, by omega⟩)
    (by decide +kernel) fun t _ y => ?_) (ix2 r n)
  have e : ((cfg0.win 2).blk t).view.emb y = y := by
    funext d
    apply Fin.ext
    match d with
    | ⟨0, _⟩ => blk_simp; simp [idx t]
    | ⟨1, _⟩ => blk_simp; simp [idx t]
  have ey : y = ix2 (show Fin 2048 from y 0) (show Fin 5120 from y 1) := by
    funext d
    match d with
    | ⟨0, _⟩ => rfl
    | ⟨1, _⟩ => rfl
  rw [e]
  blk_simp
  rw [after0_2, out2_eq]
  exact (congrArg _ ey).trans (codes_of _ _ (grp_apply m c t) _ _)

/-- The scales after the reference's run. -/
theorem final3 (c : Dev nD) (r : Fin 2048) (q : Fin 40) :
    (dats m 0 c).arrAt 3 cfg0.N (ix2 r q) = Quant.scale (NormMath.grp (xRow m c r) (wRow m c) q.val q.isLt) := by
  refine congrFun ((dats m 0 c).arrAt_eq_of_covers 3 (fun y => Quant.scale (NormMath.grp (xRow m c
    (show Fin 2048 from y 0)) (wRow m c) (y 1).val (y 1).isLt))
    (by decide +kernel) fun t _ y => ?_) (ix2 r q)
  have e : ((cfg0.win 3).blk t).view.emb y = y := by
    funext d
    apply Fin.ext
    match d with
    | ⟨0, _⟩ => blk_simp; simp [idx t]
    | ⟨1, _⟩ => blk_simp; simp [idx t]
  have ey : y = ix2 (show Fin 2048 from y 0) (show Fin 40 from y 1) := by
    funext d
    match d with
    | ⟨0, _⟩ => rfl
    | ⟨1, _⟩ => rfl
  rw [e]
  blk_simp
  rw [after0_3, out3_eq]
  exact (congrArg _ ey).trans (scales_of _ _ (grp_apply m c t) _ _)

/-- The rounded activations after the reference's run. -/
theorem final4 (c : Dev nD) (r : Fin 2048) (n : Fin 5120) :
    (dats m 0 c).arrAt 4 cfg0.N (ix2 r n)
      = Quant.code (NormMath.grp (xRow m c r) (wRow m c) (n.val / 128) (by omega)) ⟨n.val % 128, by omega⟩
        * Quant.scale (NormMath.grp (xRow m c r) (wRow m c) (n.val / 128) (by omega)) := by
  refine congrFun ((dats m 0 c).arrAt_eq_of_covers 4 (fun y => Quant.code (NormMath.grp (xRow m c
    (show Fin 2048 from y 0)) (wRow m c) ((y 1).val / 128) (by have : (y 1).val < 5120 := (y 1).isLt; omega)) ⟨(y 1).val % 128, by omega⟩
    * Quant.scale (NormMath.grp (xRow m c (show Fin 2048 from y 0)) (wRow m c) ((y 1).val / 128) (by have : (y 1).val < 5120 := (y 1).isLt; omega)))
    (by decide +kernel) fun t _ y => ?_) (ix2 r n)
  have e : ((cfg0.win 4).blk t).view.emb y = y := by
    funext d
    apply Fin.ext
    match d with
    | ⟨0, _⟩ => blk_simp; simp [idx t]
    | ⟨1, _⟩ => blk_simp; simp [idx t]
  have ey : y = ix2 (show Fin 2048 from y 0) (show Fin 5120 from y 1) := by
    funext d
    match d with
    | ⟨0, _⟩ => rfl
    | ⟨1, _⟩ => rfl
  rw [e]
  blk_simp
  rw [after0_4, out4_eq]
  exact (congrArg _ ey).trans (acts_of _ _ (grp_apply m c t) _ _)

end Cert.NormQuantRefIdeal.Value

end
-- ==== Proof.NormQuantAlg.lean ====
module

public import proofs.«01_k».proof.Proof.NormQuantFinal
public import proofs.«01_k».proof.Proof.NormQuantRefValue

@[expose] public section

set_option maxRecDepth 16384

noncomputable section

open Idealize.ShloMosaic Idealize.ShloMosaic.TcCoe Idealize.SL.Sem

namespace Cert.NormQuantProof

variable (m : (ℓ : Loc Cert.NormQuantIdeal.nD Cert.NormQuantIdeal.τ Cert.NormQuantIdeal.sig) → Buf (Elt Ideal) ℓ)
    (m' : (ℓ : Loc Cert.NormQuantRefIdeal.nD Cert.NormQuantRefIdeal.τ Cert.NormQuantRefIdeal.sig) → Buf (Elt Ideal) ℓ)
    (c : Dev Cert.NormQuantIdeal.nD)
    (h0 : m' ((c.tc : Thread Cert.NormQuantRefIdeal.nD Cert.NormQuantRefIdeal.τ).loc Cert.NormQuantRefIdeal.main_arg0) = m ((c.tc : Thread Cert.NormQuantIdeal.nD Cert.NormQuantIdeal.τ).loc Cert.NormQuantIdeal.main_arg0))
    (h1 : m' ((c.tc : Thread Cert.NormQuantRefIdeal.nD Cert.NormQuantRefIdeal.τ).loc Cert.NormQuantRefIdeal.main_arg1) = m ((c.tc : Thread Cert.NormQuantIdeal.nD Cert.NormQuantIdeal.τ).loc Cert.NormQuantIdeal.main_arg1))

include h0 in
/-- The rows are the same. -/
theorem xRow_eq (r : Fin 2048) : Cert.NormQuantRefIdeal.Value.xRow m' c r = Cert.NormQuantIdeal.Value.xRow m c r := by
  unfold Cert.NormQuantRefIdeal.Value.xRow
  rw [h0]
  rfl

include h1 in
/-- The weights of the norm are the same. -/
theorem wRow_eq : Cert.NormQuantRefIdeal.Value.wRow m' c = Cert.NormQuantIdeal.Value.wRow m c := by
  unfold Cert.NormQuantRefIdeal.Value.wRow
  rw [h1]
  rfl

include h0 h1 in
/-- From memories that agree on the arguments, the reference's codes are the kernel's. -/
theorem codes_eq : (Cert.NormQuantRefIdeal.Gen.dats m' 0 c).arrAt 2 Cert.NormQuantRefIdeal.cfg0.N
      = (Cert.NormQuantIdeal.Gen.dats m 0 c).arrAt 2 Cert.NormQuantIdeal.cfg0.N := by
  funext y
  have e : y = ix2 (show Fin 2048 from y 0) (show Fin 5120 from y 1) := by
    funext d
    match d with
    | ⟨0, _⟩ => rfl
    | ⟨1, _⟩ => rfl
  rw [e]
  have h := Cert.NormQuantRefIdeal.Value.final2 m' c (show Fin 2048 from y 0) (show Fin 5120 from y 1)
  rw [xRow_eq m m' c h0, wRow_eq m m' c h1] at h
  exact h.trans (Cert.NormQuantIdeal.Value.final2 m c _ _).symm

include h0 h1 in
/-- From memories that agree on the arguments, the reference's scales are the kernel's. -/
theorem scales_eq : (Cert.NormQuantRefIdeal.Gen.dats m' 0 c).arrAt 3 Cert.NormQuantRefIdeal.cfg0.N
      = (Cert.NormQuantIdeal.Gen.dats m 0 c).arrAt 3 Cert.NormQuantIdeal.cfg0.N := by
  funext y
  have e : y = ix2 (show Fin 2048 from y 0) (show Fin 40 from y 1) := by
    funext d
    match d with
    | ⟨0, _⟩ => rfl
    | ⟨1, _⟩ => rfl
  rw [e]
  have h := Cert.NormQuantRefIdeal.Value.final3 m' c (show Fin 2048 from y 0) (show Fin 40 from y 1)
  rw [xRow_eq m m' c h0, wRow_eq m m' c h1] at h
  exact h.trans (Cert.NormQuantIdeal.Value.final3 m c _ _).symm

include h0 h1 in
/-- From memories that agree on the arguments, the reference's rounded activations are the kernel's. -/
theorem act_eq : (Cert.NormQuantRefIdeal.Gen.dats m' 0 c).arrAt 4 Cert.NormQuantRefIdeal.cfg0.N
      = (Cert.NormQuantIdeal.Gen.dats m 0 c).arrAt 4 Cert.NormQuantIdeal.cfg0.N := by
  funext y
  have e : y = ix2 (show Fin 2048 from y 0) (show Fin 5120 from y 1) := by
    funext d
    match d with
    | ⟨0, _⟩ => rfl
    | ⟨1, _⟩ => rfl
  rw [e]
  have h := Cert.NormQuantRefIdeal.Value.final4 m' c (show Fin 2048 from y 0) (show Fin 5120 from y 1)
  rw [xRow_eq m m' c h0, wRow_eq m m' c h1] at h
  exact h.trans (Cert.NormQuantIdeal.Value.final4 m c _ _).symm

end Cert.NormQuantProof

end
-- ==== Proof.OutProjEqs.lean ====
module

public import proofs.«01_k».proof.Proof.Gen.OutProjIdeal.Value
public import proofs.«01_k».proof.Proof.NormQuantEqs

@[expose] public section

set_option maxRecDepth 65536

noncomputable section

open Idealize.ShloMosaic Idealize.ShloMosaic.TcCoe Idealize.SL.Sem

namespace Cert.OutProjIdeal.Value

open Cert.OutProjIdeal Cert.OutProjIdeal.Gen
open Cert.NormQuantIdeal.Value (pieces rG rW ssq rinvV normV grpN codesV actV scalesV)

variable {F : FTy → Type} [FloatOps F]

/-- A group of 128 columns can be cut out of a block. -/
theorem sliceG (k : Fin 40) : S256x5120.Slices ![0, 128 * k.val] S256x128 := by
  refine ⟨rfl, fun d => ?_⟩
  match d with
  | ⟨0, _⟩ => show 0 + 256 ≤ 256; omega
  | ⟨1, _⟩ => show 128 * k.val + 128 ≤ 5120; omega

/-- Group `k` of the sums: the input there plus the product there times the rows' scales. -/
def hV (p : FVec F S256x5120 .f32) (sc : FVec F S256x128 .f32) (x : Vec F S256x5120 .bf16) (k : Fin 40) : FVec F S256x128 .f32 :=
  addf (extf .f32 (View.ld x (rG k)) bitsLt_bf16_f32) (mulf (extractStridedSlice S256x128 ![0, 128 * k.val] p (sliceG k)) sc)

/-- The pieces of the sums. -/
def hP (a : Vec F S256x1536 .fp8e4m3) (sc : Vec F S256x128 .f32) (w : Vec F S1536x5120 .bf16) (x : Vec F S256x5120 .bf16) :
    List (View.Piece (Elt F) S256x5120 .f32) :=
  pieces (fun k => ⟨rG k, hV (k0_pay59 (View.ld a (Rect.unit (s := S256x1536) ![0, 0] S256x1536.size inb_S256x1536_S256x1536_0_0)) w)
    (View.ld sc (Rect.unit (s := S256x128) ![0, 0] S256x128.size inb_S256x128_S256x128_0_0)) x k⟩) 40 le_rfl

/-- Group `k` of the sums as the kernel reads it back. -/
def back (arg7 : Memref sig .tc .vmem S256x5120 .f32) (L : List (View.Piece (Elt F) S256x5120 .f32)) (k : Fin 40) : FVec F S256x128 .f32 :=
  shapeCast S256x128 (arg7.view.readCov L (rG k).toLoadRect) shapeCasts_S256x128_S256x128

section
variable (c : Dev nD) (i : grid0.Coords)
    (arg1 : Memref sig .tc .vmem S256x1536 .fp8e4m3) (harg1 : arg1.IsWhole) (arg2 : Memref sig .tc .vmem S256x128 .f32) (harg2 : arg2.IsWhole)
    (arg3 : Memref sig .tc .vmem S1536x5120 .fp8e4m3) (harg3 : arg3.IsWhole) (arg4 : Memref sig .tc .smem S12x40 .f32) (harg4 : arg4.IsWhole)
    (arg5 : Memref sig .tc .vmem S256x5120 .bf16) (harg5 : arg5.IsWhole) (arg6 : Memref sig .tc .vmem S1x5120 .f32) (harg6 : arg6.IsWhole)
    (arg7 : Memref sig .tc .vmem S256x5120 .f32) (harg7 : arg7.IsWhole) (arg8 : Memref sig .tc .vmem S256x5120 .fp8e4m3) (harg8 : arg8.IsWhole)
    (arg9 : Memref sig .tc .vmem S256x40 .f32) (harg9 : arg9.IsWhole) (arg10 : Memref sig .tc .vmem S256x5120 .bf16) (harg10 : arg10.IsWhole)
    (arg11 : Memref sig .tc .vmem S1536x5120 .bf16) (harg11 : arg11.IsWhole)
    (x0 : Vec F S256x1536 .fp8e4m3) (x1 : Vec F S256x128 .f32) (x2 : Vec F S1536x5120 .fp8e4m3) (x3 : Vec F S12x40 .f32)
    (x4 : Vec F S256x5120 .bf16) (x5 : Vec F S1x5120 .f32) (xs0 : Vec F S1536x5120 .bf16)

/-- What a later step writes as its sums. -/
theorem hB (h1) : (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).1
    = hP (arg1.view.read (Elt F) (harg1.unread x0)) (arg2.view.read (Elt F) (harg2.unread x1))
        (View.ld (arg11.view.read (Elt F) (harg11.unread xs0)) (Rect.unit (s := S1536x5120) ![0, 0] S1536x5120.size inb_S1536x5120_S1536x5120_0_0))
        (arg5.view.read (Elt F) (harg5.unread x4)) := by
  unfold kernelRun0_B
  rfl

/-- What a later step writes as its codes. -/
theorem codesB (h1) : (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).2.1
    = pieces (fun k => ⟨rG k, codesV (grpN (back arg7 (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).1) (arg6.view.read (Elt F) (harg6.unread x5)) k)⟩) 40 le_rfl := by
  unfold kernelRun0_B
  rfl

/-- What a later step writes as its scales. -/
theorem scalesB (h1) : (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).2.2.1
    = [⟨Rect.unit (s := S256x40) ![0, 0] S256x40.size inb_S256x40_S256x40_0_0, scalesV (grpN (back arg7 (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).1) (arg6.view.read (Elt F) (harg6.unread x5))) 40 le_rfl⟩] := by
  unfold kernelRun0_B
  rfl

/-- What a later step writes as its rounded activations. -/
theorem actB (h1) : (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).2.2.2.1
    = pieces (fun k => ⟨rG k, actV (grpN (back arg7 (kernelRun0_B (F := F) c i arg1 harg1 arg2 harg2 arg3 harg3 arg4 harg4 arg5 harg5 arg6 harg6 arg7 harg7 arg8 harg8 arg9 harg9 arg10 harg10 arg11 harg11 h1 x0 x1 x2 x3 x4 x5 xs0).1) (arg6.view.read (Elt F) (harg6.unread x5)) k)⟩) 40 le_rfl := by
  unfold kernelRun0_B
  rfl

/-- What the first step writes into the widened weights. -/
theorem wideA (h1) : (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).2.2.2.2.1
    = pb_k0_t1 (F := F) Variants.none c none i arg1 harg1 arg2 harg2 arg3 harg3 arg4 harg4 arg5 harg5 arg6 harg6 arg7 harg7 arg8 harg8 arg9 harg9 arg10 harg10 arg11 harg11 h1 (harg3.unread x2) (harg4.unread x3)
        (Scf.trips k0_t1_loop.lb k0_t1_loop.ub k0_t1_loop.st) := by
  unfold kernelRun0_A
  rfl

/-- What the first step writes as its sums. -/
theorem hA (h1) : (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).1
    = hP (arg1.view.read (Elt F) (harg1.unread x0)) (arg2.view.read (Elt F) (harg2.unread x1))
        (arg11.view.readCov (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).2.2.2.2.1
          (Rect.unit (s := S1536x5120) ![0, 0] S1536x5120.size inb_S1536x5120_S1536x5120_0_0).toLoadRect)
        (arg5.view.read (Elt F) (harg5.unread x4)) := by
  unfold kernelRun0_A
  rfl

/-- What the first step writes as its codes. -/
theorem codesA (h1) : (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).2.1
    = pieces (fun k => ⟨rG k, codesV (grpN (back arg7 (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).1) (arg6.view.read (Elt F) (harg6.unread x5)) k)⟩) 40 le_rfl := by
  unfold kernelRun0_A
  rfl

/-- What the first step writes as its scales. -/
theorem scalesA (h1) : (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).2.2.1
    = [⟨Rect.unit (s := S256x40) ![0, 0] S256x40.size inb_S256x40_S256x40_0_0, scalesV (grpN (back arg7 (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).1) (arg6.view.read (Elt F) (harg6.unread x5))) 40 le_rfl⟩] := by
  unfold kernelRun0_A
  rfl

/-- What the first step writes as its rounded activations. -/
theorem actA (h1) : (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).2.2.2.1
    = pieces (fun k => ⟨rG k, actV (grpN (back arg7 (kernelRun0_A (F := F) c i arg1 harg1 arg2 harg2 arg3 harg3 arg4 harg4 arg5 harg5 arg6 harg6 arg7 harg7 arg8 harg8 arg9 harg9 arg10 harg10 arg11 harg11 h1 x0 x1 x2 x3 x4 x5).1) (arg6.view.read (Elt F) (harg6.unread x5)) k)⟩) 40 le_rfl := by
  unfold kernelRun0_A
  rfl

end

end Cert.OutProjIdeal.Value

end
-- ==== Proof.OutProjLoop.lean ====
module

public import proofs.«01_k».proof.Proof.Gen.OutProjIdeal.Value
public import Idealize.ShloMosaic.Lib.Pipeline.ValueKit
public import Idealize.ShloMosaic.Lib.Pipeline.ReadBack
public import Idealize.ShloMosaic.Lib.Pointwise
public import Idealize.ShloMosaic.Lib.WordArith.Masks

@[expose] public section

set_option maxRecDepth 16384

noncomputable section

open Idealize.ShloMosaic Idealize.ShloMosaic.TcCoe Idealize.SL.Sem

namespace Cert.OutProjIdeal.Value

open Cert.OutProjIdeal Cert.OutProjIdeal.Gen

/-- The widened weights: every entry times the scale of its 128 x 128 block. -/
def wide (w : FVec Ideal S1536x5120 .fp8e4m3) (s : FVec Ideal S12x40 .f32) : FVec Ideal S1536x5120 .bf16 :=
  fun y => w y * s (ix2 (⟨(y 0).val / 128, by have : (y 0).val < 1536 := (y 0).isLt; omega⟩ : Fin 12)
    (⟨(y 1).val / 128, by have : (y 1).val < 5120 := (y 1).isLt; omega⟩ : Fin 40))

/-- The number of a trip of the loop, as the kernel counts it. -/
theorem iv_toNat (k : Fin k0_t1_loop.trips) : (Scf.iv 0#32 1#32 k).toNat = k.val :=
  WordArith.toNat_iv_zero_one k (Nat.lt_of_lt_of_le k.isLt (k0_t1_abs.2.1.trans (by decide)))

/-- The block column of a scale the loop reads, as the first column of its block. -/
theorem scale_col (k : Fin k0_t1_loop.trips) (w : BitVec 32) (b : ℕ) (hw : w.toNat < 4) (hb : 128 * w.toNat = b) :
    128 * (Scalar.indexCast (Scalar.addi (Scalar.muli (Scf.iv 0#32 1#32 k) 4#32) w)).toNat = 512 * k.val + b := by
  have hk : k.val < 10 := Nat.lt_of_lt_of_le k.isLt k0_t1_abs.2.1
  simp only [Scalar.indexCast, Scalar.addi, Scalar.muli, IntOp.addi, IntOp.muli]
  rw [BitVec.toNat_add, BitVec.toNat_mul, iv_toNat, BitVec.toNat_ofNat]
  omega

/-- The column of a piece the loop stores, as a number. -/
theorem store_col (k : Fin k0_t1_loop.trips) (b : ℕ) :
    Nat.add (Scalar.muli (Scf.iv 0#32 1#32 k) 512#32).toNat b = 512 * k.val + b := by
  have hk : k.val < 10 := Nat.lt_of_lt_of_le k.isLt k0_t1_abs.2.1
  show (Scalar.muli (Scf.iv 0#32 1#32 k) 512#32).toNat + b = _
  simp only [Scalar.muli, IntOp.muli]
  rw [BitVec.toNat_mul, iv_toNat, BitVec.toNat_ofNat]
  omega

/-- A piece the loop stores lies in the weights. -/
theorem store_inb (k : Fin k0_t1_loop.trips) (o : Fin 2 → ℕ) (b : ℕ) (ho0 : Nat.ble (o 0) 1408 = true) (ho1 : o 1 = 512 * k.val + b)
    (hb : b ≤ 384) : ∀ d, o d + S128x128.size d ≤ S1536x5120.size d := by
  have hk : k.val < 10 := Nat.lt_of_lt_of_le k.isLt k0_t1_abs.2.1
  intro d
  match d with
  | ⟨0, _⟩ => show o 0 + 128 ≤ 1536; have := Nat.le_of_ble_eq_true ho0; omega
  | ⟨1, _⟩ => show o 1 + 128 ≤ 5120; omega

/-- One widened 128 x 128 piece is the widened weights there. -/
theorem piece_eq (k : Fin k0_t1_loop.trips) (arg3 : Memref sig .tc .vmem S1536x5120 .fp8e4m3) (harg3 : arg3.IsWhole)
    (arg4 : Memref sig .tc .smem S12x40 .f32) (harg4 : arg4.IsWhole)
    (x2 : Vec Ideal S1536x5120 .fp8e4m3) (x3 : Vec Ideal S12x40 .f32) (o o2 os : Fin 2 → ℕ) (a b : ℕ)
    (inb : ∀ d, o d + S128x128.size d ≤ S1536x5120.size d) (inb2 : ∀ d, o2 d + S1536x512.size d ≤ S1536x5120.size d)
    (inb3 : ∀ d, (![a, b] : Fin 2 → ℕ) d + S128x128.size d ≤ S1536x512.size d)
    (inbs : ∀ d, os d + S1x1.size d ≤ S12x40.size d) (h1 : 0 < S1x1.numel) (h2)
    (ho0 : o 0 = a) (ho1 : o 1 = 512 * k.val + b) (h20 : o2 0 = 0) (h21 : o2 1 = 512 * k.val)
    (hs0 : 128 * os 0 = a) (hs1 : 128 * os 1 = 512 * k.val + b) (x : S128x128.Idx) :
    k0_pay2 (F := Ideal)
        (View.readAt (Elt Ideal) arg4.view (Rect.unit (s := S12x40) os S1x1.size inbs).toLoadRect (harg4.unread x3) (Shape.Idx.first h1))
        (View.readAt (Elt Ideal) arg3.view ((Rect.unit (s := S1536x5120) o2 S1536x512.size inb2).withinL
          (Rect.unit (s := S1536x512) ![a, b] S128x128.size inb3).toLoadRect h2) (harg3.unread x2)) x
      = wide x2 x3 ((Rect.unit (s := S1536x5120) o S128x128.size inb).emb x) := by
  have e : View.readAt (Elt Ideal) arg3.view ((Rect.unit (s := S1536x5120) o2 S1536x512.size inb2).withinL
      (Rect.unit (s := S1536x512) ![a, b] S128x128.size inb3).toLoadRect h2) (harg3.unread x2) x
      = x2 ((Rect.unit (s := S1536x5120) o2 S1536x512.size inb2).emb ((Rect.unit (s := S1536x512) ![a, b] S128x128.size inb3).emb x)) := by
    show arg3.view.read (Elt Ideal) (harg3.unread x2) _ = _
    rw [harg3.read_unread]
    exact congrArg x2 (Rect.idx_withinL _ (Rect.unit (s := S1536x512) ![a, b] S128x128.size inb3).toLoadRect h2 x)
  unfold k0_pay2
  rw [shapeCast_id]
  simp only [View.readAt_eq_ld, harg4.read_unread]
  refine (congrArg (· * x3 _) e).trans ?_
  show x2 _ * x3 _ = x2 _ * x3 _
  congr 2
  · funext d
    apply Fin.ext
    match d with
    | ⟨0, _⟩ =>
      show o2 0 + 1 * (a + 1 * (x 0).val) = o 0 + 1 * (x 0).val
      omega
    | ⟨1, _⟩ =>
      show o2 1 + 1 * (b + 1 * (x 1).val) = o 1 + 1 * (x 1).val
      omega
  · funext d
    apply Fin.ext
    match d with
    | ⟨0, _⟩ =>
      show os 0 + 0 = (o 0 + 1 * (x 0).val) / 128
      have : (x 0).val < 128 := (x 0).isLt
      omega
    | ⟨1, _⟩ =>
      show os 1 + 0 = (o 1 + 1 * (x 1).val) / 128
      have : (x 1).val < 128 := (x 1).isLt
      omega

section
variable (c : Dev nD) (i : grid0.Coords) (arg1 : Memref sig .tc .vmem S256x1536 .fp8e4m3) (harg1 : arg1.IsWhole) (arg2 : Memref sig .tc .vmem S256x128 .f32) (harg2 : arg2.IsWhole)
    (arg3 : Memref sig .tc .vmem S1536x5120 .fp8e4m3) (harg3 : arg3.IsWhole) (arg4 : Memref sig .tc .smem S12x40 .f32) (harg4 : arg4.IsWhole)
    (arg5 : Memref sig .tc .vmem S256x5120 .bf16) (harg5 : arg5.IsWhole) (arg6 : Memref sig .tc .vmem S1x5120 .f32) (harg6 : arg6.IsWhole)
    (arg7 : Memref sig .tc .vmem S256x5120 .f32) (harg7 : arg7.IsWhole) (arg8 : Memref sig .tc .vmem S256x5120 .fp8e4m3) (harg8 : arg8.IsWhole)
    (arg9 : Memref sig .tc .vmem S256x40 .f32) (harg9 : arg9.IsWhole) (arg10 : Memref sig .tc .vmem S256x5120 .bf16) (harg10 : arg10.IsWhole)
    (arg11 : Memref sig .tc .vmem S1536x5120 .bf16) (harg11 : arg11.IsWhole) (h1 : k0_cond1 i = 1#1)
    (x2 : Vec Ideal S1536x5120 .fp8e4m3) (x3 : Vec Ideal S12x40 .f32)

set_option maxHeartbeats 8000000 in
/-- Every piece a trip of the loop widens is the widened weights there. -/
theorem trip_pieces (k : Fin k0_t1_loop.trips) :
    View.PiecesOf (wide x2 x3) (tripL_k0_t1 (F := Ideal) Variants.none c none i arg1 harg1 arg2 harg2 arg3 harg3 arg4 harg4 arg5 harg5 arg6 harg6 arg7 harg7
      arg8 harg8 arg9 harg9 arg10 harg10 arg11 harg11 h1 (harg3.unread x2) (harg4.unread x3) k) := by
  unfold tripL_k0_t1 trip_k0_t1
  dsimp only
  repeat
    refine ⟨fun x => ?_, ?_⟩
    refine piece_eq k arg3 harg3 arg4 harg4 x2 x3 _ _ _ _ _ ?_ _ _ _ _ _ ?_ ?_ ?_ ?_ ?_ ?_ x
    · first
        | exact store_inb k _ 0 rfl (store_col k 0) (by decide)
        | exact store_inb k _ 128 rfl (store_col k 128) (by decide)
        | exact store_inb k _ 256 rfl (store_col k 256) (by decide)
        | exact store_inb k _ 384 rfl (store_col k 384) (by decide)
    · rfl
    · first
        | exact store_col k 0
        | exact store_col k _
    · rfl
    · exact store_col k 0
    · rfl
    · exact scale_col k _ _ (by decide) (by decide)
  exact trivial

/-- So is every piece of the trips before trip `n`. -/
theorem loop_pieces : ∀ (n : ℕ), n ≤ k0_t1_loop.trips → ∀ p ∈ pb_k0_t1 (F := Ideal) Variants.none c none i arg1 harg1 arg2 harg2 arg3 harg3 arg4 harg4 arg5 harg5 arg6 harg6 arg7 harg7
      arg8 harg8 arg9 harg9 arg10 harg10 arg11 harg11 h1 (harg3.unread x2) (harg4.unread x3) n,
    ∀ x, p.2 x = wide x2 x3 (p.1.emb x)
  | 0, _, p, hp => absurd hp (List.not_mem_nil)
  | n + 1, h, p, hp => by
    have e := pb_k0_t1_succ (F := Ideal) Variants.none c none i arg1 harg1 arg2 harg2 arg3 harg3 arg4 harg4 arg5 harg5 arg6 harg6 arg7 harg7
      arg8 harg8 arg9 harg9 arg10 harg10 arg11 harg11 h1 (harg3.unread x2) (harg4.unread x3) ⟨n, h⟩
    rw [e] at hp
    rcases List.mem_append.mp hp with hp | hp
    · exact (trip_pieces c i arg1 harg1 arg2 harg2 arg3 harg3 arg4 harg4 arg5 harg5 arg6 harg6 arg7 harg7
        arg8 harg8 arg9 harg9 arg10 harg10 arg11 harg11 h1 x2 x3 ⟨n, h⟩).mem p hp
    · exact loop_pieces n (by omega) p hp

/-- The loop leaves the widened weights. -/
theorem loop_canon : View.canon (pb_k0_t1 (F := Ideal) Variants.none c none i arg1 harg1 arg2 harg2 arg3 harg3 arg4 harg4 arg5 harg5 arg6 harg6 arg7 harg7
      arg8 harg8 arg9 harg9 arg10 harg10 arg11 harg11 h1 (harg3.unread x2) (harg4.unread x3)
    (Scf.trips k0_t1_loop.lb k0_t1_loop.ub k0_t1_loop.st)) = wide x2 x3 :=
  funext fun y => View.canon_apply_of_pieces (wide x2 x3) _ (loop_pieces c i arg1 harg1 arg2 harg2 arg3 harg3 arg4 harg4 arg5 harg5 arg6 harg6 arg7 harg7
    arg8 harg8 arg9 harg9 arg10 harg10 arg11 harg11 h1 x2 x3 _ le_rfl) y
    (View.cover_of_tiledL (pb_k0_t1 (F := Ideal) Variants.none c none i arg1 harg1 arg2 harg2 arg3 harg3 arg4 harg4 arg5 harg5 arg6 harg6 arg7 harg7
      arg8 harg8 arg9 harg9 arg10 harg10 arg11 harg11 h1 (harg3.unread x2) (harg4.unread x3)
      (Scf.trips k0_t1_loop.lb k0_t1_loop.ub k0_t1_loop.st)) S128x128.size (by sl_kernel_rfl) y)

end

end Cert.OutProjIdeal.Value

end
-- ==== Proof.OutProjValue.lean ====
module

public import proofs.«01_k».proof.Proof.OutProjEqs
public import proofs.«01_k».proof.Proof.OutProjLoop
public import proofs.«01_k».proof.Proof.NormQuantValue

@[expose] public section

set_option maxRecDepth 16384

noncomputable section

open Idealize.ShloMosaic Idealize.ShloMosaic.TcCoe Idealize.SL.Sem

namespace Cert.OutProjIdeal.Value

open Cert.OutProjIdeal Cert.OutProjIdeal.Gen
open Cert.NormQuantIdeal.Value (pieces rG emb_rG canon_pieces codesBlock scaleBlock actBlock codes_block scales_block act_block)

/-- The rows a grid step adds up: input plus product times the row's scale in the column's lane. -/
def rows (a : Vec Ideal S256x1536 .fp8e4m3) (sc : Vec Ideal S256x128 .f32) (w : Vec Ideal S1536x5120 .bf16) (x : Vec Ideal S256x5120 .bf16)
    (r : Fin 256) (n : Fin 5120) : EReal :=
  x (ix2 r n) + (∑ k : Fin 1536, a (ix2 r k) * w (ix2 k n)) * sc (ix2 r (⟨n.val % 128, by omega⟩ : Fin 128))

/-- The same as a block. -/
def sums (a : Vec Ideal S256x1536 .fp8e4m3) (sc : Vec Ideal S256x128 .f32) (w : Vec Ideal S1536x5120 .bf16) (x : Vec Ideal S256x5120 .bf16) :
    FVec Ideal S256x5120 .f32 :=
  fun y => rows a sc w x (show Fin 256 from y 0) (show Fin 5120 from y 1)

/-- The product, entry by entry. -/
theorem prod_apply (a : Vec Ideal S256x1536 .fp8e4m3) (w : Vec Ideal S1536x5120 .bf16) (r : Fin 256) (n : Fin 5120) :
    k0_pay59 (F := Ideal) a w (ix2 r n) = ∑ k : Fin 1536, a (ix2 r k) * w (ix2 k n) := by
  pointwise [k0_pay59]

/-- A group of a block, entry by entry. -/
theorem slice_apply (p : FVec Ideal S256x5120 .f32) (k : Fin 40) (r : Fin 256) (l : Fin 128) :
    extractStridedSlice S256x128 ![0, 128 * k.val] p (sliceG k) (ix2 r l) = p (ix2 r (⟨128 * k.val + l.val, by omega⟩ : Fin 5120)) := by
  show p _ = p _
  congr 1
  funext d
  apply Fin.ext
  match d with
  | ⟨0, _⟩ => show 0 + r.val = r.val; omega
  | ⟨1, _⟩ => rfl

/-- A group of the sums, entry by entry. -/
theorem hV_apply (a : Vec Ideal S256x1536 .fp8e4m3) (sc : Vec Ideal S256x128 .f32) (w : Vec Ideal S1536x5120 .bf16) (x : Vec Ideal S256x5120 .bf16)
    (k : Fin 40) (r : Fin 256) (l : Fin 128) :
    hV (F := Ideal) (k0_pay59 a w) sc x k (ix2 r l) = rows a sc w x r ⟨128 * k.val + l.val, by omega⟩ := by
  have ex : View.ld x (rG k) (ix2 r l) = x (ix2 r (⟨128 * k.val + l.val, by omega⟩ : Fin 5120)) := congrArg x (emb_rG k (ix2 r l))
  have el : (⟨(128 * k.val + l.val) % 128, by omega⟩ : Fin 128) = l := Fin.ext (by show (128 * k.val + l.val) % 128 = l.val; omega)
  show View.ld x (rG k) (ix2 r l) + extractStridedSlice S256x128 ![0, 128 * k.val] (k0_pay59 (F := Ideal) a w) (sliceG k) (ix2 r l) * sc (ix2 r l) = _
  rw [ex, slice_apply, prod_apply]
  unfold rows
  rw [el]

/-- A load of the whole block is the block. -/
theorem wholeA (a : Vec Ideal S256x1536 .fp8e4m3) :
    View.ld a (Rect.unit (s := S256x1536) ![0, 0] S256x1536.size inb_S256x1536_S256x1536_0_0) = a :=
  View.ld_unit_zero (by funext d; match d with | ⟨0, _⟩ => rfl | ⟨1, _⟩ => rfl) _ _
/-- A load of the whole block is the block. -/
theorem wholeSc (a : Vec Ideal S256x128 .f32) :
    View.ld a (Rect.unit (s := S256x128) ![0, 0] S256x128.size inb_S256x128_S256x128_0_0) = a :=
  View.ld_unit_zero (by funext d; match d with | ⟨0, _⟩ => rfl | ⟨1, _⟩ => rfl) _ _
/-- A load of the whole block is the block. -/
theorem wholeW (a : Vec Ideal S1536x5120 .bf16) :
    View.ld a (Rect.unit (s := S1536x5120) ![0, 0] S1536x5120.size inb_S1536x5120_S1536x5120_0_0) = a :=
  View.ld_unit_zero (by funext d; match d with | ⟨0, _⟩ => rfl | ⟨1, _⟩ => rfl) _ _

section
variable (a : Vec Ideal S256x1536 .fp8e4m3) (sc : Vec Ideal S256x128 .f32) (w : Vec Ideal S1536x5120 .bf16) (x : Vec Ideal S256x5120 .bf16)

/-- The pieces of the sums together are the sums. -/
theorem canon_hP : View.canon (hP (F := Ideal) a sc w x) = sums a sc w x := by
  unfold hP
  rw [wholeA, wholeSc]
  exact canon_pieces (e := .f32) (fun k => hV (F := Ideal) (k0_pay59 a w) sc x k) (fun v => v) (sums a sc w x)
    fun k r l => hV_apply a sc w x k r l

/-- What the kernel reads back of the sums. -/
theorem back_hP (arg7 : Memref sig .tc .vmem S256x5120 .f32) (k : Fin 40) (r : Fin 256) (l : Fin 128) :
    back (F := Ideal) arg7 (hP a sc w x) k (ix2 r l) = rows a sc w x r ⟨128 * k.val + l.val, by omega⟩ := by
  unfold back
  refine (congrFun (shapeCast_id (s := S256x128) _ _) _).trans ?_
  rw [View.readCov_eq_canon', canon_hP]
  exact congrArg (sums a sc w x) (emb_rG k (ix2 r l))

/-- The codes of the sums. -/
theorem canon_codes (arg7 : Memref sig .tc .vmem S256x5120 .f32) (nw : Vec Ideal S1x5120 .f32) :
    View.canon (pieces (F := Ideal) (e := .fp8e4m3) (fun k => ⟨rG k, NormQuantIdeal.Value.codesV (NormQuantIdeal.Value.grpN (back arg7 (hP a sc w x)) nw k)⟩) 40 le_rfl)
      = codesBlock nw (rows a sc w x) :=
  codes_block _ nw (rows a sc w x) (back_hP a sc w x arg7)

/-- The rounded activations of the sums. -/
theorem canon_act (arg7 : Memref sig .tc .vmem S256x5120 .f32) (nw : Vec Ideal S1x5120 .f32) :
    View.canon (pieces (F := Ideal) (e := .bf16) (fun k => ⟨rG k, NormQuantIdeal.Value.actV (NormQuantIdeal.Value.grpN (back arg7 (hP a sc w x)) nw k)⟩) 40 le_rfl)
      = actBlock nw (rows a sc w x) :=
  act_block _ nw (rows a sc w x) (back_hP a sc w x arg7)

/-- The scales of the sums. -/
theorem canon_scales (arg7 : Memref sig .tc .vmem S256x5120 .f32) (nw : Vec Ideal S1x5120 .f32) :
    View.canon (Val := Elt Ideal) (e := .f32) [⟨Rect.unit (s := S256x40) ![0, 0] S256x40.size inb_S256x40_S256x40_0_0,
        NormQuantIdeal.Value.scalesV (F := Ideal) (NormQuantIdeal.Value.grpN (back arg7 (hP a sc w x)) nw) 40 le_rfl⟩]
      = scaleBlock nw (rows a sc w x) := by
  rw [scales_block _ nw (rows a sc w x) (back_hP a sc w x arg7)]
  exact View.canon_unit_zero (by funext d; match d with | ⟨0, _⟩ => rfl | ⟨1, _⟩ => rfl) _ _

end

section
variable (c : Dev nD) (i : grid0.Coords)
    (arg1 : Memref sig .tc .vmem S256x1536 .fp8e4m3) (harg1 : arg1.IsWhole) (arg2 : Memref sig .tc .vmem S256x128 .f32) (harg2 : arg2.IsWhole)
    (arg3 : Memref sig .tc .vmem S1536x5120 .fp8e4m3) (harg3 : arg3.IsWhole) (arg4 : Memref sig .tc .smem S12x40 .f32) (harg4 : arg4.IsWhole)
    (arg5 : Memref sig .tc .vmem S256x5120 .bf16) (harg5 : arg5.IsWhole) (arg6 : Memref sig .tc .vmem S1x5120 .f32) (harg6 : arg6.IsWhole)
    (arg7 : Memref sig .tc .vmem S256x5120 .f32) (harg7 : arg7.IsWhole) (arg8 : Memref sig .tc .vmem S256x5120 .fp8e4m3) (harg8 : arg8.IsWhole)
    (arg9 : Memref sig .tc .vmem S256x40 .f32) (harg9 : arg9.IsWhole) (arg10 : Memref sig .tc .vmem S256x5120 .bf16) (harg10 : arg10.IsWhole)
    (arg11 : Memref sig .tc .vmem S1536x5120 .bf16) (harg11 : arg11.IsWhole)
    (x0 : Vec Ideal S256x1536 .fp8e4m3) (x1 : Vec Ideal S256x128 .f32) (x2 : Vec Ideal S1536x5120 .fp8e4m3) (x3 : Vec Ideal S12x40 .f32)
    (x4 : Vec Ideal S256x5120 .bf16) (x5 : Vec Ideal S1x5120 .f32) (xs0 : Vec Ideal S1536x5120 .bf16)

/-- Equal operands give equal pieces. -/
theorem hP_congr {a a' : Vec Ideal S256x1536 .fp8e4m3} {sc sc' : Vec Ideal S256x128 .f32} {w w' : Vec Ideal S1536x5120 .bf16} {x x' : Vec Ideal S256x5120 .bf16}
    (ha : a = a') (hs : sc = sc') (hw : w = w') (hx : x = x') : hP (F := Ideal) a sc w x = hP a' sc' w' x' := by
  rw [ha, hs, hw, hx]

/-- The pieces of the sums of a later step. -/
theorem listB (h1) : (kernelRun0_B (F := Ideal) c i arg1 harg1 arg2 harg2 arg3 harg3 arg4 harg4 arg5 harg5 arg6 harg6 arg7 harg7 arg8 harg8 arg9 harg9 arg10 harg10 arg11 harg11 h1 x0 x1 x2 x3 x4 x5 xs0).1 = hP x0 x1 xs0 x4 := by
  rw [hB, harg1.read_unread, harg2.read_unread, harg5.read_unread, harg11.read_unread, wholeW]

/-- What the first step loads of the widened weights. -/
theorem wideA_read (h1) : arg11.view.readCov (kernelRun0_A (F := Ideal) c i arg1 harg1 arg2 harg2 arg3 harg3 arg4 harg4 arg5 harg5 arg6 harg6 arg7 harg7 arg8 harg8 arg9 harg9 arg10 harg10 arg11 harg11 h1 x0 x1 x2 x3 x4 x5).2.2.2.2.1
    (Rect.unit (s := S1536x5120) ![0, 0] S1536x5120.size inb_S1536x5120_S1536x5120_0_0).toLoadRect = wide x2 x3 := by
  rw [wideA, View.readCov_eq_canon', loop_canon]
  exact wholeW (wide x2 x3)

/-- The pieces of the sums of the first step. -/
theorem listA (h1) : (kernelRun0_A (F := Ideal) c i arg1 harg1 arg2 harg2 arg3 harg3 arg4 harg4 arg5 harg5 arg6 harg6 arg7 harg7 arg8 harg8 arg9 harg9 arg10 harg10 arg11 harg11 h1 x0 x1 x2 x3 x4 x5).1 = hP x0 x1 (wide x2 x3) x4 :=
  (hA c i arg1 harg1 arg2 harg2 arg3 harg3 arg4 harg4 arg5 harg5 arg6 harg6 arg7 harg7 arg8 harg8 arg9 harg9 arg10 harg10 arg11 harg11 x0 x1 x2 x3 x4 x5 h1).trans
    (hP_congr (harg1.read_unread _) (harg2.read_unread _) (wideA_read c i arg1 harg1 arg2 harg2 arg3 harg3 arg4 harg4 arg5 harg5 arg6 harg6 arg7 harg7 arg8 harg8 arg9 harg9 arg10 harg10 arg11 harg11 x0 x1 x2 x3 x4 x5 h1) (harg5.read_unread _))

/-- The sums a later step leaves. -/
theorem out6B (h1) : out0_B_6 (F := Ideal) c i arg1 harg1 arg2 harg2 arg3 harg3 arg4 harg4 arg5 harg5 arg6 harg6 arg7 harg7 arg8 harg8 arg9 harg9 arg10 harg10 arg11 harg11 h1 x0 x1 x2 x3 x4 x5 xs0 = sums x0 x1 xs0 x4 := by
  unfold out0_B_6
  rw [View.read_writes_junk_eq_canon, listB, canon_hP]

/-- The codes a later step leaves. -/
theorem out7B (h1) : out0_B_7 (F := Ideal) c i arg1 harg1 arg2 harg2 arg3 harg3 arg4 harg4 arg5 harg5 arg6 harg6 arg7 harg7 arg8 harg8 arg9 harg9 arg10 harg10 arg11 harg11 h1 x0 x1 x2 x3 x4 x5 xs0 = codesBlock x5 (rows x0 x1 xs0 x4) := by
  unfold out0_B_7
  rw [View.read_writes_junk_eq_canon, codesB, listB, harg6.read_unread]
  exact canon_codes x0 x1 xs0 x4 arg7 x5

/-- The scales a later step leaves. -/
theorem out8B (h1) : out0_B_8 (F := Ideal) c i arg1 harg1 arg2 harg2 arg3 harg3 arg4 harg4 arg5 harg5 arg6 harg6 arg7 harg7 arg8 harg8 arg9 harg9 arg10 harg10 arg11 harg11 h1 x0 x1 x2 x3 x4 x5 xs0 = scaleBlock x5 (rows x0 x1 xs0 x4) := by
  unfold out0_B_8
  rw [View.read_writes_junk_eq_canon, scalesB, listB, harg6.read_unread]
  exact canon_scales x0 x1 xs0 x4 arg7 x5

/-- The rounded activations a later step leaves. -/
theorem out9B (h1) : out0_B_9 (F := Ideal) c i arg1 harg1 arg2 harg2 arg3 harg3 arg4 harg4 arg5 harg5 arg6 harg6 arg7 harg7 arg8 harg8 arg9 harg9 arg10 harg10 arg11 harg11 h1 x0 x1 x2 x3 x4 x5 xs0 = actBlock x5 (rows x0 x1 xs0 x4) := by
  unfold out0_B_9
  rw [View.read_writes_junk_eq_canon, actB, listB, harg6.read_unread]
  exact canon_act x0 x1 xs0 x4 arg7 x5

/-- The sums the first step leaves. -/
theorem out6A (h1) : out0_A_6 (F := Ideal) c i arg1 harg1 arg2 harg2 arg3 harg3 arg4 harg4 arg5 harg5 arg6 harg6 arg7 harg7 arg8 harg8 arg9 harg9 arg10 harg10 arg11 harg11 h1 x0 x1 x2 x3 x4 x5 = sums x0 x1 (wide x2 x3) x4 := by
  unfold out0_A_6
  rw [View.read_writes_junk_eq_canon, listA, canon_hP]

/-- The codes the first step leaves. -/
theorem out7A (h1) : out0_A_7 (F := Ideal) c i arg1 harg1 arg2 harg2 arg3 harg3 arg4 harg4 arg5 harg5 arg6 harg6 arg7 harg7 arg8 harg8 arg9 harg9 arg10 harg10 arg11 harg11 h1 x0 x1 x2 x3 x4 x5 = codesBlock x5 (rows x0 x1 (wide x2 x3) x4) := by
  unfold out0_A_7
  rw [View.read_writes_junk_eq_canon, codesA, listA, harg6.read_unread]
  exact canon_codes x0 x1 (wide x2 x3) x4 arg7 x5

/-- The scales the first step leaves. -/
theorem out8A (h1) : out0_A_8 (F := Ideal) c i arg1 harg1 arg2 harg2 arg3 harg3 arg4 harg4 arg5 harg5 arg6 harg6 arg7 harg7 arg8 harg8 arg9 harg9 arg10 harg10 arg11 harg11 h1 x0 x1 x2 x3 x4 x5 = scaleBlock x5 (rows x0 x1 (wide x2 x3) x4) := by
  unfold out0_A_8
  rw [View.read_writes_junk_eq_canon, scalesA, listA, harg6.read_unread]
  exact canon_scales x0 x1 (wide x2 x3) x4 arg7 x5

/-- The rounded activations the first step leaves. -/
theorem out9A (h1) : out0_A_9 (F := Ideal) c i arg1 harg1 arg2 harg2 arg3 harg3 arg4 harg4 arg5 harg5 arg6 harg6 arg7 harg7 arg8 harg8 arg9 harg9 arg10 harg10 arg11 harg11 h1 x0 x1 x2 x3 x4 x5 = actBlock x5 (rows x0 x1 (wide x2 x3) x4) := by
  unfold out0_A_9
  rw [View.read_writes_junk_eq_canon, actA, listA, harg6.read_unread]
  exact canon_act x0 x1 (wide x2 x3) x4 arg7 x5

/-- The widened weights the first step leaves. -/
theorem outSA (h1) : sout0_A_0 (F := Ideal) c i arg1 harg1 arg2 harg2 arg3 harg3 arg4 harg4 arg5 harg5 arg6 harg6 arg7 harg7 arg8 harg8 arg9 harg9 arg10 harg10 arg11 harg11 h1 x0 x1 x2 x3 x4 x5 = wide x2 x3 := by
  unfold sout0_A_0
  rw [View.read_writes_junk_eq_canon, wideA, loop_canon]

end

end Cert.OutProjIdeal.Value

end
-- ==== Proof.OutProjMath.lean ====
module

public import proofs.«01_k».proof.Proof.NormMath

@[expose] public section

noncomputable section

namespace Cert.OutProjMath

/-- One entry of the product with the weights, column `n`: every weight times the scale of its
    128 x 128 block. -/
def prod (a : Fin 1536 → EReal) (w : Fin 1536 → Fin 5120 → EReal) (s : Fin 12 → Fin 40 → EReal) (n : Fin 5120) : EReal :=
  ∑ k : Fin 1536, a k * (w k n * s ⟨k.val / 128, by omega⟩ ⟨n.val / 128, by omega⟩)

/-- One row after the projection: the row `x` plus the product times the row's scale, as it stands
    in the lane of the column. -/
def row (a : Fin 1536 → EReal) (sc : Fin 128 → EReal) (w : Fin 1536 → Fin 5120 → EReal) (s : Fin 12 → Fin 40 → EReal)
    (x : Fin 5120 → EReal) (n : Fin 5120) : EReal :=
  x n + prod a w s n * sc ⟨n.val % 128, by omega⟩

end Cert.OutProjMath

end
-- ==== Proof.OutProjFinal.lean ====
module

public import proofs.«01_k».proof.Proof.OutProjValue
public import proofs.«01_k».proof.Proof.OutProjMath

@[expose] public section

set_option maxRecDepth 16384

noncomputable section

open Idealize.ShloMosaic Idealize.ShloMosaic.TcCoe Idealize.SL.Sem

namespace Cert.OutProjIdeal.Final

open Cert.OutProjIdeal Cert.OutProjIdeal.Gen Cert.OutProjIdeal.Value
open Cert.NormQuantIdeal.Value (codesBlock scaleBlock actBlock wrow)

/-- Which block each grid step reads and writes. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ)

/-- Row `r` of the sums, from the arrays as the call finds them. -/
def row (c : Dev nD) (r : Fin 2048) (n : Fin 5120) : EReal :=
  OutProjMath.row (fun k => (m ((c : Thread nD τ).loc main_arg0) : FVec Ideal S2048x1536 .fp8e4m3) (ix2 r k))
    (fun l => (m ((c : Thread nD τ).loc main_arg1) : FVec Ideal S2048x128 .f32) (ix2 r l))
    (fun k n => (m ((c : Thread nD τ).loc main_arg2) : FVec Ideal S1536x5120 .fp8e4m3) (ix2 k n))
    (fun i j => (m ((c : Thread nD τ).loc main_arg3) : FVec Ideal S12x40 .f32) (ix2 i j))
    (fun n => (m ((c : Thread nD τ).loc main_arg4) : FVec Ideal S2048x5120 .bf16) (ix2 r n)) n
/-- The weights of the norm as the call finds them. -/
def wRow (c : Dev nD) (n : Fin 5120) : EReal := (m ((c : Thread nD τ).loc main_arg5) : FVec Ideal S5120 .f32) (ix1 n)

/-- The grid has 8 steps. -/
theorem lt8t (t : Fin cfg0.N) : t.val < 8 := t.isLt

/-- Grid step `t` sees 256 rows of the argument. -/
theorem iblk0 (c : Dev nD) (t : Fin cfg0.N) (r : Fin 256) (n : Fin 1536) :
    (show FVec Ideal S256x1536 .fp8e4m3 from iblk m c 0 t) (ix2 r n)
      = (m ((c : Thread nD τ).loc main_arg0) : FVec Ideal S2048x1536 .fp8e4m3) (ix2 (⟨256 * t.val + r.val, by have := lt8t t; omega⟩ : Fin 2048) n) := by
  blk_point [iblk, V, idx t]

/-- Grid step `t` sees 256 rows of the argument. -/
theorem iblk1 (c : Dev nD) (t : Fin cfg0.N) (r : Fin 256) (n : Fin 128) :
    (show FVec Ideal S256x128 .f32 from iblk m c 1 t) (ix2 r n)
      = (m ((c : Thread nD τ).loc main_arg1) : FVec Ideal S2048x128 .f32) (ix2 (⟨256 * t.val + r.val, by have := lt8t t; omega⟩ : Fin 2048) n) := by
  blk_point [iblk, V, idx t]

/-- Grid step `t` sees 256 rows of the argument. -/
theorem iblk4 (c : Dev nD) (t : Fin cfg0.N) (r : Fin 256) (n : Fin 5120) :
    (show FVec Ideal S256x5120 .bf16 from iblk m c 4 t) (ix2 r n)
      = (m ((c : Thread nD τ).loc main_arg4) : FVec Ideal S2048x5120 .bf16) (ix2 (⟨256 * t.val + r.val, by have := lt8t t; omega⟩ : Fin 2048) n) := by
  blk_point [iblk, V, idx t]

/-- Every grid step sees the whole argument. -/
theorem iblk2 (c : Dev nD) (t : Fin cfg0.N) (r : Fin 1536) (n : Fin 5120) :
    (show FVec Ideal S1536x5120 .fp8e4m3 from iblk m c 2 t) (ix2 r n) = (m ((c : Thread nD τ).loc main_arg2) : FVec Ideal S1536x5120 .fp8e4m3) (ix2 r n) := by
  blk_point [iblk, V, idx t]

/-- Every grid step sees the whole argument. -/
theorem iblk3 (c : Dev nD) (t : Fin cfg0.N) (r : Fin 12) (n : Fin 40) :
    (show FVec Ideal S12x40 .f32 from iblk m c 3 t) (ix2 r n) = (m ((c : Thread nD τ).loc main_arg3) : FVec Ideal S12x40 .f32) (ix2 r n) := by
  blk_point [iblk, V, idx t]

/-- Every grid step sees the whole weights of the norm. -/
theorem iblk5 (c : Dev nD) (t : Fin cfg0.N) : wrow (iblk m c 5 t) = wRow m c := by
  funext n
  show (show FVec Ideal S1x5120 .f32 from iblk m c 5 t) (ix2 0 n) = (m ((c : Thread nD τ).loc main_arg5) : FVec Ideal S5120 .f32) (ix1 n)
  blk_point [iblk, V, idx t, hostOps0]

/-- The widened weights: every weight times the scale of its 128 x 128 block. -/
def wideAll (c : Dev nD) : FVec Ideal S1536x5120 .bf16 :=
  wide (m ((c : Thread nD τ).loc main_arg2) : FVec Ideal S1536x5120 .fp8e4m3) (m ((c : Thread nD τ).loc main_arg3) : FVec Ideal S12x40 .f32)

/-- The widened weights are the same whichever step widens them. -/
theorem wide_blk (c : Dev nD) (t : Fin cfg0.N) : wide (iblk m c 2 t) (iblk m c 3 t) = wideAll m c := by
  have e2 : (show FVec Ideal S1536x5120 .fp8e4m3 from iblk m c 2 t) = (m ((c : Thread nD τ).loc main_arg2) : FVec Ideal S1536x5120 .fp8e4m3) := by
    funext y
    have ey : y = ix2 (show Fin 1536 from y 0) (show Fin 5120 from y 1) := by
      funext d
      match d with
      | ⟨0, _⟩ => rfl
      | ⟨1, _⟩ => rfl
    rw [ey]
    exact iblk2 m c t _ _
  have e3 : (show FVec Ideal S12x40 .f32 from iblk m c 3 t) = (m ((c : Thread nD τ).loc main_arg3) : FVec Ideal S12x40 .f32) := by
    funext y
    have ey : y = ix2 (show Fin 12 from y 0) (show Fin 40 from y 1) := by
      funext d
      match d with
      | ⟨0, _⟩ => rfl
      | ⟨1, _⟩ => rfl
    rw [ey]
    exact iblk3 m c t _ _
  exact congrArg₂ wide e2 e3

/-- The widened weights stand in the scratch after every step. -/
theorem scratch (c : Dev nD) : ∀ n (hn : n < cfg0.N), (outsAt0 m c n hn).2.2.2.2 = wideAll m c
  | 0, hn => (outSA c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) (ms0_8 (⟨0, hn⟩ : Fin cfg0.N)) (hs0_8 (⟨0, hn⟩ : Fin cfg0.N)) (ms0_9 (⟨0, hn⟩ : Fin cfg0.N)) (hs0_9 (⟨0, hn⟩ : Fin cfg0.N)) scM0_0 (Memref.isWhole_whole _) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)) ((hcond0_0 ⟨0, hn⟩).mpr (Nat.zero_mod _))).trans (wide_blk m c ⟨0, hn⟩)
  | n + 1, hn => by
    have h0 : ¬ (⟨n + 1, hn⟩ : Fin cfg0.N).val % 8 = 0 := by
      have : n + 1 < 8 := hn
      show ¬ (n + 1) % 8 = 0
      omega
    exact (congrArg (fun p => p.2.2.2.2) (outsAt0_B m c ⟨n + 1, hn⟩ h0)).trans (scratch c n (Nat.lt_of_succ_lt hn))

/-- The rows of grid step `t`, from its blocks and the widened weights. -/
def brows (c : Dev nD) (t : Fin cfg0.N) : Fin 256 → Fin 5120 → EReal := rows (iblk m c 0 t) (iblk m c 1 t) (wideAll m c) (iblk m c 4 t)

/-- They are rows of the whole. -/
theorem brows_eq (c : Dev nD) (t : Fin cfg0.N) (r : Fin 256) :
    brows m c t r = row m c (⟨256 * t.val + r.val, by have := lt8t t; omega⟩ : Fin 2048) := by
  funext n
  unfold brows rows row OutProjMath.row OutProjMath.prod
  have e : ∀ k : Fin 1536, (show FVec Ideal S256x1536 .fp8e4m3 from iblk m c 0 t) (ix2 r k) * wideAll m c (ix2 k n) = _ :=
    fun k => congrArg₂ (· * ·) (iblk0 m c t r k) rfl
  exact congrArg₂ (· + ·) (iblk4 m c t r n) (congrArg₂ (· * ·) (Finset.sum_congr rfl fun k _ => e k) (iblk1 m c t r _))

/-- The sums a grid step leaves. -/
theorem outs6 (c : Dev nD) (t : Fin cfg0.N) : (outsAt0 m c t.val t.isLt).1 = sums (iblk m c 0 t) (iblk m c 1 t) (wideAll m c) (iblk m c 4 t) := by
  by_cases h0 : t.val % 8 = 0
  · exact (congrArg (fun p => p.1) (outsAt0_A m c t h0)).trans ((out6A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) ((hcond0_0 t).mpr h0)).trans
      (congrArg (fun W => sums (iblk m c 0 t) (iblk m c 1 t) W (iblk m c 4 t)) (wide_blk m c t)))
  · exact (congrArg (fun p => p.1) (outsAt0_B m c t h0)).trans ((out6B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (fun h => h0 ((hcond0_0 t).mp h))).trans
      (congrArg (fun W => sums (iblk m c 0 t) (iblk m c 1 t) W (iblk m c 4 t)) (scratch m c _ _)))

/-- The codes a grid step leaves. -/
theorem outs7 (c : Dev nD) (t : Fin cfg0.N) : (outsAt0 m c t.val t.isLt).2.1 = codesBlock (iblk m c 5 t) (brows m c t) := by
  by_cases h0 : t.val % 8 = 0
  · exact (congrArg (fun p => p.2.1) (outsAt0_A m c t h0)).trans ((out7A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) ((hcond0_0 t).mpr h0)).trans
      (congrArg (fun W => codesBlock (iblk m c 5 t) (rows (iblk m c 0 t) (iblk m c 1 t) W (iblk m c 4 t))) (wide_blk m c t)))
  · exact (congrArg (fun p => p.2.1) (outsAt0_B m c t h0)).trans ((out7B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (fun h => h0 ((hcond0_0 t).mp h))).trans
      (congrArg (fun W => codesBlock (iblk m c 5 t) (rows (iblk m c 0 t) (iblk m c 1 t) W (iblk m c 4 t))) (scratch m c _ _)))

/-- The scales a grid step leaves. -/
theorem outs8 (c : Dev nD) (t : Fin cfg0.N) : (outsAt0 m c t.val t.isLt).2.2.1 = scaleBlock (iblk m c 5 t) (brows m c t) := by
  by_cases h0 : t.val % 8 = 0
  · exact (congrArg (fun p => p.2.2.1) (outsAt0_A m c t h0)).trans ((out8A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) ((hcond0_0 t).mpr h0)).trans
      (congrArg (fun W => scaleBlock (iblk m c 5 t) (rows (iblk m c 0 t) (iblk m c 1 t) W (iblk m c 4 t))) (wide_blk m c t)))
  · exact (congrArg (fun p => p.2.2.1) (outsAt0_B m c t h0)).trans ((out8B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (fun h => h0 ((hcond0_0 t).mp h))).trans
      (congrArg (fun W => scaleBlock (iblk m c 5 t) (rows (iblk m c 0 t) (iblk m c 1 t) W (iblk m c 4 t))) (scratch m c _ _)))

/-- The rounded activations a grid step leaves. -/
theorem outs9 (c : Dev nD) (t : Fin cfg0.N) : (outsAt0 m c t.val t.isLt).2.2.2.1 = actBlock (iblk m c 5 t) (brows m c t) := by
  by_cases h0 : t.val % 8 = 0
  · exact (congrArg (fun p => p.2.2.2.1) (outsAt0_A m c t h0)).trans ((out9A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) ((hcond0_0 t).mpr h0)).trans
      (congrArg (fun W => actBlock (iblk m c 5 t) (rows (iblk m c 0 t) (iblk m c 1 t) W (iblk m c 4 t))) (wide_blk m c t)))
  · exact (congrArg (fun p => p.2.2.2.1) (outsAt0_B m c t h0)).trans ((out9B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 (fun h => h0 ((hcond0_0 t).mp h))).trans
      (congrArg (fun W => actBlock (iblk m c 5 t) (rows (iblk m c 0 t) (iblk m c 1 t) W (iblk m c 4 t))) (scratch m c _ _)))

/-- A group of the block of grid step `t` is the group of the whole at the same place. -/
theorem grp_congr (c : Dev nD) (t : Fin cfg0.N) (r : Fin 256) (r' : Fin 2048) (q q' : ℕ) (hq : q < 40) (hq' : q' < 40)
    (hr : r'.val = t.val * 256 + r.val) (h : q' = q) :
    NormMath.grp (brows m c t r) (wrow (iblk m c 5 t)) q hq = NormMath.grp (row m c r') (wRow m c) q' hq' := by
  have e : (⟨256 * t.val + r.val, by have := lt8t t; omega⟩ : Fin 2048) = r' := Fin.ext (by show 256 * t.val + r.val = _; omega)
  subst h
  rw [brows_eq, iblk5, e]

/-- A code of the block of grid step `t` is the code of the whole at the same place. -/
theorem code_congr (c : Dev nD) (t : Fin cfg0.N) (r : Fin 256) (r' : Fin 2048) (q q' l l' : ℕ) (hq : q < 40) (hq' : q' < 40) (hl : l < 128) (hl' : l' < 128)
    (hr : r'.val = t.val * 256 + r.val) (h : q' = q) (e : l' = l) :
    Quant.code (NormMath.grp (brows m c t r) (wrow (iblk m c 5 t)) q hq) ⟨l, hl⟩
      = Quant.code (NormMath.grp (row m c r') (wRow m c) q' hq') ⟨l', hl'⟩ := by
  subst e
  rw [grp_congr m c t r r' q q' hq hq' hr h]

/-- A scale of the block of grid step `t` is the scale of the whole at the same place. -/
theorem scale_congr (c : Dev nD) (t : Fin cfg0.N) (r : Fin 256) (r' : Fin 2048) (q q' : ℕ) (hq : q < 40) (hq' : q' < 40)
    (hr : r'.val = t.val * 256 + r.val) (h : q' = q) :
    Quant.scale (NormMath.grp (brows m c t r) (wrow (iblk m c 5 t)) q hq)
      = Quant.scale (NormMath.grp (row m c r') (wRow m c) q' hq') := by
  rw [grp_congr m c t r r' q q' hq hq' hr h]

/-- A row entry of grid step `t` is the entry of the whole at the same place. -/
theorem row_congr (c : Dev nD) (t : Fin cfg0.N) (r : Fin 256) (r' : Fin 2048) (n n' : Fin 5120) (hr : r'.val = t.val * 256 + r.val) (h : n'.val = n.val) :
    brows m c t r n = row m c r' n' := by
  have e : (⟨256 * t.val + r.val, by have := lt8t t; omega⟩ : Fin 2048) = r' := Fin.ext (by show 256 * t.val + r.val = _; omega)
  have e' : n' = n := Fin.ext h
  rw [brows_eq, e, e']

/-- The sums after the run. -/
theorem final6 (c : Dev nD) (r : Fin 2048) (n : Fin 5120) : (dats m 0 c).arrAt 6 cfg0.N (ix2 r n) = row m c r n := by
  refine congrFun ((dats m 0 c).arrAt_eq_of_covers 6 (fun y => row m c (show Fin 2048 from y 0) (show Fin 5120 from y 1))
    (by decide +kernel) fun t _ y => ?_) (ix2 r n)
  have e0 : (((cfg0.win 6).blk t).view.emb y 0).val = t.val * 256 + (y 0).val := by
    blk_simp
    simp [idx t]
  have e1 : (((cfg0.win 6).blk t).view.emb y 1).val = (y 1).val := by
    blk_simp
    simp [idx t]
  blk_simp
  rw [after0_6, outs6]
  exact row_congr m c t _ _ _ _ e0 e1

/-- The codes after the run. -/
theorem final7 (c : Dev nD) (r : Fin 2048) (n : Fin 5120) :
    (dats m 0 c).arrAt 7 cfg0.N (ix2 r n)
      = Quant.code (NormMath.grp (row m c r) (wRow m c) (n.val / 128) (by omega)) ⟨n.val % 128, by omega⟩ := by
  refine congrFun ((dats m 0 c).arrAt_eq_of_covers 7 (fun y => Quant.code (NormMath.grp (row m c
    (show Fin 2048 from y 0)) (wRow m c) ((y 1).val / 128) (by have : (y 1).val < 5120 := (y 1).isLt; omega)) ⟨(y 1).val % 128, by omega⟩)
    (by decide +kernel) fun t _ y => ?_) (ix2 r n)
  have e0 : (((cfg0.win 7).blk t).view.emb y 0).val = t.val * 256 + (y 0).val := by
    blk_simp
    simp [idx t]
  have e1 : (((cfg0.win 7).blk t).view.emb y 1).val = (y 1).val := by
    blk_simp
    simp [idx t]
  have e2 : win0_7.index t 1 * 5120 + (y 1).val = (y 1).val := by
    simp [idx t]
  blk_simp
  rw [after0_7, outs7]
  exact code_congr m c t _ _ _ _ _ _ _ _ _ _ e0 (congrArg (· / 128) e1) (congrArg (· % 128) e2)

/-- The scales after the run. -/
theorem final8 (c : Dev nD) (r : Fin 2048) (q : Fin 40) :
    (dats m 0 c).arrAt 8 cfg0.N (ix2 r q) = Quant.scale (NormMath.grp (row m c r) (wRow m c) q.val q.isLt) := by
  refine congrFun ((dats m 0 c).arrAt_eq_of_covers 8 (fun y => Quant.scale (NormMath.grp (row m c
    (show Fin 2048 from y 0)) (wRow m c) (y 1).val (y 1).isLt))
    (by decide +kernel) fun t _ y => ?_) (ix2 r q)
  have e0 : (((cfg0.win 8).blk t).view.emb y 0).val = t.val * 256 + (y 0).val := by
    blk_simp
    simp [idx t]
  have e1 : (((cfg0.win 8).blk t).view.emb y 1).val = (y 1).val := by
    blk_simp
    simp [idx t]
  blk_simp
  rw [after0_8, outs8]
  exact scale_congr m c t _ _ _ _ _ _ e0 e1

/-- The rounded activations after the run. -/
theorem final9 (c : Dev nD) (r : Fin 2048) (n : Fin 5120) :
    (dats m 0 c).arrAt 9 cfg0.N (ix2 r n)
      = Quant.code (NormMath.grp (row m c r) (wRow m c) (n.val / 128) (by omega)) ⟨n.val % 128, by omega⟩
        * Quant.scale (NormMath.grp (row m c r) (wRow m c) (n.val / 128) (by omega)) := by
  refine congrFun ((dats m 0 c).arrAt_eq_of_covers 9 (fun y => Quant.code (NormMath.grp (row m c
    (show Fin 2048 from y 0)) (wRow m c) ((y 1).val / 128) (by have : (y 1).val < 5120 := (y 1).isLt; omega)) ⟨(y 1).val % 128, by omega⟩
    * Quant.scale (NormMath.grp (row m c (show Fin 2048 from y 0)) (wRow m c) ((y 1).val / 128) (by have : (y 1).val < 5120 := (y 1).isLt; omega)))
    (by decide +kernel) fun t _ y => ?_) (ix2 r n)
  have e0 : (((cfg0.win 9).blk t).view.emb y 0).val = t.val * 256 + (y 0).val := by
    blk_simp
    simp [idx t]
  have e1 : (((cfg0.win 9).blk t).view.emb y 1).val = (y 1).val := by
    blk_simp
    simp [idx t]
  have e2 : win0_9.index t 1 * 5120 + (y 1).val = (y 1).val := by
    simp [idx t]
  blk_simp
  rw [after0_9, outs9]
  exact congrArg₂ (· * ·) (code_congr m c t _ _ _ _ _ _ _ _ _ _ e0 (congrArg (· / 128) e1) (congrArg (· % 128) e2)) (scale_congr m c t _ _ _ _ _ _ e0 (congrArg (· / 128) e1))

end Cert.OutProjIdeal.Final

end
-- ==== Proof.OutProjRefValue.lean ====
module

public import proofs.«01_k».proof.Proof.Gen.OutProjRefIdeal.Value
public import proofs.«01_k».proof.Proof.NormQuantRefValue
public import proofs.«01_k».proof.Proof.OutProjMath

@[expose] public section

set_option maxRecDepth 16384

noncomputable section

open Idealize.ShloMosaic Idealize.ShloMosaic.TcCoe Idealize.SL.Sem

namespace Cert.OutProjRefIdeal.Value

open Cert.OutProjRefIdeal Cert.OutProjRefIdeal.Gen
open Cert.NormQuantRefIdeal.Value (amax expo scaled codes acts codes_of acts_of scales_of)

section
variable (a : FVec Ideal S2048x1536 .fp8e4m3) (sc : FVec Ideal S2048x128 .f32) (w : FVec Ideal S1536x5120 .fp8e4m3) (s : FVec Ideal S12x40 .f32)
    (x : FVec Ideal S2048x5120 .bf16) (nw : FVec Ideal S1x5120 .f32)

/-- A row the reference adds up. -/
def hRow (r : Fin 2048) (n : Fin 5120) : EReal :=
  OutProjMath.row (fun k => a (ix2 r k)) (fun l => sc (ix2 r l)) (fun k n => w (ix2 k n)) (fun i j => s (ix2 i j)) (fun n => x (ix2 r n)) n

/-- The reference's sums, entry by entry. -/
theorem pay5_apply (r : Fin 2048) (n : Fin 5120) : k0_pay5 (F := Ideal) a w s x sc (ix2 r n) = hRow a sc w s x r n := by
  unfold hRow OutProjMath.row OutProjMath.prod
  pointwise [k0_pay5]

/-- A group of the normed rows of the reference. -/
theorem pay6_apply (r : Fin 2048) (q : Fin 40) (l : Fin 128) :
    k0_pay6 (F := Ideal) a w s x sc nw (ix3 r q l) = NormMath.grp (hRow a sc w s x r) (fun n => nw (ix2 0 n)) q.val q.isLt l := by
  have e : q.val * 128 + l.val = 128 * q.val + l.val := by omega
  have h : ∀ n, k0_pay5 (F := Ideal) a w s x sc (ix2 r n) = hRow a sc w s x r n := pay5_apply a sc w s x r
  unfold NormMath.grp NormMath.norm NormMath.rms
  pointwise [k0_pay6]
  simp only [e, h]

/-- The reference's scales, in the terms of the quantiser. -/
theorem scales_eq : k0_pay2 (F := Ideal) (k0_pay7 a w s x sc nw) k0_pay8 = exp2 (expo (amax (k0_pay6 a w s x sc nw))) := rfl

/-- The reference's codes, in the terms of the quantiser. -/
theorem codes_eq : k0_pay3 (F := Ideal) (k0_pay6 a w s x sc nw) (k0_pay7 a w s x sc nw) k0_pay8
    = codes (scaled (k0_pay6 a w s x sc nw) (expo (amax (k0_pay6 a w s x sc nw)))) := rfl

/-- The reference's rounded activations, in the terms of the quantiser. -/
theorem acts_eq : k0_pay4 (F := Ideal) (k0_pay6 a w s x sc nw) (k0_pay7 a w s x sc nw) k0_pay8
    = acts (exp2 (expo (amax (k0_pay6 a w s x sc nw)))) (scaled (k0_pay6 a w s x sc nw) (expo (amax (k0_pay6 a w s x sc nw)))) := rfl

/-- A load of the whole array is the array. -/
theorem whole0 (a : Vec Ideal S2048x1536 .fp8e4m3) : View.ld a r0_0 = a :=
  View.ld_unit_zero (by funext d; match d with | ⟨0, _⟩ => rfl | ⟨1, _⟩ => rfl) _ _
/-- A load of the whole array is the array. -/
theorem whole1 (w : Vec Ideal S1536x5120 .fp8e4m3) : View.ld w r0_1 = w :=
  View.ld_unit_zero (by funext d; match d with | ⟨0, _⟩ => rfl | ⟨1, _⟩ => rfl) _ _
/-- A load of the whole array is the array. -/
theorem whole2 (s : Vec Ideal S12x40 .f32) : View.ld s r0_2 = s :=
  View.ld_unit_zero (by funext d; match d with | ⟨0, _⟩ => rfl | ⟨1, _⟩ => rfl) _ _
/-- A load of the whole array is the array. -/
theorem whole3 (x : Vec Ideal S2048x5120 .bf16) : View.ld x r0_3 = x :=
  View.ld_unit_zero (by funext d; match d with | ⟨0, _⟩ => rfl | ⟨1, _⟩ => rfl) _ _
/-- A load of the whole array is the array. -/
theorem whole4 (sc : Vec Ideal S2048x128 .f32) : View.ld sc r0_4 = sc :=
  View.ld_unit_zero (by funext d; match d with | ⟨0, _⟩ => rfl | ⟨1, _⟩ => rfl) _ _
/-- A load of the whole array is the array. -/
theorem whole5 (nw : Vec Ideal S1x5120 .f32) : View.ld nw r0_5 = nw :=
  View.ld_unit_zero (by funext d; match d with | ⟨0, _⟩ => rfl | ⟨1, _⟩ => rfl) _ _

/-- What the reference leaves in its sums. -/
theorem out6_eq : out0_6 (F := Ideal) a sc w s x nw = k0_pay5 (F := Ideal) a w s x sc := by
  unfold out0_6
  rw [whole0, whole1, whole2, whole3, whole4]
  exact View.canon_unit_zero (by funext d; match d with | ⟨0, _⟩ => rfl | ⟨1, _⟩ => rfl) _ _

/-- The same with the loads of the whole arrays. -/
theorem pay9_eq : k0_pay9 (F := Ideal) a sc w s x nw = k0_pay6 (F := Ideal) a w s x sc nw := by
  unfold k0_pay9
  rw [whole0, whole1, whole2, whole3, whole4, whole5]

/-- The same with the loads of the whole arrays. -/
theorem pay10_eq : k0_pay10 (F := Ideal) a sc w s x nw = k0_pay7 (F := Ideal) a w s x sc nw := by
  unfold k0_pay10
  rw [whole0, whole1, whole2, whole3, whole4, whole5]

/-- What the reference leaves in its codes. -/
theorem out7_eq : out0_7 (F := Ideal) a sc w s x nw = codes (scaled (k0_pay6 (F := Ideal) a w s x sc nw) (expo (amax (k0_pay6 (F := Ideal) a w s x sc nw)))) := by
  rw [← codes_eq, ← pay9_eq, ← pay10_eq]
  exact View.canon_unit_zero (by funext d; match d with | ⟨0, _⟩ => rfl | ⟨1, _⟩ => rfl) _ _

/-- What the reference leaves in its scales. -/
theorem out8_eq : out0_8 (F := Ideal) a sc w s x nw = exp2 (expo (amax (k0_pay6 (F := Ideal) a w s x sc nw))) := by
  rw [← scales_eq, ← pay10_eq]
  exact View.canon_unit_zero (by funext d; match d with | ⟨0, _⟩ => rfl | ⟨1, _⟩ => rfl) _ _

/-- What the reference leaves in its rounded activations. -/
theorem out9_eq : out0_9 (F := Ideal) a sc w s x nw
    = acts (exp2 (expo (amax (k0_pay6 (F := Ideal) a w s x sc nw)))) (scaled (k0_pay6 (F := Ideal) a w s x sc nw) (expo (amax (k0_pay6 (F := Ideal) a w s x sc nw)))) := by
  rw [← acts_eq, ← pay9_eq, ← pay10_eq]
  exact View.canon_unit_zero (by funext d; match d with | ⟨0, _⟩ => rfl | ⟨1, _⟩ => rfl) _ _

end

/-- The one grid step reads and writes whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ)

/-- Row `r` of the sums, from the arrays as the reference finds them. -/
def row (c : Dev nD) (r : Fin 2048) (n : Fin 5120) : EReal :=
  OutProjMath.row (fun k => (m ((c : Thread nD τ).loc main_arg0) : FVec Ideal S2048x1536 .fp8e4m3) (ix2 r k))
    (fun l => (m ((c : Thread nD τ).loc main_arg1) : FVec Ideal S2048x128 .f32) (ix2 r l))
    (fun k n => (m ((c : Thread nD τ).loc main_arg2) : FVec Ideal S1536x5120 .fp8e4m3) (ix2 k n))
    (fun i j => (m ((c : Thread nD τ).loc main_arg3) : FVec Ideal S12x40 .f32) (ix2 i j))
    (fun n => (m ((c : Thread nD τ).loc main_arg4) : FVec Ideal S2048x5120 .bf16) (ix2 r n)) n
/-- The weights of the norm as the reference finds them. -/
def wRow (c : Dev nD) (n : Fin 5120) : EReal := (m ((c : Thread nD τ).loc main_arg5) : FVec Ideal S5120 .f32) (ix1 n)

/-- The step sees the whole argument. -/
theorem iblk0 (c : Dev nD) (t : Fin cfg0.N) (r : Fin 2048) (n : Fin 1536) :
    (show FVec Ideal S2048x1536 .fp8e4m3 from iblk m c 0 t) (ix2 r n) = (m ((c : Thread nD τ).loc main_arg0) : FVec Ideal S2048x1536 .fp8e4m3) (ix2 r n) := by
  blk_point [iblk, V, idx t]

/-- The step sees the whole argument. -/
theorem iblk1 (c : Dev nD) (t : Fin cfg0.N) (r : Fin 2048) (n : Fin 128) :
    (show FVec Ideal S2048x128 .f32 from iblk m c 1 t) (ix2 r n) = (m ((c : Thread nD τ).loc main_arg1) : FVec Ideal S2048x128 .f32) (ix2 r n) := by
  blk_point [iblk, V, idx t]

/-- The step sees the whole argument. -/
theorem iblk2 (c : Dev nD) (t : Fin cfg0.N) (r : Fin 1536) (n : Fin 5120) :
    (show FVec Ideal S1536x5120 .fp8e4m3 from iblk m c 2 t) (ix2 r n) = (m ((c : Thread nD τ).loc main_arg2) : FVec Ideal S1536x5120 .fp8e4m3) (ix2 r n) := by
  blk_point [iblk, V, idx t]

/-- The step sees the whole argument. -/
theorem iblk3 (c : Dev nD) (t : Fin cfg0.N) (r : Fin 12) (n : Fin 40) :
    (show FVec Ideal S12x40 .f32 from iblk m c 3 t) (ix2 r n) = (m ((c : Thread nD τ).loc main_arg3) : FVec Ideal S12x40 .f32) (ix2 r n) := by
  blk_point [iblk, V, idx t]

/-- The step sees the whole argument. -/
theorem iblk4 (c : Dev nD) (t : Fin cfg0.N) (r : Fin 2048) (n : Fin 5120) :
    (show FVec Ideal S2048x5120 .bf16 from iblk m c 4 t) (ix2 r n) = (m ((c : Thread nD τ).loc main_arg4) : FVec Ideal S2048x5120 .bf16) (ix2 r n) := by
  blk_point [iblk, V, idx t]

/-- The step sees the whole weights of the norm. -/
theorem iblk5 (c : Dev nD) (t : Fin cfg0.N) (n : Fin 5120) :
    (show FVec Ideal S1x5120 .f32 from iblk m c 5 t) (ix2 0 n) = wRow m c n := by
  unfold wRow
  blk_point [iblk, V, idx t, hostOps0]

/-- The rows the reference adds up, from the arrays it was given. -/
theorem hRow_eq (c : Dev nD) (t : Fin cfg0.N) (r : Fin 2048) :
    hRow (iblk m c 0 t) (iblk m c 1 t) (iblk m c 2 t) (iblk m c 3 t) (iblk m c 4 t) r = row m c r := by
  funext n
  unfold hRow row
  have e0 : (fun k => (show FVec Ideal S2048x1536 .fp8e4m3 from iblk m c 0 t) (ix2 r k)) = _ := funext (iblk0 m c t r)
  have e1 : (fun l => (show FVec Ideal S2048x128 .f32 from iblk m c 1 t) (ix2 r l)) = _ := funext (iblk1 m c t r)
  have e2 : (fun k n => (show FVec Ideal S1536x5120 .fp8e4m3 from iblk m c 2 t) (ix2 k n)) = _ := funext fun k => funext (iblk2 m c t k)
  have e3 : (fun i j => (show FVec Ideal S12x40 .f32 from iblk m c 3 t) (ix2 i j)) = _ := funext fun i => funext (iblk3 m c t i)
  have e4 : (fun n => (show FVec Ideal S2048x5120 .bf16 from iblk m c 4 t) (ix2 r n)) = _ := funext (iblk4 m c t r)
  exact congr (congr (congr (congr (congr (congrArg OutProjMath.row e0) e1) e2) e3) e4) rfl

/-- The groups the reference norms, from the arrays it was given. -/
theorem grp_apply (c : Dev nD) (t : Fin cfg0.N) (r : Fin 2048) (q : Fin 40) (l : Fin 128) :
    k0_pay6 (F := Ideal) (iblk m c 0 t) (iblk m c 2 t) (iblk m c 3 t) (iblk m c 4 t) (iblk m c 1 t) (iblk m c 5 t) (ix3 r q l)
      = NormMath.grp (row m c r) (wRow m c) q.val q.isLt l := by
  rw [pay6_apply, hRow_eq, funext (iblk5 m c t)]

/-- The sums after the reference's run. -/
theorem final6 (c : Dev nD) (r : Fin 2048) (n : Fin 5120) : (dats m 0 c).arrAt 6 cfg0.N (ix2 r n) = row m c r n := by
  refine congrFun ((dats m 0 c).arrAt_eq_of_covers 6 (fun y => row m c (show Fin 2048 from y 0) (show Fin 5120 from y 1))
    (by decide +kernel) fun t _ y => ?_) (ix2 r n)
  have e : ((cfg0.win 6).blk t).view.emb y = y := by
    funext d
    apply Fin.ext
    match d with
    | ⟨0, _⟩ => blk_simp; simp [idx t]
    | ⟨1, _⟩ => blk_simp; simp [idx t]
  have ey : y = ix2 (show Fin 2048 from y 0) (show Fin 5120 from y 1) := by
    funext d
    match d with
    | ⟨0, _⟩ => rfl
    | ⟨1, _⟩ => rfl
  rw [e]
  blk_simp
  rw [after0_6, out6_eq]
  exact (congrArg _ ey).trans ((pay5_apply _ _ _ _ _ _ _).trans (congrFun (hRow_eq m c t _) _))

/-- The codes after the reference's run. -/
theorem final7 (c : Dev nD) (r : Fin 2048) (n : Fin 5120) :
    (dats m 0 c).arrAt 7 cfg0.N (ix2 r n)
      = Quant.code (NormMath.grp (row m c r) (wRow m c) (n.val / 128) (by omega)) ⟨n.val % 128, by omega⟩ := by
  refine congrFun ((dats m 0 c).arrAt_eq_of_covers 7 (fun y => Quant.code (NormMath.grp (row m c
    (show Fin 2048 from y 0)) (wRow m c) ((y 1).val / 128) (by have : (y 1).val < 5120 := (y 1).isLt; omega)) ⟨(y 1).val % 128, by omega⟩)
    (by decide +kernel) fun t _ y => ?_) (ix2 r n)
  have e : ((cfg0.win 7).blk t).view.emb y = y := by
    funext d
    apply Fin.ext
    match d with
    | ⟨0, _⟩ => blk_simp; simp [idx t]
    | ⟨1, _⟩ => blk_simp; simp [idx t]
  have ey : y = ix2 (show Fin 2048 from y 0) (show Fin 5120 from y 1) := by
    funext d
    match d with
    | ⟨0, _⟩ => rfl
    | ⟨1, _⟩ => rfl
  rw [e]
  blk_simp
  rw [after0_7, out7_eq]
  exact (congrArg _ ey).trans (codes_of _ _ (grp_apply m c t) _ _)

/-- The scales after the reference's run. -/
theorem final8 (c : Dev nD) (r : Fin 2048) (q : Fin 40) :
    (dats m 0 c).arrAt 8 cfg0.N (ix2 r q) = Quant.scale (NormMath.grp (row m c r) (wRow m c) q.val q.isLt) := by
  refine congrFun ((dats m 0 c).arrAt_eq_of_covers 8 (fun y => Quant.scale (NormMath.grp (row m c
    (show Fin 2048 from y 0)) (wRow m c) (y 1).val (y 1).isLt))
    (by decide +kernel) fun t _ y => ?_) (ix2 r q)
  have e : ((cfg0.win 8).blk t).view.emb y = y := by
    funext d
    apply Fin.ext
    match d with
    | ⟨0, _⟩ => blk_simp; simp [idx t]
    | ⟨1, _⟩ => blk_simp; simp [idx t]
  have ey : y = ix2 (show Fin 2048 from y 0) (show Fin 40 from y 1) := by
    funext d
    match d with
    | ⟨0, _⟩ => rfl
    | ⟨1, _⟩ => rfl
  rw [e]
  blk_simp
  rw [after0_8, out8_eq]
  exact (congrArg _ ey).trans (scales_of _ _ (grp_apply m c t) _ _)

/-- The rounded activations after the reference's run. -/
theorem final9 (c : Dev nD) (r : Fin 2048) (n : Fin 5120) :
    (dats m 0 c).arrAt 9 cfg0.N (ix2 r n)
      = Quant.code (NormMath.grp (row m c r) (wRow m c) (n.val / 128) (by omega)) ⟨n.val % 128, by omega⟩
        * Quant.scale (NormMath.grp (row m c r) (wRow m c) (n.val / 128) (by omega)) := by
  refine congrFun ((dats m 0 c).arrAt_eq_of_covers 9 (fun y => Quant.code (NormMath.grp (row m c
    (show Fin 2048 from y 0)) (wRow m c) ((y 1).val / 128) (by have : (y 1).val < 5120 := (y 1).isLt; omega)) ⟨(y 1).val % 128, by omega⟩
    * Quant.scale (NormMath.grp (row m c (show Fin 2048 from y 0)) (wRow m c) ((y 1).val / 128) (by have : (y 1).val < 5120 := (y 1).isLt; omega)))
    (by decide +kernel) fun t _ y => ?_) (ix2 r n)
  have e : ((cfg0.win 9).blk t).view.emb y = y := by
    funext d
    apply Fin.ext
    match d with
    | ⟨0, _⟩ => blk_simp; simp [idx t]
    | ⟨1, _⟩ => blk_simp; simp [idx t]
  have ey : y = ix2 (show Fin 2048 from y 0) (show Fin 5120 from y 1) := by
    funext d
    match d with
    | ⟨0, _⟩ => rfl
    | ⟨1, _⟩ => rfl
  rw [e]
  blk_simp
  rw [after0_9, out9_eq]
  exact (congrArg _ ey).trans (acts_of _ _ (grp_apply m c t) _ _)

end Cert.OutProjRefIdeal.Value

end
-- ==== Proof.OutProjAlg.lean ====
module

public import proofs.«01_k».proof.Proof.OutProjFinal
public import proofs.«01_k».proof.Proof.OutProjRefValue

@[expose] public section

set_option maxRecDepth 16384

noncomputable section

open Idealize.ShloMosaic Idealize.ShloMosaic.TcCoe Idealize.SL.Sem

namespace Cert.OutProjProof

variable (m : (ℓ : Loc Cert.OutProjIdeal.nD Cert.OutProjIdeal.τ Cert.OutProjIdeal.sig) → Buf (Elt Ideal) ℓ)
    (m' : (ℓ : Loc Cert.OutProjRefIdeal.nD Cert.OutProjRefIdeal.τ Cert.OutProjRefIdeal.sig) → Buf (Elt Ideal) ℓ)
    (c : Dev Cert.OutProjIdeal.nD)
    (h0 : m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0))
    (h1 : m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1))
    (h2 : m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2))
    (h3 : m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3))
    (h4 : m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4))
    (h5 : m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5))

include h0 h1 h2 h3 h4 in
/-- The rows of sums are the same. -/
theorem row_eq (r : Fin 2048) : Cert.OutProjRefIdeal.Value.row m' c r = Cert.OutProjIdeal.Final.row m c r := by
  funext n
  unfold Cert.OutProjRefIdeal.Value.row
  rw [h0, h1, h2, h3, h4]
  rfl

include h5 in
/-- The weights of the norm are the same. -/
theorem wRow_eq : Cert.OutProjRefIdeal.Value.wRow m' c = Cert.OutProjIdeal.Final.wRow m c := by
  unfold Cert.OutProjRefIdeal.Value.wRow
  rw [h5]
  rfl

include h0 h1 h2 h3 h4 in
/-- From memories that agree on the arguments, the reference's sums are the kernel's. -/
theorem sums_eq : (Cert.OutProjRefIdeal.Gen.dats m' 0 c).arrAt 6 Cert.OutProjRefIdeal.cfg0.N
      = (Cert.OutProjIdeal.Gen.dats m 0 c).arrAt 6 Cert.OutProjIdeal.cfg0.N := by
  funext y
  have e : y = ix2 (show Fin 2048 from y 0) (show Fin 5120 from y 1) := by
    funext d
    match d with
    | ⟨0, _⟩ => rfl
    | ⟨1, _⟩ => rfl
  rw [e]
  have h := Cert.OutProjRefIdeal.Value.final6 m' c (show Fin 2048 from y 0) (show Fin 5120 from y 1)
  rw [row_eq m m' c h0 h1 h2 h3 h4] at h
  exact h.trans (Cert.OutProjIdeal.Final.final6 m c _ _).symm

include h0 h1 h2 h3 h4 h5 in
/-- From memories that agree on the arguments, the reference's codes are the kernel's. -/
theorem codes_eq : (Cert.OutProjRefIdeal.Gen.dats m' 0 c).arrAt 7 Cert.OutProjRefIdeal.cfg0.N
      = (Cert.OutProjIdeal.Gen.dats m 0 c).arrAt 7 Cert.OutProjIdeal.cfg0.N := by
  funext y
  have e : y = ix2 (show Fin 2048 from y 0) (show Fin 5120 from y 1) := by
    funext d
    match d with
    | ⟨0, _⟩ => rfl
    | ⟨1, _⟩ => rfl
  rw [e]
  have h := Cert.OutProjRefIdeal.Value.final7 m' c (show Fin 2048 from y 0) (show Fin 5120 from y 1)
  rw [row_eq m m' c h0 h1 h2 h3 h4, wRow_eq m m' c h5] at h
  exact h.trans (Cert.OutProjIdeal.Final.final7 m c _ _).symm

include h0 h1 h2 h3 h4 h5 in
/-- From memories that agree on the arguments, the reference's scales are the kernel's. -/
theorem scales_eq : (Cert.OutProjRefIdeal.Gen.dats m' 0 c).arrAt 8 Cert.OutProjRefIdeal.cfg0.N
      = (Cert.OutProjIdeal.Gen.dats m 0 c).arrAt 8 Cert.OutProjIdeal.cfg0.N := by
  funext y
  have e : y = ix2 (show Fin 2048 from y 0) (show Fin 40 from y 1) := by
    funext d
    match d with
    | ⟨0, _⟩ => rfl
    | ⟨1, _⟩ => rfl
  rw [e]
  have h := Cert.OutProjRefIdeal.Value.final8 m' c (show Fin 2048 from y 0) (show Fin 40 from y 1)
  rw [row_eq m m' c h0 h1 h2 h3 h4, wRow_eq m m' c h5] at h
  exact h.trans (Cert.OutProjIdeal.Final.final8 m c _ _).symm

include h0 h1 h2 h3 h4 h5 in
/-- From memories that agree on the arguments, the reference's rounded activations are the kernel's. -/
theorem act_eq : (Cert.OutProjRefIdeal.Gen.dats m' 0 c).arrAt 9 Cert.OutProjRefIdeal.cfg0.N
      = (Cert.OutProjIdeal.Gen.dats m 0 c).arrAt 9 Cert.OutProjIdeal.cfg0.N := by
  funext y
  have e : y = ix2 (show Fin 2048 from y 0) (show Fin 5120 from y 1) := by
    funext d
    match d with
    | ⟨0, _⟩ => rfl
    | ⟨1, _⟩ => rfl
  rw [e]
  have h := Cert.OutProjRefIdeal.Value.final9 m' c (show Fin 2048 from y 0) (show Fin 5120 from y 1)
  rw [row_eq m m' c h0 h1 h2 h3 h4, wRow_eq m m' c h5] at h
  exact h.trans (Cert.OutProjIdeal.Final.final9 m c _ _).symm

end Cert.OutProjProof

end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.DownIdeal.Value
public import proofs.«01_k».proof.Proof.Gen.DownRefIdeal.Value
public import proofs.«01_k».proof.Proof.Gen.GateUpIdeal.Value
public import proofs.«01_k».proof.Proof.Gen.GateUpRefIdeal.Value
public import proofs.«01_k».proof.Proof.Gen.NormQuant
public import proofs.«01_k».proof.Proof.Gen.NormQuant.Skeleton
public import proofs.«01_k».proof.Proof.Gen.NormQuant.Launch
public import proofs.«01_k».proof.Proof.Gen.NormQuant.Points
public import proofs.«01_k».proof.Proof.Gen.NormQuant.Frame
public import proofs.«01_k».proof.Proof.Gen.NormQuantIdeal
public import proofs.«01_k».proof.Proof.Gen.NormQuantIdeal.Skeleton
public import proofs.«01_k».proof.Proof.Gen.NormQuantIdeal.Launch
public import proofs.«01_k».proof.Proof.Gen.NormQuantIdeal.Points
public import proofs.«01_k».proof.Proof.Gen.NormQuantIdeal.Frame
public import proofs.«01_k».proof.Proof.Gen.NormQuantRefIdeal
public import proofs.«01_k».proof.Proof.Gen.NormQuantRefIdeal.Skeleton
public import proofs.«01_k».proof.Proof.Gen.NormQuantRefIdeal.Launch
public import proofs.«01_k».proof.Proof.Gen.NormQuantRefIdeal.Points
public import proofs.«01_k».proof.Proof.Gen.NormQuantRefIdeal.Frame
public import proofs.«01_k».proof.Proof.Gen.OutProj
public import proofs.«01_k».proof.Proof.Gen.OutProj.Skeleton
public import proofs.«01_k».proof.Proof.Gen.OutProj.Loops
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Loops
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Skeleton
public import proofs.«01_k».proof.Proof.Gen.OutProjRefIdeal.Launch
public import proofs.«01_k».proof.Proof.Gen.OutProjRefIdeal.Points
public import proofs.«01_k».proof.Proof.Gen.OutProjRefIdeal.Frame
public import proofs.«01_k».proof.Proof.Gen.NormQuantIdeal.Value
public import proofs.«01_k».proof.Proof.Gen.NormQuantRefIdeal.Value
public import proofs.«01_k».proof.Proof.Gen.OutProjIdeal.Value
public import proofs.«01_k».proof.Proof.Gen.OutProjRefIdeal.Value
public import proofs.«01_k».proof.Proof.DownAlg
public import proofs.«01_k».proof.Proof.GateUpAlg
public import proofs.«01_k».proof.Proof.NormQuantAlg
public import proofs.«01_k».proof.Proof.OutProjAlg
public import Idealize.ShloMosaic.Adequacy
public import Idealize.ShloMosaic.Init

@[expose] public section

noncomputable section

namespace Cert.Proof

open Idealize.ShloMosaic Idealize.SL.Sem Cert.Down

/-- The down call computes its reference's result. -/
theorem down_algebraic : Cert.algebraic_DownIdeal_DownRefIdeal (hDownIdeal := Cert.DownIdeal.Gen.facts) (hDownRefIdeal := Cert.DownRefIdeal.Gen.facts) :=
  fun m g m' g' _ hag =>
    ⟨fun c => (Cert.DownIdeal.Gen.dats m 0 c).arrAt 4 Cert.DownIdeal.cfg0.N, Cert.DownIdeal.Value.run_blocks m g,
      (θ_run _ _ _).mono (fun _ h c => ⟨(h c).1.trans
        (Cert.DownProof.result_eq m m' c (hag c).1 (hag c).2.1 (hag c).2.2.1 (hag c).2.2.2), (h c).2⟩) (Cert.DownRefIdeal.Value.run m' g')⟩

/-- The gate_up call computes its reference's results. -/
theorem gateup_algebraic : Cert.algebraic_GateUpIdeal_GateUpRefIdeal (hGateUpIdeal := Cert.GateUpIdeal.Gen.facts) (hGateUpRefIdeal := Cert.GateUpRefIdeal.Gen.facts) :=
  fun m g m' g' _ hag =>
    ⟨fun c => (Cert.GateUpIdeal.Gen.dats m 0 c).arrAt 4 Cert.GateUpIdeal.cfg0.N, fun c => (Cert.GateUpIdeal.Gen.dats m 0 c).arrAt 5 Cert.GateUpIdeal.cfg0.N,
      fun c => (Cert.GateUpIdeal.Gen.dats m 0 c).arrAt 6 Cert.GateUpIdeal.cfg0.N, Cert.GateUpIdeal.Value.run_blocks m g,
      (θ_run _ _ _).mono (fun _ h c => ⟨(h c).1.trans (Cert.GateUpProof.codes_eq m m' c (hag c).1 (hag c).2.1 (hag c).2.2),
        (h c).2.1.trans (Cert.GateUpProof.scales_eq m m' c (hag c).1 (hag c).2.1 (hag c).2.2),
        (h c).2.2.1.trans (Cert.GateUpProof.act_eq m m' c (hag c).1 (hag c).2.1 (hag c).2.2), (h c).2.2.2⟩) (Cert.GateUpRefIdeal.Value.run m' g')⟩

/-- The norm_quant call computes its reference's results. -/
theorem normquant_algebraic : Cert.algebraic_NormQuantIdeal_NormQuantRefIdeal (hNormQuantIdeal := Cert.NormQuantIdeal.Gen.facts) (hNormQuantRefIdeal := Cert.NormQuantRefIdeal.Gen.facts) :=
  fun m g m' g' _ hag =>
    ⟨fun c => (Cert.NormQuantIdeal.Gen.dats m 0 c).arrAt 2 Cert.NormQuantIdeal.cfg0.N, fun c => (Cert.NormQuantIdeal.Gen.dats m 0 c).arrAt 3 Cert.NormQuantIdeal.cfg0.N,
      fun c => (Cert.NormQuantIdeal.Gen.dats m 0 c).arrAt 4 Cert.NormQuantIdeal.cfg0.N, Cert.NormQuantIdeal.Value.run_blocks m g,
      (θ_run _ _ _).mono (fun _ h c => ⟨(h c).1.trans (Cert.NormQuantProof.codes_eq m m' c (hag c).1 (hag c).2),
        (h c).2.1.trans (Cert.NormQuantProof.scales_eq m m' c (hag c).1 (hag c).2),
        (h c).2.2.1.trans (Cert.NormQuantProof.act_eq m m' c (hag c).1 (hag c).2), (h c).2.2.2⟩) (Cert.NormQuantRefIdeal.Value.run_blocks m' g')⟩

/-- The out_proj call computes its reference's results. -/
theorem outproj_algebraic : Cert.algebraic_OutProjIdeal_OutProjRefIdeal (hOutProjIdeal := Cert.OutProjIdeal.Gen.facts) (hOutProjRefIdeal := Cert.OutProjRefIdeal.Gen.facts) :=
  fun m g m' g' _ hag =>
    ⟨fun c => (Cert.OutProjIdeal.Gen.dats m 0 c).arrAt 6 Cert.OutProjIdeal.cfg0.N, fun c => (Cert.OutProjIdeal.Gen.dats m 0 c).arrAt 7 Cert.OutProjIdeal.cfg0.N,
      fun c => (Cert.OutProjIdeal.Gen.dats m 0 c).arrAt 8 Cert.OutProjIdeal.cfg0.N, fun c => (Cert.OutProjIdeal.Gen.dats m 0 c).arrAt 9 Cert.OutProjIdeal.cfg0.N, Cert.OutProjIdeal.Value.run_blocks m g,
      (θ_run _ _ _).mono (fun _ h c => ⟨(h c).1.trans (Cert.OutProjProof.sums_eq m m' c (hag c).1 (hag c).2.1 (hag c).2.2.1 (hag c).2.2.2.1 (hag c).2.2.2.2.1),
        (h c).2.1.trans (Cert.OutProjProof.codes_eq m m' c (hag c).1 (hag c).2.1 (hag c).2.2.1 (hag c).2.2.2.1 (hag c).2.2.2.2.1 (hag c).2.2.2.2.2),
        (h c).2.2.1.trans (Cert.OutProjProof.scales_eq m m' c (hag c).1 (hag c).2.1 (hag c).2.2.1 (hag c).2.2.2.1 (hag c).2.2.2.2.1 (hag c).2.2.2.2.2),
        (h c).2.2.2.1.trans (Cert.OutProjProof.act_eq m m' c (hag c).1 (hag c).2.1 (hag c).2.2.1 (hag c).2.2.2.1 (hag c).2.2.2.2.1 (hag c).2.2.2.2.2), (h c).2.2.2.2⟩) (Cert.OutProjRefIdeal.Value.run_blocks m' g')⟩

/-- The certificate's claim: the frames, the idealizations and the value claims. -/
theorem claim : Cert.Claim := ⟨Cert.Down.Gen.facts, Cert.DownIdeal.Gen.facts, Cert.DownRefIdeal.Gen.facts, Cert.GateUp.Gen.facts, Cert.GateUpIdeal.Gen.facts, Cert.GateUpRefIdeal.Gen.facts,
  Cert.NormQuant.Gen.facts, Cert.NormQuantIdeal.Gen.facts, Cert.NormQuantRefIdeal.Gen.facts, Cert.OutProj.Gen.facts, Cert.OutProjIdeal.Gen.facts, Cert.OutProjRefIdeal.Gen.facts,
  fun m ρ _ => Cert.Down.Gen.frame m ρ, fun m ρ _ => Cert.DownIdeal.Gen.frame m ρ, fun m ρ _ => Cert.DownRefIdeal.Gen.frame m ρ,
  fun m ρ _ => Cert.GateUp.Gen.frame m ρ, fun m ρ _ => Cert.GateUpIdeal.Gen.frame m ρ, fun m ρ _ => Cert.GateUpRefIdeal.Gen.frame m ρ,
  fun m ρ _ => Cert.NormQuant.Gen.frame m ρ, fun m ρ _ => Cert.NormQuantIdeal.Gen.frame m ρ, fun m ρ _ => Cert.NormQuantRefIdeal.Gen.frame m ρ,
  fun m ρ _ => Cert.OutProj.Gen.frame m ρ, fun m ρ _ => Cert.OutProjIdeal.Gen.frame m ρ, fun m ρ _ => Cert.OutProjRefIdeal.Gen.frame m ρ,
  trivial, down_algebraic, trivial, gateup_algebraic, trivial, normquant_algebraic, trivial, outproj_algebraic⟩

end Cert.Proof

end
